-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S1x2048x768 : Shape := ⟨3, ![1, 2048, 768]⟩
abbrev S768x8 : Shape := ⟨2, ![768, 8]⟩
abbrev S8 : Shape := ⟨1, ![8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S_ : Shape := ⟨0, ![]⟩

class Facts : Prop where
  bcast_S_S1x2048x768 : S_.BroadcastsInDim S1x2048x768 (![] : Fin 0 → Fin S1x2048x768.rank)
  bcast_S_S768x8 : S_.BroadcastsInDim S768x8 (![] : Fin 0 → Fin S768x8.rank)
  bcast_S_S8 : S_.BroadcastsInDim S8 (![] : Fin 0 → Fin S8.rank)

variable [Facts]

def fn {F : FTy → Type} [FloatOps F] (main_arg0 : FVec F S1x2048x768 .f32) (main_arg1 : FVec F S768x8 .f32) (main_arg2 : FVec F S8 .f32) (main_arg3 : FVec F S768x8 .f32) (main_arg4 : FVec F S8 .f32) (main_arg5 : FVec F S8x768x3072 .f32) (main_arg6 : FVec F S8x3072 .f32) (main_arg7 : FVec F S8x3072x768 .f32) (main_arg8 : FVec F S8x768 .f32) : IVec S1x2048x768 1 × IVec S768x8 1 × IVec S8 1 × IVec S768x8 1 × IVec S8 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_v3 : FVec F S768x8 .f32 := Host.absf main_arg1
  let main_cst_0 : FVec F S_ .f32 := constant S_ .f32 0x7F800000#32
  let main_v4 : FVec F S768x8 .f32 := broadcastInDim S768x8 ![] bcast_S_S768x8 main_cst_0
  let main_v5 : IVec S768x8 1 := cmpf .olt main_v3 main_v4
  let main_v6 : FVec F S8 .f32 := Host.absf main_arg2
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  let main_v9 : FVec F S768x8 .f32 := Host.absf main_arg3
  let main_cst_2 : FVec F S_ .f32 := constant S_ .f32 0x7F800000#32
  let main_v10 : FVec F S768x8 .f32 := broadcastInDim S768x8 ![] bcast_S_S768x8 main_cst_2
  let main_v11 : IVec S768x8 1 := cmpf .olt main_v9 main_v10
  let main_v12 : FVec F S8 .f32 := Host.absf main_arg4
  let main_cst_3 : FVec F S_ .f32 := constant S_ .f32 0x7F800000#32
  let main_v13 : FVec F S8 .f32 := broadcastInDim S8 ![] bcast_S_S8 main_cst_3
  let main_v14 : IVec S8 1 := cmpf .olt main_v12 main_v13
  (main_v2, main_v5, main_v8, main_v11, main_v14)
-- ==== Kernel.lean ====
abbrev S1x2048x768 : Shape := ⟨3, ![1, 2048, 768]⟩
abbrev S768x8 : Shape := ⟨2, ![768, 8]⟩
abbrev S8 : Shape := ⟨1, ![8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S2048x768 : Shape := ⟨2, ![2048, 768]⟩
abbrev S_ : Shape := ⟨0, ![]⟩
abbrev S768x128 : Shape := ⟨2, ![768, 128]⟩
abbrev S1 : Shape := ⟨1, ![1]⟩
abbrev S1x128 : Shape := ⟨2, ![1, 128]⟩
abbrev S2 : Shape := ⟨1, ![2]⟩
abbrev S1x1x1 : Shape := ⟨3, ![1, 1, 1]⟩
abbrev S1x2048x8 : Shape := ⟨3, ![1, 2048, 8]⟩
abbrev S2048x8 : Shape := ⟨2, ![2048, 8]⟩
abbrev S2048x128 : Shape := ⟨2, ![2048, 128]⟩
abbrev S2048 : Shape := ⟨1, ![2048]⟩
abbrev S2048x1 : Shape := ⟨2, ![2048, 1]⟩
abbrev S8x1x3072 : Shape := ⟨3, ![8, 1, 3072]⟩
abbrev S8x1x768 : Shape := ⟨3, ![8, 1, 768]⟩
abbrev S1x768x3072 : Shape := ⟨3, ![1, 768, 3072]⟩
abbrev S1x1x3072 : Shape := ⟨3, ![1, 1, 3072]⟩
abbrev S1x3072x768 : Shape := ⟨3, ![1, 3072, 768]⟩
abbrev S1x1x768 : Shape := ⟨3, ![1, 1, 768]⟩
abbrev S768x3072 : Shape := ⟨2, ![768, 3072]⟩
abbrev S3072x768 : Shape := ⟨2, ![3072, 768]⟩
abbrev S1x3072 : Shape := ⟨2, ![1, 3072]⟩
abbrev S1x768 : Shape := ⟨2, ![1, 768]⟩
abbrev S512x768 : Shape := ⟨2, ![512, 768]⟩
abbrev S512x3072 : Shape := ⟨2, ![512, 3072]⟩
abbrev S512x8 : Shape := ⟨2, ![512, 8]⟩
abbrev S512 : Shape := ⟨1, ![512]⟩
abbrev S512x1 : Shape := ⟨2, ![512, 1]⟩

abbrev nBuf : Space → Nat
  | .hbm => 319
  | .vmem => 16
  | .smem => 0
  | _ => 0

abbrev hbmTy0_0 (i : Nat) : BufTy := match i % 128 with
  | 0 => ⟨S1x2048x768, .f32⟩
  | 1 => ⟨S768x8, .f32⟩
  | 2 => ⟨S8, .f32⟩
  | 3 => ⟨S768x8, .f32⟩
  | 4 => ⟨S8, .f32⟩
  | 5 => ⟨S8x768x3072, .f32⟩
  | 6 => ⟨S8x3072, .f32⟩
  | 7 => ⟨S8x3072x768, .f32⟩
  | 8 => ⟨S8x768, .f32⟩
  | 9 => ⟨S2048x768, .f32⟩
  | 10 => ⟨S_, .f32⟩
  | 11 => ⟨S768x128, .f32⟩
  | 12 => ⟨S_, .i32⟩
  | 13 => ⟨S1, .i32⟩
  | 14 => ⟨S768x128, .f32⟩
  | 15 => ⟨S_, .i32⟩
  | 16 => ⟨S1, .i32⟩
  | 17 => ⟨S768x128, .f32⟩
  | 18 => ⟨S_, .f32⟩
  | 19 => ⟨S1x128, .f32⟩
  | 20 => ⟨S_, .i32⟩
  | 21 => ⟨S1, .i32⟩
  | 22 => ⟨S_, .i32⟩
  | 23 => ⟨S1, .i32⟩
  | 24 => ⟨S2, .i32⟩
  | 25 => ⟨S1x128, .f32⟩
  | 26 => ⟨S_, .i32⟩
  | 27 => ⟨S1, .i32⟩
  | 28 => ⟨S_, .i32⟩
  | 29 => ⟨S1, .i32⟩
  | 30 => ⟨S2, .i32⟩
  | 31 => ⟨S1x128, .f32⟩
  | 32 => ⟨S_, .i32⟩
  | 33 => ⟨S_, .i32⟩
  | 34 => ⟨S_, .i32⟩
  | 35 => ⟨S_, .i32⟩
  | 36 => ⟨S1, .i32⟩
  | 37 => ⟨S_, .i32⟩
  | 38 => ⟨S_, .i32⟩
  | 39 => ⟨S_, .i32⟩
  | 40 => ⟨S1, .i32⟩
  | 41 => ⟨S2, .i32⟩
  | 42 => ⟨S_, .f32⟩
  | 43 => ⟨S_, .f32⟩
  | 44 => ⟨S_, .f32⟩
  | 45 => ⟨S_, .f32⟩
  | 46 => ⟨S1x1x1, .f32⟩
  | 47 => ⟨S1x1x1, .f32⟩
  | 48 => ⟨S1, .i32⟩
  | 49 => ⟨S_, .i32⟩
  | 50 => ⟨S1, .i32⟩
  | 51 => ⟨S_, .i32⟩
  | 52 => ⟨S1x2048x8, .i64⟩
  | 53 => ⟨S1x2048x8, .i64⟩
  | 54 => ⟨S1x2048x8, .i64⟩
  | 55 => ⟨S_, .i64⟩
  | 56 => ⟨S1x2048x8, .i64⟩
  | 57 => ⟨S1x2048x8, .i64⟩
  | 58 => ⟨S_, .i64⟩
  | 59 => ⟨S1x2048x8, .i64⟩
  | 60 => ⟨S1x2048x8, .i64⟩
  | 61 => ⟨S_, .i64⟩
  | 62 => ⟨S1x2048x8, .i64⟩
  | 63 => ⟨S1x2048x8, .i64⟩
  | 64 => ⟨S1x2048x8, .i64⟩
  | 65 => ⟨S1x2048x8, .i64⟩
  | 66 => ⟨S_, .i64⟩
  | 67 => ⟨S1x2048x8, .i64⟩
  | 68 => ⟨S1x2048x8, .i64⟩
  | 69 => ⟨S1x2048x8, .i32⟩
  | 70 => ⟨S1x2048x8, .i32⟩
  | 71 => ⟨S_, .i32⟩
  | 72 => ⟨S_, .i32⟩
  | 73 => ⟨S_, .i32⟩
  | 74 => ⟨S1x2048x8, .i32⟩
  | 75 => ⟨S1x2048x8, .i32⟩
  | 76 => ⟨S1x2048x8, .i32⟩
  | 77 => ⟨S1x2048x8, .i32⟩
  | 78 => ⟨S1x2048x8, .i32⟩
  | 79 => ⟨S_, .i32⟩
  | 80 => ⟨S1x2048x8, .i32⟩
  | 81 => ⟨S1x2048x8, .i32⟩
  | 82 => ⟨S_, .i32⟩
  | 83 => ⟨S1x2048x8, .i32⟩
  | 84 => ⟨S1x2048x8, .i32⟩
  | 85 => ⟨S1x2048x8, .i32⟩
  | 86 => ⟨S1x2048x8, .i32⟩
  | 87 => ⟨S1x2048x8, .i32⟩
  | 88 => ⟨S_, .i32⟩
  | 89 => ⟨S1x2048x8, .i32⟩
  | 90 => ⟨S1x2048x8, .i32⟩
  | 91 => ⟨S_, .i32⟩
  | 92 => ⟨S1x2048x8, .i32⟩
  | 93 => ⟨S1x2048x8, .i32⟩
  | 94 => ⟨S1x2048x8, .i32⟩
  | 95 => ⟨S1x2048x8, .i32⟩
  | 96 => ⟨S1x2048x8, .i32⟩
  | 97 => ⟨S_, .i32⟩
  | 98 => ⟨S1x2048x8, .i32⟩
  | 99 => ⟨S1x2048x8, .i32⟩
  | 100 => ⟨S_, .i32⟩
  | 101 => ⟨S1x2048x8, .i32⟩
  | 102 => ⟨S1x2048x8, .i32⟩
  | 103 => ⟨S1x2048x8, .i32⟩
  | 104 => ⟨S1x2048x8, .i32⟩
  | 105 => ⟨S1x2048x8, .i32⟩
  | 106 => ⟨S_, .i32⟩
  | 107 => ⟨S1x2048x8, .i32⟩
  | 108 => ⟨S1x2048x8, .i32⟩
  | 109 => ⟨S_, .i32⟩
  | 110 => ⟨S1x2048x8, .i32⟩
  | 111 => ⟨S1x2048x8, .i32⟩
  | 112 => ⟨S1x2048x8, .i32⟩
  | 113 => ⟨S1x2048x8, .i32⟩
  | 114 => ⟨S1x2048x8, .i32⟩
  | 115 => ⟨S1x2048x8, .i32⟩
  | 116 => ⟨S1x2048x8, .i32⟩
  | 117 => ⟨S1x2048x8, .i32⟩
  | 118 => ⟨S_, .i32⟩
  | 119 => ⟨S1x2048x8, .i32⟩
  | 120 => ⟨S1x2048x8, .i32⟩
  | 121 => ⟨S1x2048x8, .i32⟩
  | 122 => ⟨S_, .i32⟩
  | 123 => ⟨S1x2048x8, .i32⟩
  | 124 => ⟨S1x2048x8, .i32⟩
  | 125 => ⟨S_, .i32⟩
  | 126 => ⟨S1x2048x8, .i32⟩
  | 127 => ⟨S1x2048x8, .i32⟩
  | _ => ⟨S1x2048x768, .f32⟩

abbrev hbmTy0_1 (i : Nat) : BufTy := match i % 128 with
  | 0 => ⟨S1x2048x8, .i32⟩
  | 1 => ⟨S1x2048x8, .i32⟩
  | 2 => ⟨S1x2048x8, .i32⟩
  | 3 => ⟨S_, .i32⟩
  | 4 => ⟨S1x2048x8, .i32⟩
  | 5 => ⟨S1x2048x8, .i32⟩
  | 6 => ⟨S_, .i32⟩
  | 7 => ⟨S1x2048x8, .i32⟩
  | 8 => ⟨S1x2048x8, .i32⟩
  | 9 => ⟨S1x2048x8, .i32⟩
  | 10 => ⟨S1x2048x8, .i32⟩
  | 11 => ⟨S1x2048x8, .i32⟩
  | 12 => ⟨S_, .i32⟩
  | 13 => ⟨S1x2048x8, .i32⟩
  | 14 => ⟨S1x2048x8, .i32⟩
  | 15 => ⟨S_, .i32⟩
  | 16 => ⟨S1x2048x8, .i32⟩
  | 17 => ⟨S1x2048x8, .i32⟩
  | 18 => ⟨S1x2048x8, .i32⟩
  | 19 => ⟨S1x2048x8, .i32⟩
  | 20 => ⟨S1x2048x8, .i32⟩
  | 21 => ⟨S_, .i32⟩
  | 22 => ⟨S1x2048x8, .i32⟩
  | 23 => ⟨S1x2048x8, .i32⟩
  | 24 => ⟨S_, .i32⟩
  | 25 => ⟨S1x2048x8, .i32⟩
  | 26 => ⟨S1x2048x8, .i32⟩
  | 27 => ⟨S1x2048x8, .i32⟩
  | 28 => ⟨S1x2048x8, .i32⟩
  | 29 => ⟨S1x2048x8, .i32⟩
  | 30 => ⟨S1x2048x8, .i32⟩
  | 31 => ⟨S1x2048x8, .i32⟩
  | 32 => ⟨S1x2048x8, .i32⟩
  | 33 => ⟨S_, .i32⟩
  | 34 => ⟨S1x2048x8, .i32⟩
  | 35 => ⟨S1x2048x8, .i32⟩
  | 36 => ⟨S1x2048x8, .i32⟩
  | 37 => ⟨S_, .i32⟩
  | 38 => ⟨S1x2048x8, .i32⟩
  | 39 => ⟨S1x2048x8, .i32⟩
  | 40 => ⟨S_, .i32⟩
  | 41 => ⟨S1x2048x8, .i32⟩
  | 42 => ⟨S1x2048x8, .i32⟩
  | 43 => ⟨S1x2048x8, .i32⟩
  | 44 => ⟨S1x2048x8, .i32⟩
  | 45 => ⟨S1x2048x8, .i32⟩
  | 46 => ⟨S_, .i32⟩
  | 47 => ⟨S1x2048x8, .i32⟩
  | 48 => ⟨S1x2048x8, .i32⟩
  | 49 => ⟨S_, .i32⟩
  | 50 => ⟨S1x2048x8, .i32⟩
  | 51 => ⟨S1x2048x8, .i32⟩
  | 52 => ⟨S1x2048x8, .i32⟩
  | 53 => ⟨S1x2048x8, .i32⟩
  | 54 => ⟨S1x2048x8, .i32⟩
  | 55 => ⟨S_, .i32⟩
  | 56 => ⟨S1x2048x8, .i32⟩
  | 57 => ⟨S1x2048x8, .i32⟩
  | 58 => ⟨S_, .i32⟩
  | 59 => ⟨S1x2048x8, .i32⟩
  | 60 => ⟨S1x2048x8, .i32⟩
  | 61 => ⟨S1x2048x8, .i32⟩
  | 62 => ⟨S1x2048x8, .i32⟩
  | 63 => ⟨S1x2048x8, .i32⟩
  | 64 => ⟨S_, .i32⟩
  | 65 => ⟨S1x2048x8, .i32⟩
  | 66 => ⟨S1x2048x8, .i32⟩
  | 67 => ⟨S_, .i32⟩
  | 68 => ⟨S1x2048x8, .i32⟩
  | 69 => ⟨S1x2048x8, .i32⟩
  | 70 => ⟨S1x2048x8, .i32⟩
  | 71 => ⟨S1x2048x8, .i32⟩
  | 72 => ⟨S1x2048x8, .i32⟩
  | 73 => ⟨S1x2048x8, .i32⟩
  | 74 => ⟨S1x2048x8, .i32⟩
  | 75 => ⟨S1x2048x8, .i32⟩
  | 76 => ⟨S_, .i32⟩
  | 77 => ⟨S1x2048x8, .i32⟩
  | 78 => ⟨S1x2048x8, .i32⟩
  | 79 => ⟨S1x2048x8, .i32⟩
  | 80 => ⟨S_, .i32⟩
  | 81 => ⟨S1x2048x8, .i32⟩
  | 82 => ⟨S1x2048x8, .i32⟩
  | 83 => ⟨S_, .i32⟩
  | 84 => ⟨S1x2048x8, .i32⟩
  | 85 => ⟨S1x2048x8, .i32⟩
  | 86 => ⟨S1x2048x8, .i32⟩
  | 87 => ⟨S1x2048x8, .i32⟩
  | 88 => ⟨S1x2048x8, .i32⟩
  | 89 => ⟨S_, .i32⟩
  | 90 => ⟨S1x2048x8, .i32⟩
  | 91 => ⟨S1x2048x8, .i32⟩
  | 92 => ⟨S_, .i32⟩
  | 93 => ⟨S1x2048x8, .i32⟩
  | 94 => ⟨S1x2048x8, .i32⟩
  | 95 => ⟨S1x2048x8, .i32⟩
  | 96 => ⟨S1x2048x8, .i32⟩
  | 97 => ⟨S1x2048x8, .i32⟩
  | 98 => ⟨S_, .i32⟩
  | 99 => ⟨S1x2048x8, .i32⟩
  | 100 => ⟨S1x2048x8, .i32⟩
  | 101 => ⟨S_, .i32⟩
  | 102 => ⟨S1x2048x8, .i32⟩
  | 103 => ⟨S1x2048x8, .i32⟩
  | 104 => ⟨S1x2048x8, .i32⟩
  | 105 => ⟨S1x2048x8, .i32⟩
  | 106 => ⟨S1x2048x8, .i32⟩
  | 107 => ⟨S_, .i32⟩
  | 108 => ⟨S1x2048x8, .i32⟩
  | 109 => ⟨S1x2048x8, .i32⟩
  | 110 => ⟨S_, .i32⟩
  | 111 => ⟨S1x2048x8, .i32⟩
  | 112 => ⟨S1x2048x8, .i32⟩
  | 113 => ⟨S1x2048x8, .i32⟩
  | 114 => ⟨S1x2048x8, .i32⟩
  | 115 => ⟨S1x2048x8, .i32⟩
  | 116 => ⟨S1x2048x8, .i32⟩
  | 117 => ⟨S1x2048x8, .i32⟩
  | 118 => ⟨S1x2048x8, .i32⟩
  | 119 => ⟨S_, .i32⟩
  | 120 => ⟨S1x2048x8, .i32⟩
  | 121 => ⟨S1x2048x8, .i32⟩
  | 122 => ⟨S1x2048x8, .i32⟩
  | 123 => ⟨S_, .i32⟩
  | 124 => ⟨S1x2048x8, .i32⟩
  | 125 => ⟨S1x2048x8, .i32⟩
  | 126 => ⟨S_, .i32⟩
  | 127 => ⟨S1x2048x8, .i32⟩
  | _ => ⟨S1x2048x768, .f32⟩

abbrev hbmTy0_2 (i : Nat) : BufTy := match i % 128 with
  | 0 => ⟨S1x2048x8, .i32⟩
  | 1 => ⟨S1x2048x8, .i32⟩
  | 2 => ⟨S1x2048x8, .i32⟩
  | 3 => ⟨S1x2048x8, .i32⟩
  | 4 => ⟨S_, .i32⟩
  | 5 => ⟨S1x2048x8, .i32⟩
  | 6 => ⟨S1x2048x8, .i32⟩
  | 7 => ⟨S_, .i32⟩
  | 8 => ⟨S1x2048x8, .i32⟩
  | 9 => ⟨S1x2048x8, .i32⟩
  | 10 => ⟨S1x2048x8, .i32⟩
  | 11 => ⟨S1x2048x8, .i32⟩
  | 12 => ⟨S1x2048x8, .i32⟩
  | 13 => ⟨S_, .i32⟩
  | 14 => ⟨S1x2048x8, .i32⟩
  | 15 => ⟨S1x2048x8, .i32⟩
  | 16 => ⟨S_, .i32⟩
  | 17 => ⟨S1x2048x8, .i32⟩
  | 18 => ⟨S1x2048x8, .i32⟩
  | 19 => ⟨S1x2048x8, .i32⟩
  | 20 => ⟨S1x2048x8, .i32⟩
  | 21 => ⟨S1x2048x8, .i32⟩
  | 22 => ⟨S_, .i32⟩
  | 23 => ⟨S1x2048x8, .i32⟩
  | 24 => ⟨S1x2048x8, .i32⟩
  | 25 => ⟨S_, .i32⟩
  | 26 => ⟨S1x2048x8, .i32⟩
  | 27 => ⟨S1x2048x8, .i32⟩
  | 28 => ⟨S1x2048x8, .i32⟩
  | 29 => ⟨S1x2048x8, .i32⟩
  | 30 => ⟨S1x2048x8, .i32⟩
  | 31 => ⟨S1x2048x8, .i32⟩
  | 32 => ⟨S1x2048x8, .i32⟩
  | 33 => ⟨S1x2048x8, .i32⟩
  | 34 => ⟨S_, .i32⟩
  | 35 => ⟨S1x2048x8, .i32⟩
  | 36 => ⟨S1x2048x8, .i32⟩
  | 37 => ⟨S1x2048x8, .i32⟩
  | 38 => ⟨S_, .i32⟩
  | 39 => ⟨S1x2048x8, .i32⟩
  | 40 => ⟨S1x2048x8, .i32⟩
  | 41 => ⟨S_, .i32⟩
  | 42 => ⟨S1x2048x8, .i32⟩
  | 43 => ⟨S1x2048x8, .i32⟩
  | 44 => ⟨S1x2048x8, .f32⟩
  | 45 => ⟨S_, .f32⟩
  | 46 => ⟨S1x2048x8, .f32⟩
  | 47 => ⟨S1x2048x8, .f32⟩
  | 48 => ⟨S1x1x1, .f32⟩
  | 49 => ⟨S1x2048x8, .f32⟩
  | 50 => ⟨S1x2048x8, .f32⟩
  | 51 => ⟨S1x2048x8, .f32⟩
  | 52 => ⟨S1x2048x8, .f32⟩
  | 53 => ⟨S1x2048x8, .f32⟩
  | 54 => ⟨S1x2048x8, .f32⟩
  | 55 => ⟨S2048x8, .f32⟩
  | 56 => ⟨S2048x8, .f32⟩
  | 57 => ⟨S8x768x3072, .bf16⟩
  | 58 => ⟨S8x3072x768, .bf16⟩
  | 59 => ⟨S8x1x3072, .f32⟩
  | 60 => ⟨S8x1x768, .f32⟩
  | 61 => ⟨S2048x768, .f32⟩
  | 62 => ⟨S1x2048x768, .f32⟩
  | _ => ⟨S1x2048x768, .f32⟩

abbrev hbmTy (i : Nat) : BufTy := match i / 128 with
  | 0 => hbmTy0_0 i
  | 1 => hbmTy0_1 i
  | 2 => hbmTy0_2 i
  | _ => ⟨S1x2048x768, .f32⟩

abbrev bufTy : (tb : Table) → Fin (tcTables nBuf tb) → BufTy
  | .hbm, ⟨i, _⟩ => hbmTy i
  | .local _ .vmem, ⟨0, _⟩ => ⟨S2048x768, .f32⟩
  | .local _ .vmem, ⟨1, _⟩ => ⟨S768x128, .f32⟩
  | .local _ .vmem, ⟨2, _⟩ => ⟨S1x128, .f32⟩
  | .local _ .vmem, ⟨3, _⟩ => ⟨S2048x8, .f32⟩
  | .local _ .vmem, ⟨4, _⟩ => ⟨S2048x8, .f32⟩
  | .local _ .vmem, ⟨5, _⟩ => ⟨S2048x768, .f32⟩
  | .local _ .vmem, ⟨6, _⟩ => ⟨S1x768x3072, .bf16⟩
  | .local _ .vmem, ⟨7, _⟩ => ⟨S1x768x3072, .bf16⟩
  | .local _ .vmem, ⟨8, _⟩ => ⟨S1x1x3072, .f32⟩
  | .local _ .vmem, ⟨9, _⟩ => ⟨S1x1x3072, .f32⟩
  | .local _ .vmem, ⟨10, _⟩ => ⟨S1x3072x768, .bf16⟩
  | .local _ .vmem, ⟨11, _⟩ => ⟨S1x3072x768, .bf16⟩
  | .local _ .vmem, ⟨12, _⟩ => ⟨S1x1x768, .f32⟩
  | .local _ .vmem, ⟨13, _⟩ => ⟨S1x1x768, .f32⟩
  | .local _ .vmem, ⟨14, _⟩ => ⟨S2048x8, .f32⟩
  | .local _ .vmem, ⟨15, _⟩ => ⟨S2048x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_c_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_4 : Ref sig .tc := ⟨.hbm, 26, rfl⟩
abbrev main_v11 : Ref sig .tc := ⟨.hbm, 27, rfl⟩
abbrev main_c_5 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_6 : Ref sig .tc := ⟨.hbm, 32, rfl⟩
abbrev main_c_7 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_8 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_9 : Ref sig .tc := ⟨.hbm, 42, rfl⟩
abbrev main_cst_10 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_c : Ref sig .tc := ⟨.hbm, 55, rfl⟩
abbrev main_call0_v11 : Ref sig .tc := ⟨.hbm, 56, rfl⟩
abbrev main_call0_v12 : Ref sig .tc := ⟨.hbm, 57, rfl⟩
abbrev main_call0_c_0 : Ref sig .tc := ⟨.hbm, 58, rfl⟩
abbrev main_call0_v13 : Ref sig .tc := ⟨.hbm, 59, rfl⟩
abbrev main_call0_v14 : Ref sig .tc := ⟨.hbm, 60, rfl⟩
abbrev main_call0_c_1 : Ref sig .tc := ⟨.hbm, 61, rfl⟩
abbrev main_call0_v15 : Ref sig .tc := ⟨.hbm, 62, rfl⟩
abbrev main_call0_v16 : Ref sig .tc := ⟨.hbm, 63, rfl⟩
abbrev main_call0_v17 : Ref sig .tc := ⟨.hbm, 64, rfl⟩
abbrev main_call0_v18 : Ref sig .tc := ⟨.hbm, 65, rfl⟩
abbrev main_call0_c_2 : Ref sig .tc := ⟨.hbm, 66, rfl⟩
abbrev main_call0_v19 : Ref sig .tc := ⟨.hbm, 67, rfl⟩
abbrev main_call0_v20 : Ref sig .tc := ⟨.hbm, 68, rfl⟩
abbrev main_call0_v21 : Ref sig .tc := ⟨.hbm, 69, rfl⟩
abbrev main_call0_v22 : Ref sig .tc := ⟨.hbm, 70, rfl⟩
abbrev main_call0_call0_v0 : Ref sig .tc := ⟨.hbm, 71, rfl⟩
abbrev main_call0_call0_c : Ref sig .tc := ⟨.hbm, 72, rfl⟩
abbrev main_call0_call0_v1 : Ref sig .tc := ⟨.hbm, 73, rfl⟩
abbrev main_call0_call0_v2 : Ref sig .tc := ⟨.hbm, 74, rfl⟩
abbrev main_call0_call0_v3 : Ref sig .tc := ⟨.hbm, 75, rfl⟩
abbrev main_call0_call0_v4 : Ref sig .tc := ⟨.hbm, 76, rfl⟩
abbrev main_call0_call0_v5 : Ref sig .tc := ⟨.hbm, 77, rfl⟩
abbrev main_call0_call0_v6 : Ref sig .tc := ⟨.hbm, 78, rfl⟩
abbrev main_call0_call0_c_0 : Ref sig .tc := ⟨.hbm, 79, rfl⟩
abbrev main_call0_call0_v7 : Ref sig .tc := ⟨.hbm, 80, rfl⟩
abbrev main_call0_call0_v8 : Ref sig .tc := ⟨.hbm, 81, rfl⟩
abbrev main_call0_call0_c_1 : Ref sig .tc := ⟨.hbm, 82, rfl⟩
abbrev main_call0_call0_v9 : Ref sig .tc := ⟨.hbm, 83, rfl⟩
abbrev main_call0_call0_v10 : Ref sig .tc := ⟨.hbm, 84, rfl⟩
abbrev main_call0_call0_v11 : Ref sig .tc := ⟨.hbm, 85, rfl⟩
abbrev main_call0_call0_v12 : Ref sig .tc := ⟨.hbm, 86, rfl⟩
abbrev main_call0_call0_v13 : Ref sig .tc := ⟨.hbm, 87, rfl⟩
abbrev main_call0_call0_c_2 : Ref sig .tc := ⟨.hbm, 88, rfl⟩
abbrev main_call0_call0_v14 : Ref sig .tc := ⟨.hbm, 89, rfl⟩
abbrev main_call0_call0_v15 : Ref sig .tc := ⟨.hbm, 90, rfl⟩
abbrev main_call0_call0_c_3 : Ref sig .tc := ⟨.hbm, 91, rfl⟩
abbrev main_call0_call0_v16 : Ref sig .tc := ⟨.hbm, 92, rfl⟩
abbrev main_call0_call0_v17 : Ref sig .tc := ⟨.hbm, 93, rfl⟩
abbrev main_call0_call0_v18 : Ref sig .tc := ⟨.hbm, 94, rfl⟩
abbrev main_call0_call0_v19 : Ref sig .tc := ⟨.hbm, 95, rfl⟩
abbrev main_call0_call0_v20 : Ref sig .tc := ⟨.hbm, 96, rfl⟩
abbrev main_call0_call0_c_4 : Ref sig .tc := ⟨.hbm, 97, rfl⟩
abbrev main_call0_call0_v21 : Ref sig .tc := ⟨.hbm, 98, rfl⟩
abbrev main_call0_call0_v22 : Ref sig .tc := ⟨.hbm, 99, rfl⟩
abbrev main_call0_call0_c_5 : Ref sig .tc := ⟨.hbm, 100, rfl⟩
abbrev main_call0_call0_v23 : Ref sig .tc := ⟨.hbm, 101, rfl⟩
abbrev main_call0_call0_v24 : Ref sig .tc := ⟨.hbm, 102, rfl⟩
abbrev main_call0_call0_v25 : Ref sig .tc := ⟨.hbm, 103, rfl⟩
abbrev main_call0_call0_v26 : Ref sig .tc := ⟨.hbm, 104, rfl⟩
abbrev main_call0_call0_v27 : Ref sig .tc := ⟨.hbm, 105, rfl⟩
abbrev main_call0_call0_c_6 : Ref sig .tc := ⟨.hbm, 106, rfl⟩
abbrev main_call0_call0_v28 : Ref sig .tc := ⟨.hbm, 107, rfl⟩
abbrev main_call0_call0_v29 : Ref sig .tc := ⟨.hbm, 108, rfl⟩
abbrev main_call0_call0_c_7 : Ref sig .tc := ⟨.hbm, 109, rfl⟩
abbrev main_call0_call0_v30 : Ref sig .tc := ⟨.hbm, 110, rfl⟩
abbrev main_call0_call0_v31 : Ref sig .tc := ⟨.hbm, 111, rfl⟩
abbrev main_call0_call0_v32 : Ref sig .tc := ⟨.hbm, 112, rfl⟩
abbrev main_call0_call0_v33 : Ref sig .tc := ⟨.hbm, 113, rfl⟩
abbrev main_call0_call0_v34 : Ref sig .tc := ⟨.hbm, 114, rfl⟩
abbrev main_call0_call0_v35 : Ref sig .tc := ⟨.hbm, 115, rfl⟩
abbrev main_call0_call0_v36 : Ref sig .tc := ⟨.hbm, 116, rfl⟩
abbrev main_call0_call0_v37 : Ref sig .tc := ⟨.hbm, 117, rfl⟩
abbrev main_call0_call0_c_8 : Ref sig .tc := ⟨.hbm, 118, rfl⟩
abbrev main_call0_call0_v38 : Ref sig .tc := ⟨.hbm, 119, rfl⟩
abbrev main_call0_call0_v39 : Ref sig .tc := ⟨.hbm, 120, rfl⟩
abbrev main_call0_call0_v40 : Ref sig .tc := ⟨.hbm, 121, rfl⟩
abbrev main_call0_call0_c_9 : Ref sig .tc := ⟨.hbm, 122, rfl⟩
abbrev main_call0_call0_v41 : Ref sig .tc := ⟨.hbm, 123, rfl⟩
abbrev main_call0_call0_v42 : Ref sig .tc := ⟨.hbm, 124, rfl⟩
abbrev main_call0_call0_c_10 : Ref sig .tc := ⟨.hbm, 125, rfl⟩
abbrev main_call0_call0_v43 : Ref sig .tc := ⟨.hbm, 126, rfl⟩
abbrev main_call0_call0_v44 : Ref sig .tc := ⟨.hbm, 127, rfl⟩
abbrev main_call0_call0_v45 : Ref sig .tc := ⟨.hbm, 128, rfl⟩
abbrev main_call0_call0_v46 : Ref sig .tc := ⟨.hbm, 129, rfl⟩
abbrev main_call0_call0_v47 : Ref sig .tc := ⟨.hbm, 130, rfl⟩
abbrev main_call0_call0_c_11 : Ref sig .tc := ⟨.hbm, 131, rfl⟩
abbrev main_call0_call0_v48 : Ref sig .tc := ⟨.hbm, 132, rfl⟩
abbrev main_call0_call0_v49 : Ref sig .tc := ⟨.hbm, 133, rfl⟩
abbrev main_call0_call0_c_12 : Ref sig .tc := ⟨.hbm, 134, rfl⟩
abbrev main_call0_call0_v50 : Ref sig .tc := ⟨.hbm, 135, rfl⟩
abbrev main_call0_call0_v51 : Ref sig .tc := ⟨.hbm, 136, rfl⟩
abbrev main_call0_call0_v52 : Ref sig .tc := ⟨.hbm, 137, rfl⟩
abbrev main_call0_call0_v53 : Ref sig .tc := ⟨.hbm, 138, rfl⟩
abbrev main_call0_call0_v54 : Ref sig .tc := ⟨.hbm, 139, rfl⟩
abbrev main_call0_call0_c_13 : Ref sig .tc := ⟨.hbm, 140, rfl⟩
abbrev main_call0_call0_v55 : Ref sig .tc := ⟨.hbm, 141, rfl⟩
abbrev main_call0_call0_v56 : Ref sig .tc := ⟨.hbm, 142, rfl⟩
abbrev main_call0_call0_c_14 : Ref sig .tc := ⟨.hbm, 143, rfl⟩
abbrev main_call0_call0_v57 : Ref sig .tc := ⟨.hbm, 144, rfl⟩
abbrev main_call0_call0_v58 : Ref sig .tc := ⟨.hbm, 145, rfl⟩
abbrev main_call0_call0_v59 : Ref sig .tc := ⟨.hbm, 146, rfl⟩
abbrev main_call0_call0_v60 : Ref sig .tc := ⟨.hbm, 147, rfl⟩
abbrev main_call0_call0_v61 : Ref sig .tc := ⟨.hbm, 148, rfl⟩
abbrev main_call0_call0_c_15 : Ref sig .tc := ⟨.hbm, 149, rfl⟩
abbrev main_call0_call0_v62 : Ref sig .tc := ⟨.hbm, 150, rfl⟩
abbrev main_call0_call0_v63 : Ref sig .tc := ⟨.hbm, 151, rfl⟩
abbrev main_call0_call0_c_16 : Ref sig .tc := ⟨.hbm, 152, rfl⟩
abbrev main_call0_call0_v64 : Ref sig .tc := ⟨.hbm, 153, rfl⟩
abbrev main_call0_call0_v65 : Ref sig .tc := ⟨.hbm, 154, rfl⟩
abbrev main_call0_call0_v66 : Ref sig .tc := ⟨.hbm, 155, rfl⟩
abbrev main_call0_call0_v67 : Ref sig .tc := ⟨.hbm, 156, rfl⟩
abbrev main_call0_call0_v68 : Ref sig .tc := ⟨.hbm, 157, rfl⟩
abbrev main_call0_call0_v69 : Ref sig .tc := ⟨.hbm, 158, rfl⟩
abbrev main_call0_call0_v70 : Ref sig .tc := ⟨.hbm, 159, rfl⟩
abbrev main_call0_call0_v71 : Ref sig .tc := ⟨.hbm, 160, rfl⟩
abbrev main_call0_call0_c_17 : Ref sig .tc := ⟨.hbm, 161, rfl⟩
abbrev main_call0_call0_v72 : Ref sig .tc := ⟨.hbm, 162, rfl⟩
abbrev main_call0_call0_v73 : Ref sig .tc := ⟨.hbm, 163, rfl⟩
abbrev main_call0_call0_v74 : Ref sig .tc := ⟨.hbm, 164, rfl⟩
abbrev main_call0_call0_c_18 : Ref sig .tc := ⟨.hbm, 165, rfl⟩
abbrev main_call0_call0_v75 : Ref sig .tc := ⟨.hbm, 166, rfl⟩
abbrev main_call0_call0_v76 : Ref sig .tc := ⟨.hbm, 167, rfl⟩
abbrev main_call0_call0_c_19 : Ref sig .tc := ⟨.hbm, 168, rfl⟩
abbrev main_call0_call0_v77 : Ref sig .tc := ⟨.hbm, 169, rfl⟩
abbrev main_call0_call0_v78 : Ref sig .tc := ⟨.hbm, 170, rfl⟩
abbrev main_call0_call0_v79 : Ref sig .tc := ⟨.hbm, 171, rfl⟩
abbrev main_call0_call0_v80 : Ref sig .tc := ⟨.hbm, 172, rfl⟩
abbrev main_call0_call0_v81 : Ref sig .tc := ⟨.hbm, 173, rfl⟩
abbrev main_call0_call0_c_20 : Ref sig .tc := ⟨.hbm, 174, rfl⟩
abbrev main_call0_call0_v82 : Ref sig .tc := ⟨.hbm, 175, rfl⟩
abbrev main_call0_call0_v83 : Ref sig .tc := ⟨.hbm, 176, rfl⟩
abbrev main_call0_call0_c_21 : Ref sig .tc := ⟨.hbm, 177, rfl⟩
abbrev main_call0_call0_v84 : Ref sig .tc := ⟨.hbm, 178, rfl⟩
abbrev main_call0_call0_v85 : Ref sig .tc := ⟨.hbm, 179, rfl⟩
abbrev main_call0_call0_v86 : Ref sig .tc := ⟨.hbm, 180, rfl⟩
abbrev main_call0_call0_v87 : Ref sig .tc := ⟨.hbm, 181, rfl⟩
abbrev main_call0_call0_v88 : Ref sig .tc := ⟨.hbm, 182, rfl⟩
abbrev main_call0_call0_c_22 : Ref sig .tc := ⟨.hbm, 183, rfl⟩
abbrev main_call0_call0_v89 : Ref sig .tc := ⟨.hbm, 184, rfl⟩
abbrev main_call0_call0_v90 : Ref sig .tc := ⟨.hbm, 185, rfl⟩
abbrev main_call0_call0_c_23 : Ref sig .tc := ⟨.hbm, 186, rfl⟩
abbrev main_call0_call0_v91 : Ref sig .tc := ⟨.hbm, 187, rfl⟩
abbrev main_call0_call0_v92 : Ref sig .tc := ⟨.hbm, 188, rfl⟩
abbrev main_call0_call0_v93 : Ref sig .tc := ⟨.hbm, 189, rfl⟩
abbrev main_call0_call0_v94 : Ref sig .tc := ⟨.hbm, 190, rfl⟩
abbrev main_call0_call0_v95 : Ref sig .tc := ⟨.hbm, 191, rfl⟩
abbrev main_call0_call0_c_24 : Ref sig .tc := ⟨.hbm, 192, rfl⟩
abbrev main_call0_call0_v96 : Ref sig .tc := ⟨.hbm, 193, rfl⟩
abbrev main_call0_call0_v97 : Ref sig .tc := ⟨.hbm, 194, rfl⟩
abbrev main_call0_call0_c_25 : Ref sig .tc := ⟨.hbm, 195, rfl⟩
abbrev main_call0_call0_v98 : Ref sig .tc := ⟨.hbm, 196, rfl⟩
abbrev main_call0_call0_v99 : Ref sig .tc := ⟨.hbm, 197, rfl⟩
abbrev main_call0_call0_v100 : Ref sig .tc := ⟨.hbm, 198, rfl⟩
abbrev main_call0_call0_v101 : Ref sig .tc := ⟨.hbm, 199, rfl⟩
abbrev main_call0_call0_v102 : Ref sig .tc := ⟨.hbm, 200, rfl⟩
abbrev main_call0_call0_v103 : Ref sig .tc := ⟨.hbm, 201, rfl⟩
abbrev main_call0_call0_v104 : Ref sig .tc := ⟨.hbm, 202, rfl⟩
abbrev main_call0_call0_v105 : Ref sig .tc := ⟨.hbm, 203, rfl⟩
abbrev main_call0_call0_c_26 : Ref sig .tc := ⟨.hbm, 204, rfl⟩
abbrev main_call0_call0_v106 : Ref sig .tc := ⟨.hbm, 205, rfl⟩
abbrev main_call0_call0_v107 : Ref sig .tc := ⟨.hbm, 206, rfl⟩
abbrev main_call0_call0_v108 : Ref sig .tc := ⟨.hbm, 207, rfl⟩
abbrev main_call0_call0_c_27 : Ref sig .tc := ⟨.hbm, 208, rfl⟩
abbrev main_call0_call0_v109 : Ref sig .tc := ⟨.hbm, 209, rfl⟩
abbrev main_call0_call0_v110 : Ref sig .tc := ⟨.hbm, 210, rfl⟩
abbrev main_call0_call0_c_28 : Ref sig .tc := ⟨.hbm, 211, rfl⟩
abbrev main_call0_call0_v111 : Ref sig .tc := ⟨.hbm, 212, rfl⟩
abbrev main_call0_call0_v112 : Ref sig .tc := ⟨.hbm, 213, rfl⟩
abbrev main_call0_call0_v113 : Ref sig .tc := ⟨.hbm, 214, rfl⟩
abbrev main_call0_call0_v114 : Ref sig .tc := ⟨.hbm, 215, rfl⟩
abbrev main_call0_call0_v115 : Ref sig .tc := ⟨.hbm, 216, rfl⟩
abbrev main_call0_call0_c_29 : Ref sig .tc := ⟨.hbm, 217, rfl⟩
abbrev main_call0_call0_v116 : Ref sig .tc := ⟨.hbm, 218, rfl⟩
abbrev main_call0_call0_v117 : Ref sig .tc := ⟨.hbm, 219, rfl⟩
abbrev main_call0_call0_c_30 : Ref sig .tc := ⟨.hbm, 220, rfl⟩
abbrev main_call0_call0_v118 : Ref sig .tc := ⟨.hbm, 221, rfl⟩
abbrev main_call0_call0_v119 : Ref sig .tc := ⟨.hbm, 222, rfl⟩
abbrev main_call0_call0_v120 : Ref sig .tc := ⟨.hbm, 223, rfl⟩
abbrev main_call0_call0_v121 : Ref sig .tc := ⟨.hbm, 224, rfl⟩
abbrev main_call0_call0_v122 : Ref sig .tc := ⟨.hbm, 225, rfl⟩
abbrev main_call0_call0_c_31 : Ref sig .tc := ⟨.hbm, 226, rfl⟩
abbrev main_call0_call0_v123 : Ref sig .tc := ⟨.hbm, 227, rfl⟩
abbrev main_call0_call0_v124 : Ref sig .tc := ⟨.hbm, 228, rfl⟩
abbrev main_call0_call0_c_32 : Ref sig .tc := ⟨.hbm, 229, rfl⟩
abbrev main_call0_call0_v125 : Ref sig .tc := ⟨.hbm, 230, rfl⟩
abbrev main_call0_call0_v126 : Ref sig .tc := ⟨.hbm, 231, rfl⟩
abbrev main_call0_call0_v127 : Ref sig .tc := ⟨.hbm, 232, rfl⟩
abbrev main_call0_call0_v128 : Ref sig .tc := ⟨.hbm, 233, rfl⟩
abbrev main_call0_call0_v129 : Ref sig .tc := ⟨.hbm, 234, rfl⟩
abbrev main_call0_call0_c_33 : Ref sig .tc := ⟨.hbm, 235, rfl⟩
abbrev main_call0_call0_v130 : Ref sig .tc := ⟨.hbm, 236, rfl⟩
abbrev main_call0_call0_v131 : Ref sig .tc := ⟨.hbm, 237, rfl⟩
abbrev main_call0_call0_c_34 : Ref sig .tc := ⟨.hbm, 238, rfl⟩
abbrev main_call0_call0_v132 : Ref sig .tc := ⟨.hbm, 239, rfl⟩
abbrev main_call0_call0_v133 : Ref sig .tc := ⟨.hbm, 240, rfl⟩
abbrev main_call0_call0_v134 : Ref sig .tc := ⟨.hbm, 241, rfl⟩
abbrev main_call0_call0_v135 : Ref sig .tc := ⟨.hbm, 242, rfl⟩
abbrev main_call0_call0_v136 : Ref sig .tc := ⟨.hbm, 243, rfl⟩
abbrev main_call0_call0_v137 : Ref sig .tc := ⟨.hbm, 244, rfl⟩
abbrev main_call0_call0_v138 : Ref sig .tc := ⟨.hbm, 245, rfl⟩
abbrev main_call0_call0_v139 : Ref sig .tc := ⟨.hbm, 246, rfl⟩
abbrev main_call0_call0_c_35 : Ref sig .tc := ⟨.hbm, 247, rfl⟩
abbrev main_call0_call0_v140 : Ref sig .tc := ⟨.hbm, 248, rfl⟩
abbrev main_call0_call0_v141 : Ref sig .tc := ⟨.hbm, 249, rfl⟩
abbrev main_call0_call0_v142 : Ref sig .tc := ⟨.hbm, 250, rfl⟩
abbrev main_call0_call0_c_36 : Ref sig .tc := ⟨.hbm, 251, rfl⟩
abbrev main_call0_call0_v143 : Ref sig .tc := ⟨.hbm, 252, rfl⟩
abbrev main_call0_call0_v144 : Ref sig .tc := ⟨.hbm, 253, rfl⟩
abbrev main_call0_call0_c_37 : Ref sig .tc := ⟨.hbm, 254, rfl⟩
abbrev main_call0_call0_v145 : Ref sig .tc := ⟨.hbm, 255, rfl⟩
abbrev main_call0_call0_v146 : Ref sig .tc := ⟨.hbm, 256, rfl⟩
abbrev main_call0_call0_v147 : Ref sig .tc := ⟨.hbm, 257, rfl⟩
abbrev main_call0_call0_v148 : Ref sig .tc := ⟨.hbm, 258, rfl⟩
abbrev main_call0_call0_v149 : Ref sig .tc := ⟨.hbm, 259, rfl⟩
abbrev main_call0_call0_c_38 : Ref sig .tc := ⟨.hbm, 260, rfl⟩
abbrev main_call0_call0_v150 : Ref sig .tc := ⟨.hbm, 261, rfl⟩
abbrev main_call0_call0_v151 : Ref sig .tc := ⟨.hbm, 262, rfl⟩
abbrev main_call0_call0_c_39 : Ref sig .tc := ⟨.hbm, 263, rfl⟩
abbrev main_call0_call0_v152 : Ref sig .tc := ⟨.hbm, 264, rfl⟩
abbrev main_call0_call0_v153 : Ref sig .tc := ⟨.hbm, 265, rfl⟩
abbrev main_call0_call0_v154 : Ref sig .tc := ⟨.hbm, 266, rfl⟩
abbrev main_call0_call0_v155 : Ref sig .tc := ⟨.hbm, 267, rfl⟩
abbrev main_call0_call0_v156 : Ref sig .tc := ⟨.hbm, 268, rfl⟩
abbrev main_call0_call0_c_40 : Ref sig .tc := ⟨.hbm, 269, rfl⟩
abbrev main_call0_call0_v157 : Ref sig .tc := ⟨.hbm, 270, rfl⟩
abbrev main_call0_call0_v158 : Ref sig .tc := ⟨.hbm, 271, rfl⟩
abbrev main_call0_call0_c_41 : Ref sig .tc := ⟨.hbm, 272, rfl⟩
abbrev main_call0_call0_v159 : Ref sig .tc := ⟨.hbm, 273, rfl⟩
abbrev main_call0_call0_v160 : Ref sig .tc := ⟨.hbm, 274, rfl⟩
abbrev main_call0_call0_v161 : Ref sig .tc := ⟨.hbm, 275, rfl⟩
abbrev main_call0_call0_v162 : Ref sig .tc := ⟨.hbm, 276, rfl⟩
abbrev main_call0_call0_v163 : Ref sig .tc := ⟨.hbm, 277, rfl⟩
abbrev main_call0_call0_c_42 : Ref sig .tc := ⟨.hbm, 278, rfl⟩
abbrev main_call0_call0_v164 : Ref sig .tc := ⟨.hbm, 279, rfl⟩
abbrev main_call0_call0_v165 : Ref sig .tc := ⟨.hbm, 280, rfl⟩
abbrev main_call0_call0_c_43 : Ref sig .tc := ⟨.hbm, 281, rfl⟩
abbrev main_call0_call0_v166 : Ref sig .tc := ⟨.hbm, 282, rfl⟩
abbrev main_call0_call0_v167 : Ref sig .tc := ⟨.hbm, 283, rfl⟩
abbrev main_call0_call0_v168 : Ref sig .tc := ⟨.hbm, 284, rfl⟩
abbrev main_call0_call0_v169 : Ref sig .tc := ⟨.hbm, 285, rfl⟩
abbrev main_call0_call0_v170 : Ref sig .tc := ⟨.hbm, 286, rfl⟩
abbrev main_call0_v23_0 : Ref sig .tc := ⟨.hbm, 287, rfl⟩
abbrev main_call0_call0_v172 : Ref sig .tc := ⟨.hbm, 288, rfl⟩
abbrev main_call0_call0_v173 : Ref sig .tc := ⟨.hbm, 289, rfl⟩
abbrev main_call0_call0_c_44 : Ref sig .tc := ⟨.hbm, 290, rfl⟩
abbrev main_call0_call0_v174 : Ref sig .tc := ⟨.hbm, 291, rfl⟩
abbrev main_call0_v23_1 : Ref sig .tc := ⟨.hbm, 292, rfl⟩
abbrev main_call0_v24 : Ref sig .tc := ⟨.hbm, 293, rfl⟩
abbrev main_call0_c_3 : Ref sig .tc := ⟨.hbm, 294, rfl⟩
abbrev main_call0_v25 : Ref sig .tc := ⟨.hbm, 295, rfl⟩
abbrev main_call0_v26 : Ref sig .tc := ⟨.hbm, 296, rfl⟩
abbrev main_call0_c_4 : Ref sig .tc := ⟨.hbm, 297, rfl⟩
abbrev main_call0_v27 : Ref sig .tc := ⟨.hbm, 298, rfl⟩
abbrev main_call0_v28 : Ref sig .tc := ⟨.hbm, 299, rfl⟩
abbrev main_call0_v29 : Ref sig .tc := ⟨.hbm, 300, rfl⟩
abbrev main_call0_cst : Ref sig .tc := ⟨.hbm, 301, rfl⟩
abbrev main_call0_v30 : Ref sig .tc := ⟨.hbm, 302, rfl⟩
abbrev main_call0_v31 : Ref sig .tc := ⟨.hbm, 303, rfl⟩
abbrev main_call0_v32 : Ref sig .tc := ⟨.hbm, 304, rfl⟩
abbrev main_call0_v33 : Ref sig .tc := ⟨.hbm, 305, rfl⟩
abbrev main_call0_v34 : Ref sig .tc := ⟨.hbm, 306, rfl⟩
abbrev main_call0_v35 : Ref sig .tc := ⟨.hbm, 307, rfl⟩
abbrev main_call0_v36 : Ref sig .tc := ⟨.hbm, 308, rfl⟩
abbrev main_call0_v37 : Ref sig .tc := ⟨.hbm, 309, rfl⟩
abbrev main_v22 : Ref sig .tc := ⟨.hbm, 310, rfl⟩
abbrev main_v23 : Ref sig .tc := ⟨.hbm, 311, rfl⟩
abbrev main_v24 : Ref sig .tc := ⟨.hbm, 312, rfl⟩
abbrev main_v25 : Ref sig .tc := ⟨.hbm, 313, rfl⟩
abbrev main_v26 : Ref sig .tc := ⟨.hbm, 314, rfl⟩
abbrev main_v27 : Ref sig .tc := ⟨.hbm, 315, rfl⟩
abbrev main_v28 : Ref sig .tc := ⟨.hbm, 316, rfl⟩
abbrev main_v29 : Ref sig .tc := ⟨.hbm, 317, rfl⟩
abbrev main_v30 : Ref sig .tc := ⟨.hbm, 318, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x768x3072 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x3072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x3072x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2048x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2048x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== ReferenceIdeal.lean ====
abbrev S1x2048x768 : Shape := ⟨3, ![1, 2048, 768]⟩
abbrev S768x8 : Shape := ⟨2, ![768, 8]⟩
abbrev S8 : Shape := ⟨1, ![8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S1x2048x8 : Shape := ⟨3, ![1, 2048, 8]⟩
abbrev S1x1x8 : Shape := ⟨3, ![1, 1, 8]⟩
abbrev S_ : Shape := ⟨0, ![]⟩
abbrev S1 : Shape := ⟨1, ![1]⟩
abbrev S2 : Shape := ⟨1, ![2]⟩
abbrev S1x1x1 : Shape := ⟨3, ![1, 1, 1]⟩
abbrev S1x2048x2 : Shape := ⟨3, ![1, 2048, 2]⟩
abbrev S1x2048x2x1 : Shape := ⟨4, ![1, 2048, 2, 1]⟩
abbrev S1x1x1x8 : Shape := ⟨4, ![1, 1, 1, 8]⟩
abbrev S1x2048x2x8 : Shape := ⟨4, ![1, 2048, 2, 8]⟩
abbrev S1x2048 : Shape := ⟨2, ![1, 2048]⟩
abbrev S1x2048x1 : Shape := ⟨3, ![1, 2048, 1]⟩
abbrev S2048x768 : Shape := ⟨2, ![2048, 768]⟩
abbrev S2048x8x3072 : Shape := ⟨3, ![2048, 8, 3072]⟩
abbrev S1x8x3072 : Shape := ⟨3, ![1, 8, 3072]⟩
abbrev S8x768x2048 : Shape := ⟨3, ![8, 768, 2048]⟩
abbrev S2048x8x768 : Shape := ⟨3, ![2048, 8, 768]⟩
abbrev S1x8x768 : Shape := ⟨3, ![1, 8, 768]⟩
abbrev S2048x8 : Shape := ⟨2, ![2048, 8]⟩

abbrev nBuf : Space → Nat
  | .hbm => 359
  | .vmem => 0
  | .smem => 0
  | _ => 0

abbrev hbmTy0_0 (i : Nat) : BufTy := match i % 128 with
  | 0 => ⟨S1x2048x768, .f32⟩
  | 1 => ⟨S768x8, .f32⟩
  | 2 => ⟨S8, .f32⟩
  | 3 => ⟨S768x8, .f32⟩
  | 4 => ⟨S8, .f32⟩
  | 5 => ⟨S8x768x3072, .f32⟩
  | 6 => ⟨S8x3072, .f32⟩
  | 7 => ⟨S8x3072x768, .f32⟩
  | 8 => ⟨S8x768, .f32⟩
  | 9 => ⟨S1x2048x8, .f32⟩
  | 10 => ⟨S1x1x8, .f32⟩
  | 11 => ⟨S1x2048x8, .f32⟩
  | 12 => ⟨S1x2048x8, .f32⟩
  | 13 => ⟨S1x2048x8, .f32⟩
  | 14 => ⟨S1x1x8, .f32⟩
  | 15 => ⟨S1x2048x8, .f32⟩
  | 16 => ⟨S1x2048x8, .f32⟩
  | 17 => ⟨S_, .f32⟩
  | 18 => ⟨S1x2048x8, .f32⟩
  | 19 => ⟨S1x2048x8, .f32⟩
  | 20 => ⟨S1x2048x8, .f32⟩
  | 21 => ⟨S1x2048x8, .f32⟩
  | 22 => ⟨S1x2048x8, .i1⟩
  | 23 => ⟨S1x2048x8, .f32⟩
  | 24 => ⟨S1x2048x8, .f32⟩
  | 25 => ⟨S1x2048x8, .f32⟩
  | 26 => ⟨S1x2048x8, .f32⟩
  | 27 => ⟨S1x2048x8, .f32⟩
  | 28 => ⟨S1x2048x8, .f32⟩
  | 29 => ⟨S1x2048x8, .f32⟩
  | 30 => ⟨S1x2048x8, .f32⟩
  | 31 => ⟨S_, .i32⟩
  | 32 => ⟨S_, .i32⟩
  | 33 => ⟨S_, .i32⟩
  | 34 => ⟨S_, .i32⟩
  | 35 => ⟨S1, .i32⟩
  | 36 => ⟨S_, .i32⟩
  | 37 => ⟨S_, .i32⟩
  | 38 => ⟨S_, .i32⟩
  | 39 => ⟨S1, .i32⟩
  | 40 => ⟨S2, .i32⟩
  | 41 => ⟨S_, .f32⟩
  | 42 => ⟨S_, .f32⟩
  | 43 => ⟨S_, .f32⟩
  | 44 => ⟨S_, .f32⟩
  | 45 => ⟨S1x1x1, .f32⟩
  | 46 => ⟨S1x1x1, .f32⟩
  | 47 => ⟨S1, .i32⟩
  | 48 => ⟨S_, .i32⟩
  | 49 => ⟨S1, .i32⟩
  | 50 => ⟨S_, .i32⟩
  | 51 => ⟨S1x2048x8, .i64⟩
  | 52 => ⟨S1x2048x8, .i64⟩
  | 53 => ⟨S1x2048x8, .i64⟩
  | 54 => ⟨S_, .i64⟩
  | 55 => ⟨S1x2048x8, .i64⟩
  | 56 => ⟨S1x2048x8, .i64⟩
  | 57 => ⟨S_, .i64⟩
  | 58 => ⟨S1x2048x8, .i64⟩
  | 59 => ⟨S1x2048x8, .i64⟩
  | 60 => ⟨S_, .i64⟩
  | 61 => ⟨S1x2048x8, .i64⟩
  | 62 => ⟨S1x2048x8, .i64⟩
  | 63 => ⟨S1x2048x8, .i64⟩
  | 64 => ⟨S1x2048x8, .i64⟩
  | 65 => ⟨S_, .i64⟩
  | 66 => ⟨S1x2048x8, .i64⟩
  | 67 => ⟨S1x2048x8, .i64⟩
  | 68 => ⟨S1x2048x8, .i32⟩
  | 69 => ⟨S1x2048x8, .i32⟩
  | 70 => ⟨S_, .i32⟩
  | 71 => ⟨S_, .i32⟩
  | 72 => ⟨S_, .i32⟩
  | 73 => ⟨S1x2048x8, .i32⟩
  | 74 => ⟨S1x2048x8, .i32⟩
  | 75 => ⟨S1x2048x8, .i32⟩
  | 76 => ⟨S1x2048x8, .i32⟩
  | 77 => ⟨S1x2048x8, .i32⟩
  | 78 => ⟨S_, .i32⟩
  | 79 => ⟨S1x2048x8, .i32⟩
  | 80 => ⟨S1x2048x8, .i32⟩
  | 81 => ⟨S_, .i32⟩
  | 82 => ⟨S1x2048x8, .i32⟩
  | 83 => ⟨S1x2048x8, .i32⟩
  | 84 => ⟨S1x2048x8, .i32⟩
  | 85 => ⟨S1x2048x8, .i32⟩
  | 86 => ⟨S1x2048x8, .i32⟩
  | 87 => ⟨S_, .i32⟩
  | 88 => ⟨S1x2048x8, .i32⟩
  | 89 => ⟨S1x2048x8, .i32⟩
  | 90 => ⟨S_, .i32⟩
  | 91 => ⟨S1x2048x8, .i32⟩
  | 92 => ⟨S1x2048x8, .i32⟩
  | 93 => ⟨S1x2048x8, .i32⟩
  | 94 => ⟨S1x2048x8, .i32⟩
  | 95 => ⟨S1x2048x8, .i32⟩
  | 96 => ⟨S_, .i32⟩
  | 97 => ⟨S1x2048x8, .i32⟩
  | 98 => ⟨S1x2048x8, .i32⟩
  | 99 => ⟨S_, .i32⟩
  | 100 => ⟨S1x2048x8, .i32⟩
  | 101 => ⟨S1x2048x8, .i32⟩
  | 102 => ⟨S1x2048x8, .i32⟩
  | 103 => ⟨S1x2048x8, .i32⟩
  | 104 => ⟨S1x2048x8, .i32⟩
  | 105 => ⟨S_, .i32⟩
  | 106 => ⟨S1x2048x8, .i32⟩
  | 107 => ⟨S1x2048x8, .i32⟩
  | 108 => ⟨S_, .i32⟩
  | 109 => ⟨S1x2048x8, .i32⟩
  | 110 => ⟨S1x2048x8, .i32⟩
  | 111 => ⟨S1x2048x8, .i32⟩
  | 112 => ⟨S1x2048x8, .i32⟩
  | 113 => ⟨S1x2048x8, .i32⟩
  | 114 => ⟨S1x2048x8, .i32⟩
  | 115 => ⟨S1x2048x8, .i32⟩
  | 116 => ⟨S1x2048x8, .i32⟩
  | 117 => ⟨S_, .i32⟩
  | 118 => ⟨S1x2048x8, .i32⟩
  | 119 => ⟨S1x2048x8, .i32⟩
  | 120 => ⟨S1x2048x8, .i32⟩
  | 121 => ⟨S_, .i32⟩
  | 122 => ⟨S1x2048x8, .i32⟩
  | 123 => ⟨S1x2048x8, .i32⟩
  | 124 => ⟨S_, .i32⟩
  | 125 => ⟨S1x2048x8, .i32⟩
  | 126 => ⟨S1x2048x8, .i32⟩
  | 127 => ⟨S1x2048x8, .i32⟩
  | _ => ⟨S1x2048x768, .f32⟩

abbrev hbmTy0_1 (i : Nat) : BufTy := match i % 128 with
  | 0 => ⟨S1x2048x8, .i32⟩
  | 1 => ⟨S1x2048x8, .i32⟩
  | 2 => ⟨S_, .i32⟩
  | 3 => ⟨S1x2048x8, .i32⟩
  | 4 => ⟨S1x2048x8, .i32⟩
  | 5 => ⟨S_, .i32⟩
  | 6 => ⟨S1x2048x8, .i32⟩
  | 7 => ⟨S1x2048x8, .i32⟩
  | 8 => ⟨S1x2048x8, .i32⟩
  | 9 => ⟨S1x2048x8, .i32⟩
  | 10 => ⟨S1x2048x8, .i32⟩
  | 11 => ⟨S_, .i32⟩
  | 12 => ⟨S1x2048x8, .i32⟩
  | 13 => ⟨S1x2048x8, .i32⟩
  | 14 => ⟨S_, .i32⟩
  | 15 => ⟨S1x2048x8, .i32⟩
  | 16 => ⟨S1x2048x8, .i32⟩
  | 17 => ⟨S1x2048x8, .i32⟩
  | 18 => ⟨S1x2048x8, .i32⟩
  | 19 => ⟨S1x2048x8, .i32⟩
  | 20 => ⟨S_, .i32⟩
  | 21 => ⟨S1x2048x8, .i32⟩
  | 22 => ⟨S1x2048x8, .i32⟩
  | 23 => ⟨S_, .i32⟩
  | 24 => ⟨S1x2048x8, .i32⟩
  | 25 => ⟨S1x2048x8, .i32⟩
  | 26 => ⟨S1x2048x8, .i32⟩
  | 27 => ⟨S1x2048x8, .i32⟩
  | 28 => ⟨S1x2048x8, .i32⟩
  | 29 => ⟨S1x2048x8, .i32⟩
  | 30 => ⟨S1x2048x8, .i32⟩
  | 31 => ⟨S1x2048x8, .i32⟩
  | 32 => ⟨S_, .i32⟩
  | 33 => ⟨S1x2048x8, .i32⟩
  | 34 => ⟨S1x2048x8, .i32⟩
  | 35 => ⟨S1x2048x8, .i32⟩
  | 36 => ⟨S_, .i32⟩
  | 37 => ⟨S1x2048x8, .i32⟩
  | 38 => ⟨S1x2048x8, .i32⟩
  | 39 => ⟨S_, .i32⟩
  | 40 => ⟨S1x2048x8, .i32⟩
  | 41 => ⟨S1x2048x8, .i32⟩
  | 42 => ⟨S1x2048x8, .i32⟩
  | 43 => ⟨S1x2048x8, .i32⟩
  | 44 => ⟨S1x2048x8, .i32⟩
  | 45 => ⟨S_, .i32⟩
  | 46 => ⟨S1x2048x8, .i32⟩
  | 47 => ⟨S1x2048x8, .i32⟩
  | 48 => ⟨S_, .i32⟩
  | 49 => ⟨S1x2048x8, .i32⟩
  | 50 => ⟨S1x2048x8, .i32⟩
  | 51 => ⟨S1x2048x8, .i32⟩
  | 52 => ⟨S1x2048x8, .i32⟩
  | 53 => ⟨S1x2048x8, .i32⟩
  | 54 => ⟨S_, .i32⟩
  | 55 => ⟨S1x2048x8, .i32⟩
  | 56 => ⟨S1x2048x8, .i32⟩
  | 57 => ⟨S_, .i32⟩
  | 58 => ⟨S1x2048x8, .i32⟩
  | 59 => ⟨S1x2048x8, .i32⟩
  | 60 => ⟨S1x2048x8, .i32⟩
  | 61 => ⟨S1x2048x8, .i32⟩
  | 62 => ⟨S1x2048x8, .i32⟩
  | 63 => ⟨S_, .i32⟩
  | 64 => ⟨S1x2048x8, .i32⟩
  | 65 => ⟨S1x2048x8, .i32⟩
  | 66 => ⟨S_, .i32⟩
  | 67 => ⟨S1x2048x8, .i32⟩
  | 68 => ⟨S1x2048x8, .i32⟩
  | 69 => ⟨S1x2048x8, .i32⟩
  | 70 => ⟨S1x2048x8, .i32⟩
  | 71 => ⟨S1x2048x8, .i32⟩
  | 72 => ⟨S1x2048x8, .i32⟩
  | 73 => ⟨S1x2048x8, .i32⟩
  | 74 => ⟨S1x2048x8, .i32⟩
  | 75 => ⟨S_, .i32⟩
  | 76 => ⟨S1x2048x8, .i32⟩
  | 77 => ⟨S1x2048x8, .i32⟩
  | 78 => ⟨S1x2048x8, .i32⟩
  | 79 => ⟨S_, .i32⟩
  | 80 => ⟨S1x2048x8, .i32⟩
  | 81 => ⟨S1x2048x8, .i32⟩
  | 82 => ⟨S_, .i32⟩
  | 83 => ⟨S1x2048x8, .i32⟩
  | 84 => ⟨S1x2048x8, .i32⟩
  | 85 => ⟨S1x2048x8, .i32⟩
  | 86 => ⟨S1x2048x8, .i32⟩
  | 87 => ⟨S1x2048x8, .i32⟩
  | 88 => ⟨S_, .i32⟩
  | 89 => ⟨S1x2048x8, .i32⟩
  | 90 => ⟨S1x2048x8, .i32⟩
  | 91 => ⟨S_, .i32⟩
  | 92 => ⟨S1x2048x8, .i32⟩
  | 93 => ⟨S1x2048x8, .i32⟩
  | 94 => ⟨S1x2048x8, .i32⟩
  | 95 => ⟨S1x2048x8, .i32⟩
  | 96 => ⟨S1x2048x8, .i32⟩
  | 97 => ⟨S_, .i32⟩
  | 98 => ⟨S1x2048x8, .i32⟩
  | 99 => ⟨S1x2048x8, .i32⟩
  | 100 => ⟨S_, .i32⟩
  | 101 => ⟨S1x2048x8, .i32⟩
  | 102 => ⟨S1x2048x8, .i32⟩
  | 103 => ⟨S1x2048x8, .i32⟩
  | 104 => ⟨S1x2048x8, .i32⟩
  | 105 => ⟨S1x2048x8, .i32⟩
  | 106 => ⟨S_, .i32⟩
  | 107 => ⟨S1x2048x8, .i32⟩
  | 108 => ⟨S1x2048x8, .i32⟩
  | 109 => ⟨S_, .i32⟩
  | 110 => ⟨S1x2048x8, .i32⟩
  | 111 => ⟨S1x2048x8, .i32⟩
  | 112 => ⟨S1x2048x8, .i32⟩
  | 113 => ⟨S1x2048x8, .i32⟩
  | 114 => ⟨S1x2048x8, .i32⟩
  | 115 => ⟨S1x2048x8, .i32⟩
  | 116 => ⟨S1x2048x8, .i32⟩
  | 117 => ⟨S1x2048x8, .i32⟩
  | 118 => ⟨S_, .i32⟩
  | 119 => ⟨S1x2048x8, .i32⟩
  | 120 => ⟨S1x2048x8, .i32⟩
  | 121 => ⟨S1x2048x8, .i32⟩
  | 122 => ⟨S_, .i32⟩
  | 123 => ⟨S1x2048x8, .i32⟩
  | 124 => ⟨S1x2048x8, .i32⟩
  | 125 => ⟨S_, .i32⟩
  | 126 => ⟨S1x2048x8, .i32⟩
  | 127 => ⟨S1x2048x8, .i32⟩
  | _ => ⟨S1x2048x768, .f32⟩

abbrev hbmTy0_2 (i : Nat) : BufTy := match i % 128 with
  | 0 => ⟨S1x2048x8, .i32⟩
  | 1 => ⟨S1x2048x8, .i32⟩
  | 2 => ⟨S1x2048x8, .i32⟩
  | 3 => ⟨S_, .i32⟩
  | 4 => ⟨S1x2048x8, .i32⟩
  | 5 => ⟨S1x2048x8, .i32⟩
  | 6 => ⟨S_, .i32⟩
  | 7 => ⟨S1x2048x8, .i32⟩
  | 8 => ⟨S1x2048x8, .i32⟩
  | 9 => ⟨S1x2048x8, .i32⟩
  | 10 => ⟨S1x2048x8, .i32⟩
  | 11 => ⟨S1x2048x8, .i32⟩
  | 12 => ⟨S_, .i32⟩
  | 13 => ⟨S1x2048x8, .i32⟩
  | 14 => ⟨S1x2048x8, .i32⟩
  | 15 => ⟨S_, .i32⟩
  | 16 => ⟨S1x2048x8, .i32⟩
  | 17 => ⟨S1x2048x8, .i32⟩
  | 18 => ⟨S1x2048x8, .i32⟩
  | 19 => ⟨S1x2048x8, .i32⟩
  | 20 => ⟨S1x2048x8, .i32⟩
  | 21 => ⟨S_, .i32⟩
  | 22 => ⟨S1x2048x8, .i32⟩
  | 23 => ⟨S1x2048x8, .i32⟩
  | 24 => ⟨S_, .i32⟩
  | 25 => ⟨S1x2048x8, .i32⟩
  | 26 => ⟨S1x2048x8, .i32⟩
  | 27 => ⟨S1x2048x8, .i32⟩
  | 28 => ⟨S1x2048x8, .i32⟩
  | 29 => ⟨S1x2048x8, .i32⟩
  | 30 => ⟨S1x2048x8, .i32⟩
  | 31 => ⟨S1x2048x8, .i32⟩
  | 32 => ⟨S1x2048x8, .i32⟩
  | 33 => ⟨S_, .i32⟩
  | 34 => ⟨S1x2048x8, .i32⟩
  | 35 => ⟨S1x2048x8, .i32⟩
  | 36 => ⟨S1x2048x8, .i32⟩
  | 37 => ⟨S_, .i32⟩
  | 38 => ⟨S1x2048x8, .i32⟩
  | 39 => ⟨S1x2048x8, .i32⟩
  | 40 => ⟨S_, .i32⟩
  | 41 => ⟨S1x2048x8, .i32⟩
  | 42 => ⟨S1x2048x8, .i32⟩
  | 43 => ⟨S1x2048x8, .f32⟩
  | 44 => ⟨S_, .f32⟩
  | 45 => ⟨S1x2048x8, .f32⟩
  | 46 => ⟨S1x2048x8, .f32⟩
  | 47 => ⟨S1x1x1, .f32⟩
  | 48 => ⟨S1x2048x8, .f32⟩
  | 49 => ⟨S1x2048x8, .f32⟩
  | 50 => ⟨S1x2048x8, .f32⟩
  | 51 => ⟨S1x2048x8, .f32⟩
  | 52 => ⟨S1x2048x8, .f32⟩
  | 53 => ⟨S1x2048x8, .f32⟩
  | 54 => ⟨S1x2048x8, .f32⟩
  | 55 => ⟨S1x2048x8, .f32⟩
  | 56 => ⟨S1x2048x2, .f32⟩
  | 57 => ⟨S1x2048x2, .i32⟩
  | 58 => ⟨S1x2048x2x1, .i32⟩
  | 59 => ⟨S1x1x1x8, .i32⟩
  | 60 => ⟨S1x2048x2x8, .i32⟩
  | 61 => ⟨S1x2048x2x8, .i32⟩
  | 62 => ⟨S1x2048x2x8, .i1⟩
  | 63 => ⟨S1x2048x2x8, .f32⟩
  | 64 => ⟨S_, .f32⟩
  | 65 => ⟨S1x2048x8, .f32⟩
  | 66 => ⟨S_, .f32⟩
  | 67 => ⟨S1x2048x8, .f32⟩
  | 68 => ⟨S1x2048x8, .i1⟩
  | 69 => ⟨S_, .f32⟩
  | 70 => ⟨S_, .f32⟩
  | 71 => ⟨S1x2048x8, .f32⟩
  | 72 => ⟨S1x2048x8, .f32⟩
  | 73 => ⟨S_, .f32⟩
  | 74 => ⟨S1x2048, .f32⟩
  | 75 => ⟨S_, .f32⟩
  | 76 => ⟨S1x2048, .f32⟩
  | 77 => ⟨S1x2048, .f32⟩
  | 78 => ⟨S1x2048x1, .f32⟩
  | 79 => ⟨S1x2048x8, .f32⟩
  | 80 => ⟨S1x2048x8, .f32⟩
  | 81 => ⟨S1x2048x8, .f32⟩
  | 82 => ⟨S_, .f32⟩
  | 83 => ⟨S1x2048, .f32⟩
  | 84 => ⟨S1x2048x1, .f32⟩
  | 85 => ⟨S1x2048x8, .f32⟩
  | 86 => ⟨S1x2048x8, .f32⟩
  | 87 => ⟨S2048x768, .f32⟩
  | 88 => ⟨S2048x8x3072, .f32⟩
  | 89 => ⟨S1x8x3072, .f32⟩
  | 90 => ⟨S2048x8x3072, .f32⟩
  | 91 => ⟨S2048x8x3072, .f32⟩
  | 92 => ⟨S_, .f32⟩
  | 93 => ⟨S2048x8x3072, .f32⟩
  | 94 => ⟨S2048x8x3072, .f32⟩
  | 95 => ⟨S8x768x2048, .f32⟩
  | 96 => ⟨S2048x8x768, .f32⟩
  | 97 => ⟨S1x8x768, .f32⟩
  | 98 => ⟨S2048x8x768, .f32⟩
  | 99 => ⟨S2048x8x768, .f32⟩
  | 100 => ⟨S2048x8, .f32⟩
  | 101 => ⟨S2048x768, .f32⟩
  | 102 => ⟨S1x2048x768, .f32⟩
  | _ => ⟨S1x2048x768, .f32⟩

abbrev hbmTy (i : Nat) : BufTy := match i / 128 with
  | 0 => hbmTy0_0 i
  | 1 => hbmTy0_1 i
  | 2 => hbmTy0_2 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v8 : Ref sig .tc := ⟨.hbm, 30, rfl⟩
abbrev main_c : Ref sig .tc := ⟨.hbm, 31, rfl⟩
abbrev main_c_0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c_1 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst : Ref sig .tc := ⟨.hbm, 41, rfl⟩
abbrev main_cst_2 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_c : Ref sig .tc := ⟨.hbm, 54, rfl⟩
abbrev main_call1_v11 : Ref sig .tc := ⟨.hbm, 55, rfl⟩
abbrev main_call1_v12 : Ref sig .tc := ⟨.hbm, 56, rfl⟩
abbrev main_call1_c_0 : Ref sig .tc := ⟨.hbm, 57, rfl⟩
abbrev main_call1_v13 : Ref sig .tc := ⟨.hbm, 58, rfl⟩
abbrev main_call1_v14 : Ref sig .tc := ⟨.hbm, 59, rfl⟩
abbrev main_call1_c_1 : Ref sig .tc := ⟨.hbm, 60, rfl⟩
abbrev main_call1_v15 : Ref sig .tc := ⟨.hbm, 61, rfl⟩
abbrev main_call1_v16 : Ref sig .tc := ⟨.hbm, 62, rfl⟩
abbrev main_call1_v17 : Ref sig .tc := ⟨.hbm, 63, rfl⟩
abbrev main_call1_v18 : Ref sig .tc := ⟨.hbm, 64, rfl⟩
abbrev main_call1_c_2 : Ref sig .tc := ⟨.hbm, 65, rfl⟩
abbrev main_call1_v19 : Ref sig .tc := ⟨.hbm, 66, rfl⟩
abbrev main_call1_v20 : Ref sig .tc := ⟨.hbm, 67, rfl⟩
abbrev main_call1_v21 : Ref sig .tc := ⟨.hbm, 68, rfl⟩
abbrev main_call1_v22 : Ref sig .tc := ⟨.hbm, 69, rfl⟩
abbrev main_call1_call0_v0 : Ref sig .tc := ⟨.hbm, 70, rfl⟩
abbrev main_call1_call0_c : Ref sig .tc := ⟨.hbm, 71, rfl⟩
abbrev main_call1_call0_v1 : Ref sig .tc := ⟨.hbm, 72, rfl⟩
abbrev main_call1_call0_v2 : Ref sig .tc := ⟨.hbm, 73, rfl⟩
abbrev main_call1_call0_v3 : Ref sig .tc := ⟨.hbm, 74, rfl⟩
abbrev main_call1_call0_v4 : Ref sig .tc := ⟨.hbm, 75, rfl⟩
abbrev main_call1_call0_v5 : Ref sig .tc := ⟨.hbm, 76, rfl⟩
abbrev main_call1_call0_v6 : Ref sig .tc := ⟨.hbm, 77, rfl⟩
abbrev main_call1_call0_c_0 : Ref sig .tc := ⟨.hbm, 78, rfl⟩
abbrev main_call1_call0_v7 : Ref sig .tc := ⟨.hbm, 79, rfl⟩
abbrev main_call1_call0_v8 : Ref sig .tc := ⟨.hbm, 80, rfl⟩
abbrev main_call1_call0_c_1 : Ref sig .tc := ⟨.hbm, 81, rfl⟩
abbrev main_call1_call0_v9 : Ref sig .tc := ⟨.hbm, 82, rfl⟩
abbrev main_call1_call0_v10 : Ref sig .tc := ⟨.hbm, 83, rfl⟩
abbrev main_call1_call0_v11 : Ref sig .tc := ⟨.hbm, 84, rfl⟩
abbrev main_call1_call0_v12 : Ref sig .tc := ⟨.hbm, 85, rfl⟩
abbrev main_call1_call0_v13 : Ref sig .tc := ⟨.hbm, 86, rfl⟩
abbrev main_call1_call0_c_2 : Ref sig .tc := ⟨.hbm, 87, rfl⟩
abbrev main_call1_call0_v14 : Ref sig .tc := ⟨.hbm, 88, rfl⟩
abbrev main_call1_call0_v15 : Ref sig .tc := ⟨.hbm, 89, rfl⟩
abbrev main_call1_call0_c_3 : Ref sig .tc := ⟨.hbm, 90, rfl⟩
abbrev main_call1_call0_v16 : Ref sig .tc := ⟨.hbm, 91, rfl⟩
abbrev main_call1_call0_v17 : Ref sig .tc := ⟨.hbm, 92, rfl⟩
abbrev main_call1_call0_v18 : Ref sig .tc := ⟨.hbm, 93, rfl⟩
abbrev main_call1_call0_v19 : Ref sig .tc := ⟨.hbm, 94, rfl⟩
abbrev main_call1_call0_v20 : Ref sig .tc := ⟨.hbm, 95, rfl⟩
abbrev main_call1_call0_c_4 : Ref sig .tc := ⟨.hbm, 96, rfl⟩
abbrev main_call1_call0_v21 : Ref sig .tc := ⟨.hbm, 97, rfl⟩
abbrev main_call1_call0_v22 : Ref sig .tc := ⟨.hbm, 98, rfl⟩
abbrev main_call1_call0_c_5 : Ref sig .tc := ⟨.hbm, 99, rfl⟩
abbrev main_call1_call0_v23 : Ref sig .tc := ⟨.hbm, 100, rfl⟩
abbrev main_call1_call0_v24 : Ref sig .tc := ⟨.hbm, 101, rfl⟩
abbrev main_call1_call0_v25 : Ref sig .tc := ⟨.hbm, 102, rfl⟩
abbrev main_call1_call0_v26 : Ref sig .tc := ⟨.hbm, 103, rfl⟩
abbrev main_call1_call0_v27 : Ref sig .tc := ⟨.hbm, 104, rfl⟩
abbrev main_call1_call0_c_6 : Ref sig .tc := ⟨.hbm, 105, rfl⟩
abbrev main_call1_call0_v28 : Ref sig .tc := ⟨.hbm, 106, rfl⟩
abbrev main_call1_call0_v29 : Ref sig .tc := ⟨.hbm, 107, rfl⟩
abbrev main_call1_call0_c_7 : Ref sig .tc := ⟨.hbm, 108, rfl⟩
abbrev main_call1_call0_v30 : Ref sig .tc := ⟨.hbm, 109, rfl⟩
abbrev main_call1_call0_v31 : Ref sig .tc := ⟨.hbm, 110, rfl⟩
abbrev main_call1_call0_v32 : Ref sig .tc := ⟨.hbm, 111, rfl⟩
abbrev main_call1_call0_v33 : Ref sig .tc := ⟨.hbm, 112, rfl⟩
abbrev main_call1_call0_v34 : Ref sig .tc := ⟨.hbm, 113, rfl⟩
abbrev main_call1_call0_v35 : Ref sig .tc := ⟨.hbm, 114, rfl⟩
abbrev main_call1_call0_v36 : Ref sig .tc := ⟨.hbm, 115, rfl⟩
abbrev main_call1_call0_v37 : Ref sig .tc := ⟨.hbm, 116, rfl⟩
abbrev main_call1_call0_c_8 : Ref sig .tc := ⟨.hbm, 117, rfl⟩
abbrev main_call1_call0_v38 : Ref sig .tc := ⟨.hbm, 118, rfl⟩
abbrev main_call1_call0_v39 : Ref sig .tc := ⟨.hbm, 119, rfl⟩
abbrev main_call1_call0_v40 : Ref sig .tc := ⟨.hbm, 120, rfl⟩
abbrev main_call1_call0_c_9 : Ref sig .tc := ⟨.hbm, 121, rfl⟩
abbrev main_call1_call0_v41 : Ref sig .tc := ⟨.hbm, 122, rfl⟩
abbrev main_call1_call0_v42 : Ref sig .tc := ⟨.hbm, 123, rfl⟩
abbrev main_call1_call0_c_10 : Ref sig .tc := ⟨.hbm, 124, rfl⟩
abbrev main_call1_call0_v43 : Ref sig .tc := ⟨.hbm, 125, rfl⟩
abbrev main_call1_call0_v44 : Ref sig .tc := ⟨.hbm, 126, rfl⟩
abbrev main_call1_call0_v45 : Ref sig .tc := ⟨.hbm, 127, rfl⟩
abbrev main_call1_call0_v46 : Ref sig .tc := ⟨.hbm, 128, rfl⟩
abbrev main_call1_call0_v47 : Ref sig .tc := ⟨.hbm, 129, rfl⟩
abbrev main_call1_call0_c_11 : Ref sig .tc := ⟨.hbm, 130, rfl⟩
abbrev main_call1_call0_v48 : Ref sig .tc := ⟨.hbm, 131, rfl⟩
abbrev main_call1_call0_v49 : Ref sig .tc := ⟨.hbm, 132, rfl⟩
abbrev main_call1_call0_c_12 : Ref sig .tc := ⟨.hbm, 133, rfl⟩
abbrev main_call1_call0_v50 : Ref sig .tc := ⟨.hbm, 134, rfl⟩
abbrev main_call1_call0_v51 : Ref sig .tc := ⟨.hbm, 135, rfl⟩
abbrev main_call1_call0_v52 : Ref sig .tc := ⟨.hbm, 136, rfl⟩
abbrev main_call1_call0_v53 : Ref sig .tc := ⟨.hbm, 137, rfl⟩
abbrev main_call1_call0_v54 : Ref sig .tc := ⟨.hbm, 138, rfl⟩
abbrev main_call1_call0_c_13 : Ref sig .tc := ⟨.hbm, 139, rfl⟩
abbrev main_call1_call0_v55 : Ref sig .tc := ⟨.hbm, 140, rfl⟩
abbrev main_call1_call0_v56 : Ref sig .tc := ⟨.hbm, 141, rfl⟩
abbrev main_call1_call0_c_14 : Ref sig .tc := ⟨.hbm, 142, rfl⟩
abbrev main_call1_call0_v57 : Ref sig .tc := ⟨.hbm, 143, rfl⟩
abbrev main_call1_call0_v58 : Ref sig .tc := ⟨.hbm, 144, rfl⟩
abbrev main_call1_call0_v59 : Ref sig .tc := ⟨.hbm, 145, rfl⟩
abbrev main_call1_call0_v60 : Ref sig .tc := ⟨.hbm, 146, rfl⟩
abbrev main_call1_call0_v61 : Ref sig .tc := ⟨.hbm, 147, rfl⟩
abbrev main_call1_call0_c_15 : Ref sig .tc := ⟨.hbm, 148, rfl⟩
abbrev main_call1_call0_v62 : Ref sig .tc := ⟨.hbm, 149, rfl⟩
abbrev main_call1_call0_v63 : Ref sig .tc := ⟨.hbm, 150, rfl⟩
abbrev main_call1_call0_c_16 : Ref sig .tc := ⟨.hbm, 151, rfl⟩
abbrev main_call1_call0_v64 : Ref sig .tc := ⟨.hbm, 152, rfl⟩
abbrev main_call1_call0_v65 : Ref sig .tc := ⟨.hbm, 153, rfl⟩
abbrev main_call1_call0_v66 : Ref sig .tc := ⟨.hbm, 154, rfl⟩
abbrev main_call1_call0_v67 : Ref sig .tc := ⟨.hbm, 155, rfl⟩
abbrev main_call1_call0_v68 : Ref sig .tc := ⟨.hbm, 156, rfl⟩
abbrev main_call1_call0_v69 : Ref sig .tc := ⟨.hbm, 157, rfl⟩
abbrev main_call1_call0_v70 : Ref sig .tc := ⟨.hbm, 158, rfl⟩
abbrev main_call1_call0_v71 : Ref sig .tc := ⟨.hbm, 159, rfl⟩
abbrev main_call1_call0_c_17 : Ref sig .tc := ⟨.hbm, 160, rfl⟩
abbrev main_call1_call0_v72 : Ref sig .tc := ⟨.hbm, 161, rfl⟩
abbrev main_call1_call0_v73 : Ref sig .tc := ⟨.hbm, 162, rfl⟩
abbrev main_call1_call0_v74 : Ref sig .tc := ⟨.hbm, 163, rfl⟩
abbrev main_call1_call0_c_18 : Ref sig .tc := ⟨.hbm, 164, rfl⟩
abbrev main_call1_call0_v75 : Ref sig .tc := ⟨.hbm, 165, rfl⟩
abbrev main_call1_call0_v76 : Ref sig .tc := ⟨.hbm, 166, rfl⟩
abbrev main_call1_call0_c_19 : Ref sig .tc := ⟨.hbm, 167, rfl⟩
abbrev main_call1_call0_v77 : Ref sig .tc := ⟨.hbm, 168, rfl⟩
abbrev main_call1_call0_v78 : Ref sig .tc := ⟨.hbm, 169, rfl⟩
abbrev main_call1_call0_v79 : Ref sig .tc := ⟨.hbm, 170, rfl⟩
abbrev main_call1_call0_v80 : Ref sig .tc := ⟨.hbm, 171, rfl⟩
abbrev main_call1_call0_v81 : Ref sig .tc := ⟨.hbm, 172, rfl⟩
abbrev main_call1_call0_c_20 : Ref sig .tc := ⟨.hbm, 173, rfl⟩
abbrev main_call1_call0_v82 : Ref sig .tc := ⟨.hbm, 174, rfl⟩
abbrev main_call1_call0_v83 : Ref sig .tc := ⟨.hbm, 175, rfl⟩
abbrev main_call1_call0_c_21 : Ref sig .tc := ⟨.hbm, 176, rfl⟩
abbrev main_call1_call0_v84 : Ref sig .tc := ⟨.hbm, 177, rfl⟩
abbrev main_call1_call0_v85 : Ref sig .tc := ⟨.hbm, 178, rfl⟩
abbrev main_call1_call0_v86 : Ref sig .tc := ⟨.hbm, 179, rfl⟩
abbrev main_call1_call0_v87 : Ref sig .tc := ⟨.hbm, 180, rfl⟩
abbrev main_call1_call0_v88 : Ref sig .tc := ⟨.hbm, 181, rfl⟩
abbrev main_call1_call0_c_22 : Ref sig .tc := ⟨.hbm, 182, rfl⟩
abbrev main_call1_call0_v89 : Ref sig .tc := ⟨.hbm, 183, rfl⟩
abbrev main_call1_call0_v90 : Ref sig .tc := ⟨.hbm, 184, rfl⟩
abbrev main_call1_call0_c_23 : Ref sig .tc := ⟨.hbm, 185, rfl⟩
abbrev main_call1_call0_v91 : Ref sig .tc := ⟨.hbm, 186, rfl⟩
abbrev main_call1_call0_v92 : Ref sig .tc := ⟨.hbm, 187, rfl⟩
abbrev main_call1_call0_v93 : Ref sig .tc := ⟨.hbm, 188, rfl⟩
abbrev main_call1_call0_v94 : Ref sig .tc := ⟨.hbm, 189, rfl⟩
abbrev main_call1_call0_v95 : Ref sig .tc := ⟨.hbm, 190, rfl⟩
abbrev main_call1_call0_c_24 : Ref sig .tc := ⟨.hbm, 191, rfl⟩
abbrev main_call1_call0_v96 : Ref sig .tc := ⟨.hbm, 192, rfl⟩
abbrev main_call1_call0_v97 : Ref sig .tc := ⟨.hbm, 193, rfl⟩
abbrev main_call1_call0_c_25 : Ref sig .tc := ⟨.hbm, 194, rfl⟩
abbrev main_call1_call0_v98 : Ref sig .tc := ⟨.hbm, 195, rfl⟩
abbrev main_call1_call0_v99 : Ref sig .tc := ⟨.hbm, 196, rfl⟩
abbrev main_call1_call0_v100 : Ref sig .tc := ⟨.hbm, 197, rfl⟩
abbrev main_call1_call0_v101 : Ref sig .tc := ⟨.hbm, 198, rfl⟩
abbrev main_call1_call0_v102 : Ref sig .tc := ⟨.hbm, 199, rfl⟩
abbrev main_call1_call0_v103 : Ref sig .tc := ⟨.hbm, 200, rfl⟩
abbrev main_call1_call0_v104 : Ref sig .tc := ⟨.hbm, 201, rfl⟩
abbrev main_call1_call0_v105 : Ref sig .tc := ⟨.hbm, 202, rfl⟩
abbrev main_call1_call0_c_26 : Ref sig .tc := ⟨.hbm, 203, rfl⟩
abbrev main_call1_call0_v106 : Ref sig .tc := ⟨.hbm, 204, rfl⟩
abbrev main_call1_call0_v107 : Ref sig .tc := ⟨.hbm, 205, rfl⟩
abbrev main_call1_call0_v108 : Ref sig .tc := ⟨.hbm, 206, rfl⟩
abbrev main_call1_call0_c_27 : Ref sig .tc := ⟨.hbm, 207, rfl⟩
abbrev main_call1_call0_v109 : Ref sig .tc := ⟨.hbm, 208, rfl⟩
abbrev main_call1_call0_v110 : Ref sig .tc := ⟨.hbm, 209, rfl⟩
abbrev main_call1_call0_c_28 : Ref sig .tc := ⟨.hbm, 210, rfl⟩
abbrev main_call1_call0_v111 : Ref sig .tc := ⟨.hbm, 211, rfl⟩
abbrev main_call1_call0_v112 : Ref sig .tc := ⟨.hbm, 212, rfl⟩
abbrev main_call1_call0_v113 : Ref sig .tc := ⟨.hbm, 213, rfl⟩
abbrev main_call1_call0_v114 : Ref sig .tc := ⟨.hbm, 214, rfl⟩
abbrev main_call1_call0_v115 : Ref sig .tc := ⟨.hbm, 215, rfl⟩
abbrev main_call1_call0_c_29 : Ref sig .tc := ⟨.hbm, 216, rfl⟩
abbrev main_call1_call0_v116 : Ref sig .tc := ⟨.hbm, 217, rfl⟩
abbrev main_call1_call0_v117 : Ref sig .tc := ⟨.hbm, 218, rfl⟩
abbrev main_call1_call0_c_30 : Ref sig .tc := ⟨.hbm, 219, rfl⟩
abbrev main_call1_call0_v118 : Ref sig .tc := ⟨.hbm, 220, rfl⟩
abbrev main_call1_call0_v119 : Ref sig .tc := ⟨.hbm, 221, rfl⟩
abbrev main_call1_call0_v120 : Ref sig .tc := ⟨.hbm, 222, rfl⟩
abbrev main_call1_call0_v121 : Ref sig .tc := ⟨.hbm, 223, rfl⟩
abbrev main_call1_call0_v122 : Ref sig .tc := ⟨.hbm, 224, rfl⟩
abbrev main_call1_call0_c_31 : Ref sig .tc := ⟨.hbm, 225, rfl⟩
abbrev main_call1_call0_v123 : Ref sig .tc := ⟨.hbm, 226, rfl⟩
abbrev main_call1_call0_v124 : Ref sig .tc := ⟨.hbm, 227, rfl⟩
abbrev main_call1_call0_c_32 : Ref sig .tc := ⟨.hbm, 228, rfl⟩
abbrev main_call1_call0_v125 : Ref sig .tc := ⟨.hbm, 229, rfl⟩
abbrev main_call1_call0_v126 : Ref sig .tc := ⟨.hbm, 230, rfl⟩
abbrev main_call1_call0_v127 : Ref sig .tc := ⟨.hbm, 231, rfl⟩
abbrev main_call1_call0_v128 : Ref sig .tc := ⟨.hbm, 232, rfl⟩
abbrev main_call1_call0_v129 : Ref sig .tc := ⟨.hbm, 233, rfl⟩
abbrev main_call1_call0_c_33 : Ref sig .tc := ⟨.hbm, 234, rfl⟩
abbrev main_call1_call0_v130 : Ref sig .tc := ⟨.hbm, 235, rfl⟩
abbrev main_call1_call0_v131 : Ref sig .tc := ⟨.hbm, 236, rfl⟩
abbrev main_call1_call0_c_34 : Ref sig .tc := ⟨.hbm, 237, rfl⟩
abbrev main_call1_call0_v132 : Ref sig .tc := ⟨.hbm, 238, rfl⟩
abbrev main_call1_call0_v133 : Ref sig .tc := ⟨.hbm, 239, rfl⟩
abbrev main_call1_call0_v134 : Ref sig .tc := ⟨.hbm, 240, rfl⟩
abbrev main_call1_call0_v135 : Ref sig .tc := ⟨.hbm, 241, rfl⟩
abbrev main_call1_call0_v136 : Ref sig .tc := ⟨.hbm, 242, rfl⟩
abbrev main_call1_call0_v137 : Ref sig .tc := ⟨.hbm, 243, rfl⟩
abbrev main_call1_call0_v138 : Ref sig .tc := ⟨.hbm, 244, rfl⟩
abbrev main_call1_call0_v139 : Ref sig .tc := ⟨.hbm, 245, rfl⟩
abbrev main_call1_call0_c_35 : Ref sig .tc := ⟨.hbm, 246, rfl⟩
abbrev main_call1_call0_v140 : Ref sig .tc := ⟨.hbm, 247, rfl⟩
abbrev main_call1_call0_v141 : Ref sig .tc := ⟨.hbm, 248, rfl⟩
abbrev main_call1_call0_v142 : Ref sig .tc := ⟨.hbm, 249, rfl⟩
abbrev main_call1_call0_c_36 : Ref sig .tc := ⟨.hbm, 250, rfl⟩
abbrev main_call1_call0_v143 : Ref sig .tc := ⟨.hbm, 251, rfl⟩
abbrev main_call1_call0_v144 : Ref sig .tc := ⟨.hbm, 252, rfl⟩
abbrev main_call1_call0_c_37 : Ref sig .tc := ⟨.hbm, 253, rfl⟩
abbrev main_call1_call0_v145 : Ref sig .tc := ⟨.hbm, 254, rfl⟩
abbrev main_call1_call0_v146 : Ref sig .tc := ⟨.hbm, 255, rfl⟩
abbrev main_call1_call0_v147 : Ref sig .tc := ⟨.hbm, 256, rfl⟩
abbrev main_call1_call0_v148 : Ref sig .tc := ⟨.hbm, 257, rfl⟩
abbrev main_call1_call0_v149 : Ref sig .tc := ⟨.hbm, 258, rfl⟩
abbrev main_call1_call0_c_38 : Ref sig .tc := ⟨.hbm, 259, rfl⟩
abbrev main_call1_call0_v150 : Ref sig .tc := ⟨.hbm, 260, rfl⟩
abbrev main_call1_call0_v151 : Ref sig .tc := ⟨.hbm, 261, rfl⟩
abbrev main_call1_call0_c_39 : Ref sig .tc := ⟨.hbm, 262, rfl⟩
abbrev main_call1_call0_v152 : Ref sig .tc := ⟨.hbm, 263, rfl⟩
abbrev main_call1_call0_v153 : Ref sig .tc := ⟨.hbm, 264, rfl⟩
abbrev main_call1_call0_v154 : Ref sig .tc := ⟨.hbm, 265, rfl⟩
abbrev main_call1_call0_v155 : Ref sig .tc := ⟨.hbm, 266, rfl⟩
abbrev main_call1_call0_v156 : Ref sig .tc := ⟨.hbm, 267, rfl⟩
abbrev main_call1_call0_c_40 : Ref sig .tc := ⟨.hbm, 268, rfl⟩
abbrev main_call1_call0_v157 : Ref sig .tc := ⟨.hbm, 269, rfl⟩
abbrev main_call1_call0_v158 : Ref sig .tc := ⟨.hbm, 270, rfl⟩
abbrev main_call1_call0_c_41 : Ref sig .tc := ⟨.hbm, 271, rfl⟩
abbrev main_call1_call0_v159 : Ref sig .tc := ⟨.hbm, 272, rfl⟩
abbrev main_call1_call0_v160 : Ref sig .tc := ⟨.hbm, 273, rfl⟩
abbrev main_call1_call0_v161 : Ref sig .tc := ⟨.hbm, 274, rfl⟩
abbrev main_call1_call0_v162 : Ref sig .tc := ⟨.hbm, 275, rfl⟩
abbrev main_call1_call0_v163 : Ref sig .tc := ⟨.hbm, 276, rfl⟩
abbrev main_call1_call0_c_42 : Ref sig .tc := ⟨.hbm, 277, rfl⟩
abbrev main_call1_call0_v164 : Ref sig .tc := ⟨.hbm, 278, rfl⟩
abbrev main_call1_call0_v165 : Ref sig .tc := ⟨.hbm, 279, rfl⟩
abbrev main_call1_call0_c_43 : Ref sig .tc := ⟨.hbm, 280, rfl⟩
abbrev main_call1_call0_v166 : Ref sig .tc := ⟨.hbm, 281, rfl⟩
abbrev main_call1_call0_v167 : Ref sig .tc := ⟨.hbm, 282, rfl⟩
abbrev main_call1_call0_v168 : Ref sig .tc := ⟨.hbm, 283, rfl⟩
abbrev main_call1_call0_v169 : Ref sig .tc := ⟨.hbm, 284, rfl⟩
abbrev main_call1_call0_v170 : Ref sig .tc := ⟨.hbm, 285, rfl⟩
abbrev main_call1_v23_0 : Ref sig .tc := ⟨.hbm, 286, rfl⟩
abbrev main_call1_call0_v172 : Ref sig .tc := ⟨.hbm, 287, rfl⟩
abbrev main_call1_call0_v173 : Ref sig .tc := ⟨.hbm, 288, rfl⟩
abbrev main_call1_call0_c_44 : Ref sig .tc := ⟨.hbm, 289, rfl⟩
abbrev main_call1_call0_v174 : Ref sig .tc := ⟨.hbm, 290, rfl⟩
abbrev main_call1_v23_1 : Ref sig .tc := ⟨.hbm, 291, rfl⟩
abbrev main_call1_v24 : Ref sig .tc := ⟨.hbm, 292, rfl⟩
abbrev main_call1_c_3 : Ref sig .tc := ⟨.hbm, 293, rfl⟩
abbrev main_call1_v25 : Ref sig .tc := ⟨.hbm, 294, rfl⟩
abbrev main_call1_v26 : Ref sig .tc := ⟨.hbm, 295, rfl⟩
abbrev main_call1_c_4 : Ref sig .tc := ⟨.hbm, 296, rfl⟩
abbrev main_call1_v27 : Ref sig .tc := ⟨.hbm, 297, rfl⟩
abbrev main_call1_v28 : Ref sig .tc := ⟨.hbm, 298, rfl⟩
abbrev main_call1_v29 : Ref sig .tc := ⟨.hbm, 299, rfl⟩
abbrev main_call1_cst : Ref sig .tc := ⟨.hbm, 300, rfl⟩
abbrev main_call1_v30 : Ref sig .tc := ⟨.hbm, 301, rfl⟩
abbrev main_call1_v31 : Ref sig .tc := ⟨.hbm, 302, rfl⟩
abbrev main_call1_v32 : Ref sig .tc := ⟨.hbm, 303, rfl⟩
abbrev main_call1_v33 : Ref sig .tc := ⟨.hbm, 304, rfl⟩
abbrev main_call1_v34 : Ref sig .tc := ⟨.hbm, 305, rfl⟩
abbrev main_call1_v35 : Ref sig .tc := ⟨.hbm, 306, rfl⟩
abbrev main_call1_v36 : Ref sig .tc := ⟨.hbm, 307, rfl⟩
abbrev main_call1_v37 : Ref sig .tc := ⟨.hbm, 308, rfl⟩
abbrev main_v16 : Ref sig .tc := ⟨.hbm, 309, rfl⟩
abbrev main_v17 : Ref sig .tc := ⟨.hbm, 310, rfl⟩
abbrev main_v18 : Ref sig .tc := ⟨.hbm, 311, rfl⟩
abbrev main_values : Ref sig .tc := ⟨.hbm, 312, rfl⟩
abbrev main_indices : Ref sig .tc := ⟨.hbm, 313, rfl⟩
abbrev main_call2_v0 : Ref sig .tc := ⟨.hbm, 314, rfl⟩
abbrev main_call2_v1 : Ref sig .tc := ⟨.hbm, 315, rfl⟩
abbrev main_call2_v2 : Ref sig .tc := ⟨.hbm, 316, rfl⟩
abbrev main_call2_v3 : Ref sig .tc := ⟨.hbm, 317, rfl⟩
abbrev main_call2_v4 : Ref sig .tc := ⟨.hbm, 318, rfl⟩
abbrev main_v19 : Ref sig .tc := ⟨.hbm, 319, rfl⟩
abbrev main_cst_3 : Ref sig .tc := ⟨.hbm, 320, rfl⟩
abbrev main_v20 : Ref sig .tc := ⟨.hbm, 321, rfl⟩
abbrev main_cst_4 : Ref sig .tc := ⟨.hbm, 322, rfl⟩
abbrev main_v21 : Ref sig .tc := ⟨.hbm, 323, rfl⟩
abbrev main_v22 : Ref sig .tc := ⟨.hbm, 324, rfl⟩
abbrev main_cst_5 : Ref sig .tc := ⟨.hbm, 325, rfl⟩
abbrev main_call3_v0 : Ref sig .tc := ⟨.hbm, 326, rfl⟩
abbrev main_call3_v1 : Ref sig .tc := ⟨.hbm, 327, rfl⟩
abbrev main_v23 : Ref sig .tc := ⟨.hbm, 328, rfl⟩
abbrev main_cst_6 : Ref sig .tc := ⟨.hbm, 329, rfl⟩
abbrev main_v24 : Ref sig .tc := ⟨.hbm, 330, rfl⟩
abbrev main_cst_7 : Ref sig .tc := ⟨.hbm, 331, rfl⟩
abbrev main_v25 : Ref sig .tc := ⟨.hbm, 332, rfl⟩
abbrev main_v26 : Ref sig .tc := ⟨.hbm, 333, rfl⟩
abbrev main_v27 : Ref sig .tc := ⟨.hbm, 334, rfl⟩
abbrev main_v28 : Ref sig .tc := ⟨.hbm, 335, rfl⟩
abbrev main_v29 : Ref sig .tc := ⟨.hbm, 336, rfl⟩
abbrev main_v30 : Ref sig .tc := ⟨.hbm, 337, rfl⟩
abbrev main_cst_8 : Ref sig .tc := ⟨.hbm, 338, rfl⟩
abbrev main_v31 : Ref sig .tc := ⟨.hbm, 339, rfl⟩
abbrev main_v32 : Ref sig .tc := ⟨.hbm, 340, rfl⟩
abbrev main_v33 : Ref sig .tc := ⟨.hbm, 341, rfl⟩
abbrev main_v34 : Ref sig .tc := ⟨.hbm, 342, rfl⟩
abbrev main_v35 : Ref sig .tc := ⟨.hbm, 343, rfl⟩
abbrev main_v36 : Ref sig .tc := ⟨.hbm, 344, rfl⟩
abbrev main_v37 : Ref sig .tc := ⟨.hbm, 345, rfl⟩
abbrev main_v38 : Ref sig .tc := ⟨.hbm, 346, rfl⟩
abbrev main_v39 : Ref sig .tc := ⟨.hbm, 347, rfl⟩
abbrev main_call4_cst : Ref sig .tc := ⟨.hbm, 348, rfl⟩
abbrev main_call4_v0 : Ref sig .tc := ⟨.hbm, 349, rfl⟩
abbrev main_v40 : Ref sig .tc := ⟨.hbm, 350, rfl⟩
abbrev main_v41 : Ref sig .tc := ⟨.hbm, 351, rfl⟩
abbrev main_v42 : Ref sig .tc := ⟨.hbm, 352, rfl⟩
abbrev main_v43 : Ref sig .tc := ⟨.hbm, 353, rfl⟩
abbrev main_v44 : Ref sig .tc := ⟨.hbm, 354, rfl⟩
abbrev main_v45 : Ref sig .tc := ⟨.hbm, 355, rfl⟩
abbrev main_v46 : Ref sig .tc := ⟨.hbm, 356, rfl⟩
abbrev main_v47 : Ref sig .tc := ⟨.hbm, 357, rfl⟩
abbrev main_v48 : Ref sig .tc := ⟨.hbm, 358, rfl⟩

abbrev nD : Nat := 1
abbrev τ : Topo := Topo.v7x

variable {F : FTy → Type} [FloatOps F]
-- ==== Proof.RefOps.lean ====
module

public import proofs.«01_k».proof.Proof.Gen.ReferenceIdeal
public import Idealize.ShloMosaic.Lib.Claim
public import Idealize.ShloMosaic.Lib.Tactic

/-! The reference as one straight line of host operations: its list in three stretches (the scale, the noise, the rest),
    the equation between the printed program and the list, and the run to the list's result. -/

@[expose] public section

set_option maxRecDepth 65536
set_option Elab.async false

noncomputable section

namespace Cert.ReferenceIdeal.Line

open Idealize.ShloMosaic Idealize.SL.Sem Cert.ReferenceIdeal.Gen

variable {F : FTy → Type} [FloatOps F]

set_option maxHeartbeats 40000000 in
/-- 22 operations: the router's logits and the softplus of its noise scale. -/
abbrev opsScale : List (HloOp τ sig (Elt F)) :=
  ( StableHlo.binary main_arg0 main_arg1 main_v0 ((fun l r => Host.dotGeneral dot_S1x2048x768_S768x8_S1x2048x8_2_0_01_1_n_n none l r) : (⟨S1x2048x768, .f32⟩ : BufTy).Contents (Elt F) → (⟨S768x8, .f32⟩ : BufTy).Contents (Elt F) → (⟨S1x2048x8, .f32⟩ : BufTy).Contents (Elt F))
  :: StableHlo.unary main_arg2 main_v1 (broadcastInDim S1x1x8 ![2] bcast_S8_S1x1x8_2 : (⟨S8, .f32⟩ : BufTy).Contents (Elt F) → (⟨S1x1x8, .f32⟩ : BufTy).Contents (Elt F))
  :: StableHlo.unary main_v1 main_v2 (broadcastInDim S1x2048x8 ![0, 1, 2] bcast_S1x1x8_S1x2048x8_0_1_2 : (⟨S1x1x8, .f32⟩ : BufTy).Contents (Elt F) → (⟨S1x2048x8, .f32⟩ : BufTy).Contents (Elt F))
  :: StableHlo.binary main_v0 main_v2 main_v3 (addf : (⟨S1x2048x8, .f32⟩ : BufTy).Contents (Elt F) → (⟨S1x2048x8, .f32⟩ : BufTy).Contents (Elt F) → (⟨S1x2048x8, .f32⟩ : BufTy).Contents (Elt F))
  :: StableHlo.binary main_arg0 main_arg3 main_v4 ((fun l r => Host.dotGeneral dot_S1x2048x768_S768x8_S1x2048x8_2_0_01_1_n_n none l r) : (⟨S1x2048x768, .f32⟩ : BufTy).Contents (Elt F) → (⟨S768x8, .f32⟩ : BufTy).Contents (Elt F) → (⟨S1x2048x8, .f32⟩ : BufTy).Contents (Elt F))
  :: StableHlo.unary main_arg4 main_v5 (broadcastInDim S1x1x8 ![2] bcast_S8_S1x1x8_2 : (⟨S8, .f32⟩ : BufTy).Contents (Elt F) → (⟨S1x1x8, .f32⟩ : BufTy).Contents (Elt F))
  :: StableHlo.unary main_v5 main_v6 (broadcastInDim S1x2048x8 ![0, 1, 2] bcast_S1x1x8_S1x2048x8_0_1_2 : (⟨S1x1x8, .f32⟩ : BufTy).Contents (Elt F) → (⟨S1x2048x8, .f32⟩ : BufTy).Contents (Elt F))
  :: StableHlo.binary main_v4 main_v6 main_v7 (addf : (⟨S1x2048x8, .f32⟩ : BufTy).Contents (Elt F) → (⟨S1x2048x8, .f32⟩ : BufTy).Contents (Elt F) → (⟨S1x2048x8, .f32⟩ : BufTy).Contents (Elt F))
  :: StableHlo.TRef.nullary (.of main_call0_cst : StableHlo.TRef sig ⟨S_, .f32⟩) (constant S_ .f32 0x00000000#32)
  :: StableHlo.TRef.unary (.of main_call0_cst : StableHlo.TRef sig ⟨S_, .f32⟩) (.of main_call0_v0 : StableHlo.TRef sig ⟨S1x2048x8, .f32⟩) (broadcastInDim S1x2048x8 ![] bcast_S_S1x2048x8)
  :: StableHlo.TRef.binary (.of main_v7 : StableHlo.TRef sig ⟨S1x2048x8, .f32⟩) (.of main_call0_v0 : StableHlo.TRef sig ⟨S1x2048x8, .f32⟩) (.of main_call0_v1 : StableHlo.TRef sig ⟨S1x2048x8, .f32⟩) maximumf
  :: StableHlo.TRef.unary (.of main_call0_cst : StableHlo.TRef sig ⟨S_, .f32⟩) (.of main_call0_v2 : StableHlo.TRef sig ⟨S1x2048x8, .f32⟩) (broadcastInDim S1x2048x8 ![] bcast_S_S1x2048x8)
  :: StableHlo.TRef.binary (.of main_v7 : StableHlo.TRef sig ⟨S1x2048x8, .f32⟩) (.of main_call0_v2 : StableHlo.TRef sig ⟨S1x2048x8, .f32⟩) (.of main_call0_v3 : StableHlo.TRef sig ⟨S1x2048x8, .f32⟩) subf
  :: StableHlo.TRef.binary (.of main_call0_v3 : StableHlo.TRef sig ⟨S1x2048x8, .f32⟩) (.of main_call0_v3 : StableHlo.TRef sig ⟨S1x2048x8, .f32⟩) (.of main_call0_v4 : StableHlo.TRef sig ⟨S1x2048x8, .i1⟩) (cmpf .une)
  :: StableHlo.TRef.unary (.of main_call0_cst : StableHlo.TRef sig ⟨S_, .f32⟩) (.of main_call0_v5 : StableHlo.TRef sig ⟨S1x2048x8, .f32⟩) (broadcastInDim S1x2048x8 ![] bcast_S_S1x2048x8)
  :: StableHlo.TRef.binary (.of main_v7 : StableHlo.TRef sig ⟨S1x2048x8, .f32⟩) (.of main_call0_v5 : StableHlo.TRef sig ⟨S1x2048x8, .f32⟩) (.of main_call0_v6 : StableHlo.TRef sig ⟨S1x2048x8, .f32⟩) addf
  :: StableHlo.TRef.unary (.of main_call0_v3 : StableHlo.TRef sig ⟨S1x2048x8, .f32⟩) (.of main_call0_v7 : StableHlo.TRef sig ⟨S1x2048x8, .f32⟩) Host.absf
  :: StableHlo.TRef.unary (.of main_call0_v7 : StableHlo.TRef sig ⟨S1x2048x8, .f32⟩) (.of main_call0_v8 : StableHlo.TRef sig ⟨S1x2048x8, .f32⟩) Host.negf
  :: StableHlo.TRef.unary (.of main_call0_v8 : StableHlo.TRef sig ⟨S1x2048x8, .f32⟩) (.of main_call0_v9 : StableHlo.TRef sig ⟨S1x2048x8, .f32⟩) Host.exp
  :: StableHlo.TRef.unary (.of main_call0_v9 : StableHlo.TRef sig ⟨S1x2048x8, .f32⟩) (.of main_call0_v10 : StableHlo.TRef sig ⟨S1x2048x8, .f32⟩) Host.log1p
  :: StableHlo.TRef.binary (.of main_call0_v1 : StableHlo.TRef sig ⟨S1x2048x8, .f32⟩) (.of main_call0_v10 : StableHlo.TRef sig ⟨S1x2048x8, .f32⟩) (.of main_call0_v11 : StableHlo.TRef sig ⟨S1x2048x8, .f32⟩) addf
  :: StableHlo.TRef.ternary (.of main_call0_v4 : StableHlo.TRef sig ⟨S1x2048x8, .i1⟩) (.of main_call0_v6 : StableHlo.TRef sig ⟨S1x2048x8, .f32⟩) (.of main_call0_v11 : StableHlo.TRef sig ⟨S1x2048x8, .f32⟩) (.of main_v8 : StableHlo.TRef sig ⟨S1x2048x8, .f32⟩) select
  :: [] )

set_option maxHeartbeats 40000000 in
/-- 12 operations: the key of the noise, and the two ends of its interval. -/
abbrev opsKey : List (HloOp τ sig (Elt F)) :=
  ( StableHlo.TRef.nullary (.of main_c : StableHlo.TRef sig ⟨S_, .i32⟩) (constantI S_ 32 42#32)
  :: StableHlo.TRef.nullary (.of main_c_0 : StableHlo.TRef sig ⟨S_, .i32⟩) (constantI S_ 32 32#32)
  :: StableHlo.TRef.binary (.of main_c : StableHlo.TRef sig ⟨S_, .i32⟩) (.of main_c_0 : StableHlo.TRef sig ⟨S_, .i32⟩) (.of main_v9 : StableHlo.TRef sig ⟨S_, .i32⟩) (Host.shrui : (⟨S_, .i32⟩ : BufTy).Contents (Elt F) → (⟨S_, .i32⟩ : BufTy).Contents (Elt F) → (⟨S_, .i32⟩ : BufTy).Contents (Elt F))
  :: StableHlo.TRef.unary (.of main_v9 : StableHlo.TRef sig ⟨S_, .i32⟩) (.of main_v10 : StableHlo.TRef sig ⟨S_, .i32⟩) (id : (⟨S_, .i32⟩ : BufTy).Contents (Elt F) → (⟨S_, .i32⟩ : BufTy).Contents (Elt F))
  :: StableHlo.TRef.unary (.of main_v10 : StableHlo.TRef sig ⟨S_, .i32⟩) (.of main_v11 : StableHlo.TRef sig ⟨S1, .i32⟩) (broadcastInDim S1 ![] bcast_S_S1 : (⟨S_, .i32⟩ : BufTy).Contents (Elt F) → (⟨S1, .i32⟩ : BufTy).Contents (Elt F))
  :: StableHlo.TRef.nullary (.of main_c_1 : StableHlo.TRef sig ⟨S_, .i32⟩) (constantI S_ 32 4294967295#32)
  :: StableHlo.TRef.binary (.of main_c : StableHlo.TRef sig ⟨S_, .i32⟩) (.of main_c_1 : StableHlo.TRef sig ⟨S_, .i32⟩) (.of main_v12 : StableHlo.TRef sig ⟨S_, .i32⟩) (andi : (⟨S_, .i32⟩ : BufTy).Contents (Elt F) → (⟨S_, .i32⟩ : BufTy).Contents (Elt F) → (⟨S_, .i32⟩ : BufTy).Contents (Elt F))
  :: StableHlo.TRef.unary (.of main_v12 : StableHlo.TRef sig ⟨S_, .i32⟩) (.of main_v13 : StableHlo.TRef sig ⟨S_, .i32⟩) (id : (⟨S_, .i32⟩ : BufTy).Contents (Elt F) → (⟨S_, .i32⟩ : BufTy).Contents (Elt F))
  :: StableHlo.TRef.unary (.of main_v13 : StableHlo.TRef sig ⟨S_, .i32⟩) (.of main_v14 : StableHlo.TRef sig ⟨S1, .i32⟩) (broadcastInDim S1 ![] bcast_S_S1 : (⟨S_, .i32⟩ : BufTy).Contents (Elt F) → (⟨S1, .i32⟩ : BufTy).Contents (Elt F))
  :: StableHlo.TRef.binary (.of main_v11 : StableHlo.TRef sig ⟨S1, .i32⟩) (.of main_v14 : StableHlo.TRef sig ⟨S1, .i32⟩) (.of main_v15 : StableHlo.TRef sig ⟨S2, .i32⟩) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))
  :: StableHlo.TRef.nullary (.of main_cst : StableHlo.TRef sig ⟨S_, .f32⟩) (constant S_ .f32 0x00000000#32)
  :: StableHlo.TRef.nullary (.of main_cst_2 : StableHlo.TRef sig ⟨S_, .f32⟩) (constant S_ .f32 0x3F800000#32)
  :: [] )

set_option maxHeartbeats 40000000 in
/-- 267 operations: the counter-based generator, up to the uniform variates. -/
abbrev opsNoise : List (HloOp τ sig (Elt F)) :=
  ( StableHlo.TRef.unary (.of main_cst : StableHlo.TRef sig ⟨S_, .f32⟩) (.of main_call1_v0 : StableHlo.TRef sig ⟨S_, .f32⟩) id
  :: StableHlo.TRef.unary (.of main_cst_2 : StableHlo.TRef sig ⟨S_, .f32⟩) (.of main_call1_v1 : StableHlo.TRef sig ⟨S_, .f32⟩) id
  :: StableHlo.TRef.unary (.of main_call1_v0 : StableHlo.TRef sig ⟨S_, .f32⟩) (.of main_call1_v2 : StableHlo.TRef sig ⟨S1x1x1, .f32⟩) (broadcastInDim S1x1x1 ![] bcast_S_S1x1x1)
  :: StableHlo.TRef.unary (.of main_call1_v1 : StableHlo.TRef sig ⟨S_, .f32⟩) (.of main_call1_v3 : StableHlo.TRef sig ⟨S1x1x1, .f32⟩) (broadcastInDim S1x1x1 ![] bcast_S_S1x1x1)
  :: StableHlo.TRef.unary (.of main_v15 : StableHlo.TRef sig ⟨S2, .i32⟩) (.of main_call1_v4 : StableHlo.TRef sig ⟨S1, .i32⟩) (extractStridedSlice S1 ![0] · slices_S2_S1_0)
  :: StableHlo.TRef.reshape (.of main_call1_v4 : StableHlo.TRef sig ⟨S1, .i32⟩) (.of main_call1_v5 : StableHlo.TRef sig ⟨S_, .i32⟩) (rfl : (.i32 : EltTy) = .i32) shapeCasts_S1_S_
  :: StableHlo.TRef.unary (.of main_v15 : StableHlo.TRef sig ⟨S2, .i32⟩) (.of main_call1_v6 : StableHlo.TRef sig ⟨S1, .i32⟩) (extractStridedSlice S1 ![1] · slices_S2_S1_1)
  :: StableHlo.TRef.reshape (.of main_call1_v6 : StableHlo.TRef sig ⟨S1, .i32⟩) (.of main_call1_v7 : StableHlo.TRef sig ⟨S_, .i32⟩) (rfl : (.i32 : EltTy) = .i32) shapeCasts_S1_S_
  :: StableHlo.TRef.nullary (.of main_call1_v8 : StableHlo.TRef sig ⟨S1x2048x8, .i64⟩) (iotaInDim S1x2048x8 64 0)
  :: StableHlo.TRef.nullary (.of main_call1_v9 : StableHlo.TRef sig ⟨S1x2048x8, .i64⟩) (iotaInDim S1x2048x8 64 1)
  :: StableHlo.TRef.nullary (.of main_call1_v10 : StableHlo.TRef sig ⟨S1x2048x8, .i64⟩) (iotaInDim S1x2048x8 64 2)
  :: StableHlo.TRef.nullary (.of main_call1_c : StableHlo.TRef sig ⟨S_, .i64⟩) (constantI S_ 64 16384#64)
  :: StableHlo.TRef.unary (.of main_call1_c : StableHlo.TRef sig ⟨S_, .i64⟩) (.of main_call1_v11 : StableHlo.TRef sig ⟨S1x2048x8, .i64⟩) (broadcastInDim S1x2048x8 ![] bcast_S_S1x2048x8)
  :: StableHlo.TRef.binary (.of main_call1_v11 : StableHlo.TRef sig ⟨S1x2048x8, .i64⟩) (.of main_call1_v8 : StableHlo.TRef sig ⟨S1x2048x8, .i64⟩) (.of main_call1_v12 : StableHlo.TRef sig ⟨S1x2048x8, .i64⟩) muli
  :: StableHlo.TRef.nullary (.of main_call1_c_0 : StableHlo.TRef sig ⟨S_, .i64⟩) (constantI S_ 64 8#64)
  :: StableHlo.TRef.unary (.of main_call1_c_0 : StableHlo.TRef sig ⟨S_, .i64⟩) (.of main_call1_v13 : StableHlo.TRef sig ⟨S1x2048x8, .i64⟩) (broadcastInDim S1x2048x8 ![] bcast_S_S1x2048x8)
  :: StableHlo.TRef.binary (.of main_call1_v13 : StableHlo.TRef sig ⟨S1x2048x8, .i64⟩) (.of main_call1_v9 : StableHlo.TRef sig ⟨S1x2048x8, .i64⟩) (.of main_call1_v14 : StableHlo.TRef sig ⟨S1x2048x8, .i64⟩) muli
  :: StableHlo.TRef.nullary (.of main_call1_c_1 : StableHlo.TRef sig ⟨S_, .i64⟩) (constantI S_ 64 1#64)
  :: StableHlo.TRef.unary (.of main_call1_c_1 : StableHlo.TRef sig ⟨S_, .i64⟩) (.of main_call1_v15 : StableHlo.TRef sig ⟨S1x2048x8, .i64⟩) (broadcastInDim S1x2048x8 ![] bcast_S_S1x2048x8)
  :: StableHlo.TRef.binary (.of main_call1_v15 : StableHlo.TRef sig ⟨S1x2048x8, .i64⟩) (.of main_call1_v10 : StableHlo.TRef sig ⟨S1x2048x8, .i64⟩) (.of main_call1_v16 : StableHlo.TRef sig ⟨S1x2048x8, .i64⟩) muli
  :: StableHlo.TRef.binary (.of main_call1_v12 : StableHlo.TRef sig ⟨S1x2048x8, .i64⟩) (.of main_call1_v14 : StableHlo.TRef sig ⟨S1x2048x8, .i64⟩) (.of main_call1_v17 : StableHlo.TRef sig ⟨S1x2048x8, .i64⟩) addi
  :: StableHlo.TRef.binary (.of main_call1_v17 : StableHlo.TRef sig ⟨S1x2048x8, .i64⟩) (.of main_call1_v16 : StableHlo.TRef sig ⟨S1x2048x8, .i64⟩) (.of main_call1_v18 : StableHlo.TRef sig ⟨S1x2048x8, .i64⟩) addi
  :: StableHlo.TRef.nullary (.of main_call1_c_2 : StableHlo.TRef sig ⟨S_, .i64⟩) (constantI S_ 64 32#64)
  :: StableHlo.TRef.unary (.of main_call1_c_2 : StableHlo.TRef sig ⟨S_, .i64⟩) (.of main_call1_v19 : StableHlo.TRef sig ⟨S1x2048x8, .i64⟩) (broadcastInDim S1x2048x8 ![] bcast_S_S1x2048x8)
  :: StableHlo.TRef.binary (.of main_call1_v18 : StableHlo.TRef sig ⟨S1x2048x8, .i64⟩) (.of main_call1_v19 : StableHlo.TRef sig ⟨S1x2048x8, .i64⟩) (.of main_call1_v20 : StableHlo.TRef sig ⟨S1x2048x8, .i64⟩) Host.shrui
  :: StableHlo.TRef.unary (.of main_call1_v18 : StableHlo.TRef sig ⟨S1x2048x8, .i64⟩) (.of main_call1_v21 : StableHlo.TRef sig ⟨S1x2048x8, .i32⟩) (trunci 32 · natLt_32_64)
  :: StableHlo.TRef.unary (.of main_call1_v20 : StableHlo.TRef sig ⟨S1x2048x8, .i64⟩) (.of main_call1_v22 : StableHlo.TRef sig ⟨S1x2048x8, .i32⟩) (trunci 32 · natLt_32_64)
  :: StableHlo.TRef.binary (.of main_call1_v5 : StableHlo.TRef sig ⟨S_, .i32⟩) (.of main_call1_v7 : StableHlo.TRef sig ⟨S_, .i32⟩) (.of main_call1_call0_v0 : StableHlo.TRef sig ⟨S_, .i32⟩) xori
  :: StableHlo.TRef.nullary (.of main_call1_call0_c : StableHlo.TRef sig ⟨S_, .i32⟩) (constantI S_ 32 466688986#32)
  :: StableHlo.TRef.binary (.of main_call1_call0_v0 : StableHlo.TRef sig ⟨S_, .i32⟩) (.of main_call1_call0_c : StableHlo.TRef sig ⟨S_, .i32⟩) (.of main_call1_call0_v1 : StableHlo.TRef sig ⟨S_, .i32⟩) xori
  :: StableHlo.TRef.unary (.of main_call1_v5 : StableHlo.TRef sig ⟨S_, .i32⟩) (.of main_call1_call0_v2 : StableHlo.TRef sig ⟨S1x2048x8, .i32⟩) (broadcastInDim S1x2048x8 ![] bcast_S_S1x2048x8)
  :: StableHlo.TRef.binary (.of main_call1_v22 : StableHlo.TRef sig ⟨S1x2048x8, .i32⟩) (.of main_call1_call0_v2 : StableHlo.TRef sig ⟨S1x2048x8, .i32⟩) (.of main_call1_call0_v3 : StableHlo.TRef sig ⟨S1x2048x8, .i32⟩) addi
  :: StableHlo.TRef.unary (.of main_call1_v7 : StableHlo.TRef sig ⟨S_, .i32⟩) (.of main_call1_call0_v4 : StableHlo.TRef sig ⟨S1x2048x8, .i32⟩) (broadcastInDim S1x2048x8 ![] bcast_S_S1x2048x8)
  :: StableHlo.TRef.binary (.of main_call1_v21 : StableHlo.TRef sig ⟨S1x2048x8, .i32⟩) (.of main_call1_call0_v4 : StableHlo.TRef sig ⟨S1x2048x8, .i32⟩) (.of main_call1_call0_v5 : StableHlo.TRef sig ⟨S1x2048x8, .i32⟩) addi
  :: StableHlo.TRef.binary (.of main_call1_call0_v3 : StableHlo.TRef sig ⟨S1x2048x8, .i32⟩) (.of main_call1_call0_v5 : StableHlo.TRef sig ⟨S1x2048x8, .i32⟩) (.of main_call1_call0_v6 : StableHlo.TRef sig ⟨S1x2048x8, .i32⟩) addi
  :: StableHlo.TRef.nullary (.of main_call1_call0_c_0 : StableHlo.TRef sig ⟨S_, .i32⟩) (constantI S_ 32 13#32)
  :: StableHlo.TRef.unary (.of main_call1_call0_c_0 : StableHlo.TRef sig ⟨S_, .i32⟩) (.of main_call1_call0_v7 : StableHlo.TRef sig ⟨S1x2048x8, .i32⟩) (broadcastInDim S1x2048x8 ![] bcast_S_S1x2048x8)
  :: StableHlo.TRef.binary (.of main_call1_call0_v5 : StableHlo.TRef sig ⟨S1x2048x8, .i32⟩) (.of main_call1_call0_v7 : StableHlo.TRef sig ⟨S1x2048x8, .i32⟩) (.of main_call1_call0_v8 : StableHlo.TRef sig ⟨S1x2048x8, .i32⟩) Host.shli
  :: StableHlo.TRef.nullary (.of main_call1_call0_c_1 : StableHlo.TRef sig ⟨S_, .i32⟩) (constantI S_ 32 19#32)
  :: StableHlo.TRef.unary (.of main_call1_call0_c_1 : StableHlo.TRef sig ⟨S_, .i32⟩) (.of main_call1_call0_v9 : StableHlo.TRef sig ⟨S1x2048x8, .i32⟩) (broadcastInDim S1x2048x8 ![] bcast_S_S1x2048x8)
  :: StableHlo.TRef.binary (.of main_call1_call0_v5 : StableHlo.TRef sig ⟨S1x2048x8, .i32⟩) (.of main_call1_call0_v9 : StableHlo.TRef sig ⟨S1x2048x8, .i32⟩) (.of main_call1_call0_v10 : StableHlo.TRef sig ⟨S1x2048x8, .i32⟩) Host.shrui
  :: StableHlo.TRef.binary (.of main_call1_call0_v8 : StableHlo.TRef sig ⟨S1x2048x8, .i32⟩) (.of main_call1_call0_v10 : StableHlo.TRef sig ⟨S1x2048x8, .i32⟩) (.of main_call1_call0_v11 : StableHlo.TRef sig ⟨S1x2048x8, .i32⟩) ori
  :: StableHlo.TRef.binary (.of main_call1_call0_v6 : StableHlo.TRef sig ⟨S1x2048x8, .i32⟩) (.of main_call1_call0_v11 : StableHlo.TRef sig ⟨S1x2048x8, .i32⟩) (.of main_call1_call0_v12 : StableHlo.TRef sig ⟨S1x2048x8, .i32⟩) xori
  :: StableHlo.TRef.binary (.of main_call1_call0_v6 : StableHlo.TRef sig ⟨S1x2048x8, .i32⟩) (.of main_call1_call0_v12 : StableHlo.TRef sig ⟨S1x2048x8, .i32⟩) (.of main_call1_call0_v13 : StableHlo.TRef sig ⟨S1x2048x8, .i32⟩) addi
  :: StableHlo.TRef.nullary (.of main_call1_call0_c_2 : StableHlo.TRef sig ⟨S_, .i32⟩) (constantI S_ 32 15#32)
  :: StableHlo.TRef.unary (.of main_call1_call0_c_2 : StableHlo.TRef sig ⟨S_, .i32⟩) (.of main_call1_call0_v14 : StableHlo.TRef sig ⟨S1x2048x8, .i32⟩) (broadcastInDim S1x2048x8 ![] bcast_S_S1x2048x8)
  :: StableHlo.TRef.binary (.of main_call1_call0_v12 : StableHlo.TRef sig ⟨S1x2048x8, .i32⟩) (.of main_call1_call0_v14 : StableHlo.TRef sig ⟨S1x2048x8, .i32⟩) (.of main_call1_call0_v15 : StableHlo.TRef sig ⟨S1x2048x8, .i32⟩) Host.shli
  :: StableHlo.TRef.nullary (.of main_call1_call0_c_3 : StableHlo.TRef sig ⟨S_, .i32⟩) (constantI S_ 32 17#32)
  :: StableHlo.TRef.unary (.of main_call1_call0_c_3 : StableHlo.TRef sig ⟨S_, .i32⟩) (.of main_call1_call0_v16 : StableHlo.TRef sig ⟨S1x2048x8, .i32⟩) (broadcastInDim S1x2048x8 ![] bcast_S_S1x2048x8)
  :: StableHlo.TRef.binary (.of main_call1_call0_v12 : StableHlo.TRef sig ⟨S1x2048x8, .i32⟩) (.of main_call1_call0_v16 : StableHlo.TRef sig ⟨S1x2048x8, .i32⟩) (.of main_call1_call0_v17 : StableHlo.TRef sig ⟨S1x2048x8, .i32⟩) Host.shrui
  :: StableHlo.TRef.binary (.of main_call1_call0_v15 : StableHlo.TRef sig ⟨S1x2048x8, .i32⟩) (.of main_call1_call0_v17 : StableHlo.TRef sig ⟨S1x2048x8, .i32⟩) (.of main_call1_call0_v18 : StableHlo.TRef sig ⟨S1x2048x8, .i32⟩) ori
  :: StableHlo.TRef.binary (.of main_call1_call0_v13 : StableHlo.TRef sig ⟨S1x2048x8, .i32⟩) (.of main_call1_call0_v18 : StableHlo.TRef sig ⟨S1x2048x8, .i32⟩) (.of main_call1_call0_v19 : StableHlo.TRef sig ⟨S1x2048x8, .i32⟩) xori
  :: StableHlo.TRef.binary (.of main_call1_call0_v13 : StableHlo.TRef sig ⟨S1x2048x8, .i32⟩) (.of main_call1_call0_v19 : StableHlo.TRef sig ⟨S1x2048x8, .i32⟩) (.of main_call1_call0_v20 : StableHlo.TRef sig ⟨S1x2048x8, .i32⟩) addi
  :: StableHlo.TRef.nullary (.of main_call1_call0_c_4 : StableHlo.TRef sig ⟨S_, .i32⟩) (constantI S_ 32 26#32)
  :: StableHlo.TRef.unary (.of main_call1_call0_c_4 : StableHlo.TRef sig ⟨S_, .i32⟩) (.of main_call1_call0_v21 : StableHlo.TRef sig ⟨S1x2048x8, .i32⟩) (broadcastInDim S1x2048x8 ![] bcast_S_S1x2048x8)
  :: StableHlo.TRef.binary (.of main_call1_call0_v19 : StableHlo.TRef sig ⟨S1x2048x8, .i32⟩) (.of main_call1_call0_v21 : StableHlo.TRef sig ⟨S1x2048x8, .i32⟩) (.of main_call1_call0_v22 : StableHlo.TRef sig ⟨S1x2048x8, .i32⟩) Host.shli
  :: StableHlo.TRef.nullary (.of main_call1_call0_c_5 : StableHlo.TRef sig ⟨S_, .i32⟩) (constantI S_ 32 6#32)
  :: StableHlo.TRef.unary (.of main_call1_call0_c_5 : StableHlo.TRef sig ⟨S_, .i32⟩) (.of main_call1_call0_v23 : StableHlo.TRef sig ⟨S1x2048x8, .i32⟩) (broadcastInDim S1x2048x8 ![] bcast_S_S1x2048x8)
  :: StableHlo.TRef.binary (.of main_call1_call0_v19 : StableHlo.TRef sig ⟨S1x2048x8, .i32⟩) (.of main_call1_call0_v23 : StableHlo.TRef sig ⟨S1x2048x8, .i32⟩) (.of main_call1_call0_v24 : StableHlo.TRef sig ⟨S1x2048x8, .i32⟩) Host.shrui
  :: StableHlo.TRef.binary (.of main_call1_call0_v22 : StableHlo.TRef sig ⟨S1x2048x8, .i32⟩) (.of main_call1_call0_v24 : StableHlo.TRef sig ⟨S1x2048x8, .i32⟩) (.of main_call1_call0_v25 : StableHlo.TRef sig ⟨S1x2048x8, .i32⟩) ori
  :: StableHlo.TRef.binary (.of main_call1_call0_v20 : StableHlo.TRef sig ⟨S1x2048x8, .i32⟩) (.of main_call1_call0_v25 : StableHlo.TRef sig ⟨S1x2048x8, .i32⟩) (.of main_call1_call0_v26 : StableHlo.TRef sig ⟨S1x2048x8, .i32⟩) xori
  :: StableHlo.TRef.binary (.of main_call1_call0_v20 : StableHlo.TRef sig ⟨S1x2048x8, .i32⟩) (.of main_call1_call0_v26 : StableHlo.TRef sig ⟨S1x2048x8, .i32⟩) (.of main_call1_call0_v27 : StableHlo.TRef sig ⟨S1x2048x8, .i32⟩) addi
  :: StableHlo.TRef.nullary (.of main_call1_call0_c_6 : StableHlo.TRef sig ⟨S_, .i32⟩) (constantI S_ 32 6#32)
  :: StableHlo.TRef.unary (.of main_call1_call0_c_6 : StableHlo.TRef sig ⟨S_, .i32⟩) (.of main_call1_call0_v28 : StableHlo.TRef sig ⟨S1x2048x8, .i32⟩) (broadcastInDim S1x2048x8 ![] bcast_S_S1x2048x8)
  :: StableHlo.TRef.binary (.of main_call1_call0_v26 : StableHlo.TRef sig ⟨S1x2048x8, .i32⟩) (.of main_call1_call0_v28 : StableHlo.TRef sig ⟨S1x2048x8, .i32⟩) (.of main_call1_call0_v29 : StableHlo.TRef sig ⟨S1x2048x8, .i32⟩) Host.shli
  :: StableHlo.TRef.nullary (.of main_call1_call0_c_7 : StableHlo.TRef sig ⟨S_, .i32⟩) (constantI S_ 32 26#32)
  :: StableHlo.TRef.unary (.of main_call1_call0_c_7 : StableHlo.TRef sig ⟨S_, .i32⟩) (.of main_call1_call0_v30 : StableHlo.TRef sig ⟨S1x2048x8, .i32⟩) (broadcastInDim S1x2048x8 ![] bcast_S_S1x2048x8)
  :: StableHlo.TRef.binary (.of main_call1_call0_v26 : StableHlo.TRef sig ⟨S1x2048x8, .i32⟩) (.of main_call1_call0_v30 : StableHlo.TRef sig ⟨S1x2048x8, .i32⟩) (.of main_call1_call0_v31 : StableHlo.TRef sig ⟨S1x2048x8, .i32⟩) Host.shrui
  :: StableHlo.TRef.binary (.of main_call1_call0_v29 : StableHlo.TRef sig ⟨S1x2048x8, .i32⟩) (.of main_call1_call0_v31 : StableHlo.TRef sig ⟨S1x2048x8, .i32⟩) (.of main_call1_call0_v32 : StableHlo.TRef sig ⟨S1x2048x8, .i32⟩) ori
  :: StableHlo.TRef.binary (.of main_call1_call0_v27 : StableHlo.TRef sig ⟨S1x2048x8, .i32⟩) (.of main_call1_call0_v32 : StableHlo.TRef sig ⟨S1x2048x8, .i32⟩) (.of main_call1_call0_v33 : StableHlo.TRef sig ⟨S1x2048x8, .i32⟩) xori
  :: StableHlo.TRef.unary (.of main_call1_v7 : StableHlo.TRef sig ⟨S_, .i32⟩) (.of main_call1_call0_v34 : StableHlo.TRef sig ⟨S1x2048x8, .i32⟩) (broadcastInDim S1x2048x8 ![] bcast_S_S1x2048x8)
  :: StableHlo.TRef.binary (.of main_call1_call0_v27 : StableHlo.TRef sig ⟨S1x2048x8, .i32⟩) (.of main_call1_call0_v34 : StableHlo.TRef sig ⟨S1x2048x8, .i32⟩) (.of main_call1_call0_v35 : StableHlo.TRef sig ⟨S1x2048x8, .i32⟩) addi
  :: StableHlo.TRef.unary (.of main_call1_call0_v1 : StableHlo.TRef sig ⟨S_, .i32⟩) (.of main_call1_call0_v36 : StableHlo.TRef sig ⟨S1x2048x8, .i32⟩) (broadcastInDim S1x2048x8 ![] bcast_S_S1x2048x8)
  :: StableHlo.TRef.binary (.of main_call1_call0_v33 : StableHlo.TRef sig ⟨S1x2048x8, .i32⟩) (.of main_call1_call0_v36 : StableHlo.TRef sig ⟨S1x2048x8, .i32⟩) (.of main_call1_call0_v37 : StableHlo.TRef sig ⟨S1x2048x8, .i32⟩) addi
  :: StableHlo.TRef.nullary (.of main_call1_call0_c_8 : StableHlo.TRef sig ⟨S_, .i32⟩) (constantI S_ 32 1#32)
  :: StableHlo.TRef.unary (.of main_call1_call0_c_8 : StableHlo.TRef sig ⟨S_, .i32⟩) (.of main_call1_call0_v38 : StableHlo.TRef sig ⟨S1x2048x8, .i32⟩) (broadcastInDim S1x2048x8 ![] bcast_S_S1x2048x8)
  :: StableHlo.TRef.binary (.of main_call1_call0_v37 : StableHlo.TRef sig ⟨S1x2048x8, .i32⟩) (.of main_call1_call0_v38 : StableHlo.TRef sig ⟨S1x2048x8, .i32⟩) (.of main_call1_call0_v39 : StableHlo.TRef sig ⟨S1x2048x8, .i32⟩) addi
  :: StableHlo.TRef.binary (.of main_call1_call0_v35 : StableHlo.TRef sig ⟨S1x2048x8, .i32⟩) (.of main_call1_call0_v39 : StableHlo.TRef sig ⟨S1x2048x8, .i32⟩) (.of main_call1_call0_v40 : StableHlo.TRef sig ⟨S1x2048x8, .i32⟩) addi
  :: StableHlo.TRef.nullary (.of main_call1_call0_c_9 : StableHlo.TRef sig ⟨S_, .i32⟩) (constantI S_ 32 17#32)
  :: StableHlo.TRef.unary (.of main_call1_call0_c_9 : StableHlo.TRef sig ⟨S_, .i32⟩) (.of main_call1_call0_v41 : StableHlo.TRef sig ⟨S1x2048x8, .i32⟩) (broadcastInDim S1x2048x8 ![] bcast_S_S1x2048x8)
  :: StableHlo.TRef.binary (.of main_call1_call0_v39 : StableHlo.TRef sig ⟨S1x2048x8, .i32⟩) (.of main_call1_call0_v41 : StableHlo.TRef sig ⟨S1x2048x8, .i32⟩) (.of main_call1_call0_v42 : StableHlo.TRef sig ⟨S1x2048x8, .i32⟩) Host.shli
  :: StableHlo.TRef.nullary (.of main_call1_call0_c_10 : StableHlo.TRef sig ⟨S_, .i32⟩) (constantI S_ 32 15#32)
  :: StableHlo.TRef.unary (.of main_call1_call0_c_10 : StableHlo.TRef sig ⟨S_, .i32⟩) (.of main_call1_call0_v43 : StableHlo.TRef sig ⟨S1x2048x8, .i32⟩) (broadcastInDim S1x2048x8 ![] bcast_S_S1x2048x8)
  :: StableHlo.TRef.binary (.of main_call1_call0_v39 : StableHlo.TRef sig ⟨S1x2048x8, .i32⟩) (.of main_call1_call0_v43 : StableHlo.TRef sig ⟨S1x2048x8, .i32⟩) (.of main_call1_call0_v44 : StableHlo.TRef sig ⟨S1x2048x8, .i32⟩) Host.shrui
  :: StableHlo.TRef.binary (.of main_call1_call0_v42 : StableHlo.TRef sig ⟨S1x2048x8, .i32⟩) (.of main_call1_call0_v44 : StableHlo.TRef sig ⟨S1x2048x8, .i32⟩) (.of main_call1_call0_v45 : StableHlo.TRef sig ⟨S1x2048x8, .i32⟩) ori
  :: StableHlo.TRef.binary (.of main_call1_call0_v40 : StableHlo.TRef sig ⟨S1x2048x8, .i32⟩) (.of main_call1_call0_v45 : StableHlo.TRef sig ⟨S1x2048x8, .i32⟩) (.of main_call1_call0_v46 : StableHlo.TRef sig ⟨S1x2048x8, .i32⟩) xori
  :: StableHlo.TRef.binary (.of main_call1_call0_v40 : StableHlo.TRef sig ⟨S1x2048x8, .i32⟩) (.of main_call1_call0_v46 : StableHlo.TRef sig ⟨S1x2048x8, .i32⟩) (.of main_call1_call0_v47 : StableHlo.TRef sig ⟨S1x2048x8, .i32⟩) addi
  :: StableHlo.TRef.nullary (.of main_call1_call0_c_11 : StableHlo.TRef sig ⟨S_, .i32⟩) (constantI S_ 32 29#32)
  :: StableHlo.TRef.unary (.of main_call1_call0_c_11 : StableHlo.TRef sig ⟨S_, .i32⟩) (.of main_call1_call0_v48 : StableHlo.TRef sig ⟨S1x2048x8, .i32⟩) (broadcastInDim S1x2048x8 ![] bcast_S_S1x2048x8)
  :: StableHlo.TRef.binary (.of main_call1_call0_v46 : StableHlo.TRef sig ⟨S1x2048x8, .i32⟩) (.of main_call1_call0_v48 : StableHlo.TRef sig ⟨S1x2048x8, .i32⟩) (.of main_call1_call0_v49 : StableHlo.TRef sig ⟨S1x2048x8, .i32⟩) Host.shli
  :: StableHlo.TRef.nullary (.of main_call1_call0_c_12 : StableHlo.TRef sig ⟨S_, .i32⟩) (constantI S_ 32 3#32)
  :: StableHlo.TRef.unary (.of main_call1_call0_c_12 : StableHlo.TRef sig ⟨S_, .i32⟩) (.of main_call1_call0_v50 : StableHlo.TRef sig ⟨S1x2048x8, .i32⟩) (broadcastInDim S1x2048x8 ![] bcast_S_S1x2048x8)
  :: StableHlo.TRef.binary (.of main_call1_call0_v46 : StableHlo.TRef sig ⟨S1x2048x8, .i32⟩) (.of main_call1_call0_v50 : StableHlo.TRef sig ⟨S1x2048x8, .i32⟩) (.of main_call1_call0_v51 : StableHlo.TRef sig ⟨S1x2048x8, .i32⟩) Host.shrui
  :: StableHlo.TRef.binary (.of main_call1_call0_v49 : StableHlo.TRef sig ⟨S1x2048x8, .i32⟩) (.of main_call1_call0_v51 : StableHlo.TRef sig ⟨S1x2048x8, .i32⟩) (.of main_call1_call0_v52 : StableHlo.TRef sig ⟨S1x2048x8, .i32⟩) ori
  :: StableHlo.TRef.binary (.of main_call1_call0_v47 : StableHlo.TRef sig ⟨S1x2048x8, .i32⟩) (.of main_call1_call0_v52 : StableHlo.TRef sig ⟨S1x2048x8, .i32⟩) (.of main_call1_call0_v53 : StableHlo.TRef sig ⟨S1x2048x8, .i32⟩) xori
  :: StableHlo.TRef.binary (.of main_call1_call0_v47 : StableHlo.TRef sig ⟨S1x2048x8, .i32⟩) (.of main_call1_call0_v53 : StableHlo.TRef sig ⟨S1x2048x8, .i32⟩) (.of main_call1_call0_v54 : StableHlo.TRef sig ⟨S1x2048x8, .i32⟩) addi
  :: StableHlo.TRef.nullary (.of main_call1_call0_c_13 : StableHlo.TRef sig ⟨S_, .i32⟩) (constantI S_ 32 16#32)
  :: StableHlo.TRef.unary (.of main_call1_call0_c_13 : StableHlo.TRef sig ⟨S_, .i32⟩) (.of main_call1_call0_v55 : StableHlo.TRef sig ⟨S1x2048x8, .i32⟩) (broadcastInDim S1x2048x8 ![] bcast_S_S1x2048x8)
  :: StableHlo.TRef.binary (.of main_call1_call0_v53 : StableHlo.TRef sig ⟨S1x2048x8, .i32⟩) (.of main_call1_call0_v55 : StableHlo.TRef sig ⟨S1x2048x8, .i32⟩) (.of main_call1_call0_v56 : StableHlo.TRef sig ⟨S1x2048x8, .i32⟩) Host.shli
  :: StableHlo.TRef.nullary (.of main_call1_call0_c_14 : StableHlo.TRef sig ⟨S_, .i32⟩) (constantI S_ 32 16#32)
  :: StableHlo.TRef.unary (.of main_call1_call0_c_14 : StableHlo.TRef sig ⟨S_, .i32⟩) (.of main_call1_call0_v57 : StableHlo.TRef sig ⟨S1x2048x8, .i32⟩) (broadcastInDim S1x2048x8 ![] bcast_S_S1x2048x8)
  :: StableHlo.TRef.binary (.of main_call1_call0_v53 : StableHlo.TRef sig ⟨S1x2048x8, .i32⟩) (.of main_call1_call0_v57 : StableHlo.TRef sig ⟨S1x2048x8, .i32⟩) (.of main_call1_call0_v58 : StableHlo.TRef sig ⟨S1x2048x8, .i32⟩) Host.shrui
  :: StableHlo.TRef.binary (.of main_call1_call0_v56 : StableHlo.TRef sig ⟨S1x2048x8, .i32⟩) (.of main_call1_call0_v58 : StableHlo.TRef sig ⟨S1x2048x8, .i32⟩) (.of main_call1_call0_v59 : StableHlo.TRef sig ⟨S1x2048x8, .i32⟩) ori
  :: StableHlo.TRef.binary (.of main_call1_call0_v54 : StableHlo.TRef sig ⟨S1x2048x8, .i32⟩) (.of main_call1_call0_v59 : StableHlo.TRef sig ⟨S1x2048x8, .i32⟩) (.of main_call1_call0_v60 : StableHlo.TRef sig ⟨S1x2048x8, .i32⟩) xori
  :: StableHlo.TRef.binary (.of main_call1_call0_v54 : StableHlo.TRef sig ⟨S1x2048x8, .i32⟩) (.of main_call1_call0_v60 : StableHlo.TRef sig ⟨S1x2048x8, .i32⟩) (.of main_call1_call0_v61 : StableHlo.TRef sig ⟨S1x2048x8, .i32⟩) addi
  :: StableHlo.TRef.nullary (.of main_call1_call0_c_15 : StableHlo.TRef sig ⟨S_, .i32⟩) (constantI S_ 32 24#32)
  :: StableHlo.TRef.unary (.of main_call1_call0_c_15 : StableHlo.TRef sig ⟨S_, .i32⟩) (.of main_call1_call0_v62 : StableHlo.TRef sig ⟨S1x2048x8, .i32⟩) (broadcastInDim S1x2048x8 ![] bcast_S_S1x2048x8)
  :: StableHlo.TRef.binary (.of main_call1_call0_v60 : StableHlo.TRef sig ⟨S1x2048x8, .i32⟩) (.of main_call1_call0_v62 : StableHlo.TRef sig ⟨S1x2048x8, .i32⟩) (.of main_call1_call0_v63 : StableHlo.TRef sig ⟨S1x2048x8, .i32⟩) Host.shli
  :: StableHlo.TRef.nullary (.of main_call1_call0_c_16 : StableHlo.TRef sig ⟨S_, .i32⟩) (constantI S_ 32 8#32)
  :: StableHlo.TRef.unary (.of main_call1_call0_c_16 : StableHlo.TRef sig ⟨S_, .i32⟩) (.of main_call1_call0_v64 : StableHlo.TRef sig ⟨S1x2048x8, .i32⟩) (broadcastInDim S1x2048x8 ![] bcast_S_S1x2048x8)
  :: StableHlo.TRef.binary (.of main_call1_call0_v60 : StableHlo.TRef sig ⟨S1x2048x8, .i32⟩) (.of main_call1_call0_v64 : StableHlo.TRef sig ⟨S1x2048x8, .i32⟩) (.of main_call1_call0_v65 : StableHlo.TRef sig ⟨S1x2048x8, .i32⟩) Host.shrui
  :: StableHlo.TRef.binary (.of main_call1_call0_v63 : StableHlo.TRef sig ⟨S1x2048x8, .i32⟩) (.of main_call1_call0_v65 : StableHlo.TRef sig ⟨S1x2048x8, .i32⟩) (.of main_call1_call0_v66 : StableHlo.TRef sig ⟨S1x2048x8, .i32⟩) ori
  :: StableHlo.TRef.binary (.of main_call1_call0_v61 : StableHlo.TRef sig ⟨S1x2048x8, .i32⟩) (.of main_call1_call0_v66 : StableHlo.TRef sig ⟨S1x2048x8, .i32⟩) (.of main_call1_call0_v67 : StableHlo.TRef sig ⟨S1x2048x8, .i32⟩) xori
  :: StableHlo.TRef.unary (.of main_call1_call0_v1 : StableHlo.TRef sig ⟨S_, .i32⟩) (.of main_call1_call0_v68 : StableHlo.TRef sig ⟨S1x2048x8, .i32⟩) (broadcastInDim S1x2048x8 ![] bcast_S_S1x2048x8)
  :: StableHlo.TRef.binary (.of main_call1_call0_v61 : StableHlo.TRef sig ⟨S1x2048x8, .i32⟩) (.of main_call1_call0_v68 : StableHlo.TRef sig ⟨S1x2048x8, .i32⟩) (.of main_call1_call0_v69 : StableHlo.TRef sig ⟨S1x2048x8, .i32⟩) addi
  :: StableHlo.TRef.unary (.of main_call1_v5 : StableHlo.TRef sig ⟨S_, .i32⟩) (.of main_call1_call0_v70 : StableHlo.TRef sig ⟨S1x2048x8, .i32⟩) (broadcastInDim S1x2048x8 ![] bcast_S_S1x2048x8)
  :: StableHlo.TRef.binary (.of main_call1_call0_v67 : StableHlo.TRef sig ⟨S1x2048x8, .i32⟩) (.of main_call1_call0_v70 : StableHlo.TRef sig ⟨S1x2048x8, .i32⟩) (.of main_call1_call0_v71 : StableHlo.TRef sig ⟨S1x2048x8, .i32⟩) addi
  :: StableHlo.TRef.nullary (.of main_call1_call0_c_17 : StableHlo.TRef sig ⟨S_, .i32⟩) (constantI S_ 32 2#32)
  :: StableHlo.TRef.unary (.of main_call1_call0_c_17 : StableHlo.TRef sig ⟨S_, .i32⟩) (.of main_call1_call0_v72 : StableHlo.TRef sig ⟨S1x2048x8, .i32⟩) (broadcastInDim S1x2048x8 ![] bcast_S_S1x2048x8)
  :: StableHlo.TRef.binary (.of main_call1_call0_v71 : StableHlo.TRef sig ⟨S1x2048x8, .i32⟩) (.of main_call1_call0_v72 : StableHlo.TRef sig ⟨S1x2048x8, .i32⟩) (.of main_call1_call0_v73 : StableHlo.TRef sig ⟨S1x2048x8, .i32⟩) addi
  :: StableHlo.TRef.binary (.of main_call1_call0_v69 : StableHlo.TRef sig ⟨S1x2048x8, .i32⟩) (.of main_call1_call0_v73 : StableHlo.TRef sig ⟨S1x2048x8, .i32⟩) (.of main_call1_call0_v74 : StableHlo.TRef sig ⟨S1x2048x8, .i32⟩) addi
  :: StableHlo.TRef.nullary (.of main_call1_call0_c_18 : StableHlo.TRef sig ⟨S_, .i32⟩) (constantI S_ 32 13#32)
  :: StableHlo.TRef.unary (.of main_call1_call0_c_18 : StableHlo.TRef sig ⟨S_, .i32⟩) (.of main_call1_call0_v75 : StableHlo.TRef sig ⟨S1x2048x8, .i32⟩) (broadcastInDim S1x2048x8 ![] bcast_S_S1x2048x8)
  :: StableHlo.TRef.binary (.of main_call1_call0_v73 : StableHlo.TRef sig ⟨S1x2048x8, .i32⟩) (.of main_call1_call0_v75 : StableHlo.TRef sig ⟨S1x2048x8, .i32⟩) (.of main_call1_call0_v76 : StableHlo.TRef sig ⟨S1x2048x8, .i32⟩) Host.shli
  :: StableHlo.TRef.nullary (.of main_call1_call0_c_19 : StableHlo.TRef sig ⟨S_, .i32⟩) (constantI S_ 32 19#32)
  :: StableHlo.TRef.unary (.of main_call1_call0_c_19 : StableHlo.TRef sig ⟨S_, .i32⟩) (.of main_call1_call0_v77 : StableHlo.TRef sig ⟨S1x2048x8, .i32⟩) (broadcastInDim S1x2048x8 ![] bcast_S_S1x2048x8)
  :: StableHlo.TRef.binary (.of main_call1_call0_v73 : StableHlo.TRef sig ⟨S1x2048x8, .i32⟩) (.of main_call1_call0_v77 : StableHlo.TRef sig ⟨S1x2048x8, .i32⟩) (.of main_call1_call0_v78 : StableHlo.TRef sig ⟨S1x2048x8, .i32⟩) Host.shrui
  :: StableHlo.TRef.binary (.of main_call1_call0_v76 : StableHlo.TRef sig ⟨S1x2048x8, .i32⟩) (.of main_call1_call0_v78 : StableHlo.TRef sig ⟨S1x2048x8, .i32⟩) (.of main_call1_call0_v79 : StableHlo.TRef sig ⟨S1x2048x8, .i32⟩) ori
  :: StableHlo.TRef.binary (.of main_call1_call0_v74 : StableHlo.TRef sig ⟨S1x2048x8, .i32⟩) (.of main_call1_call0_v79 : StableHlo.TRef sig ⟨S1x2048x8, .i32⟩) (.of main_call1_call0_v80 : StableHlo.TRef sig ⟨S1x2048x8, .i32⟩) xori
  :: StableHlo.TRef.binary (.of main_call1_call0_v74 : StableHlo.TRef sig ⟨S1x2048x8, .i32⟩) (.of main_call1_call0_v80 : StableHlo.TRef sig ⟨S1x2048x8, .i32⟩) (.of main_call1_call0_v81 : StableHlo.TRef sig ⟨S1x2048x8, .i32⟩) addi
  :: StableHlo.TRef.nullary (.of main_call1_call0_c_20 : StableHlo.TRef sig ⟨S_, .i32⟩) (constantI S_ 32 15#32)
  :: StableHlo.TRef.unary (.of main_call1_call0_c_20 : StableHlo.TRef sig ⟨S_, .i32⟩) (.of main_call1_call0_v82 : StableHlo.TRef sig ⟨S1x2048x8, .i32⟩) (broadcastInDim S1x2048x8 ![] bcast_S_S1x2048x8)
  :: StableHlo.TRef.binary (.of main_call1_call0_v80 : StableHlo.TRef sig ⟨S1x2048x8, .i32⟩) (.of main_call1_call0_v82 : StableHlo.TRef sig ⟨S1x2048x8, .i32⟩) (.of main_call1_call0_v83 : StableHlo.TRef sig ⟨S1x2048x8, .i32⟩) Host.shli
  :: StableHlo.TRef.nullary (.of main_call1_call0_c_21 : StableHlo.TRef sig ⟨S_, .i32⟩) (constantI S_ 32 17#32)
  :: StableHlo.TRef.unary (.of main_call1_call0_c_21 : StableHlo.TRef sig ⟨S_, .i32⟩) (.of main_call1_call0_v84 : StableHlo.TRef sig ⟨S1x2048x8, .i32⟩) (broadcastInDim S1x2048x8 ![] bcast_S_S1x2048x8)
  :: StableHlo.TRef.binary (.of main_call1_call0_v80 : StableHlo.TRef sig ⟨S1x2048x8, .i32⟩) (.of main_call1_call0_v84 : StableHlo.TRef sig ⟨S1x2048x8, .i32⟩) (.of main_call1_call0_v85 : StableHlo.TRef sig ⟨S1x2048x8, .i32⟩) Host.shrui
  :: StableHlo.TRef.binary (.of main_call1_call0_v83 : StableHlo.TRef sig ⟨S1x2048x8, .i32⟩) (.of main_call1_call0_v85 : StableHlo.TRef sig ⟨S1x2048x8, .i32⟩) (.of main_call1_call0_v86 : StableHlo.TRef sig ⟨S1x2048x8, .i32⟩) ori
  :: StableHlo.TRef.binary (.of main_call1_call0_v81 : StableHlo.TRef sig ⟨S1x2048x8, .i32⟩) (.of main_call1_call0_v86 : StableHlo.TRef sig ⟨S1x2048x8, .i32⟩) (.of main_call1_call0_v87 : StableHlo.TRef sig ⟨S1x2048x8, .i32⟩) xori
  :: StableHlo.TRef.binary (.of main_call1_call0_v81 : StableHlo.TRef sig ⟨S1x2048x8, .i32⟩) (.of main_call1_call0_v87 : StableHlo.TRef sig ⟨S1x2048x8, .i32⟩) (.of main_call1_call0_v88 : StableHlo.TRef sig ⟨S1x2048x8, .i32⟩) addi
  :: StableHlo.TRef.nullary (.of main_call1_call0_c_22 : StableHlo.TRef sig ⟨S_, .i32⟩) (constantI S_ 32 26#32)
  :: StableHlo.TRef.unary (.of main_call1_call0_c_22 : StableHlo.TRef sig ⟨S_, .i32⟩) (.of main_call1_call0_v89 : StableHlo.TRef sig ⟨S1x2048x8, .i32⟩) (broadcastInDim S1x2048x8 ![] bcast_S_S1x2048x8)
  :: StableHlo.TRef.binary (.of main_call1_call0_v87 : StableHlo.TRef sig ⟨S1x2048x8, .i32⟩) (.of main_call1_call0_v89 : StableHlo.TRef sig ⟨S1x2048x8, .i32⟩) (.of main_call1_call0_v90 : StableHlo.TRef sig ⟨S1x2048x8, .i32⟩) Host.shli
  :: StableHlo.TRef.nullary (.of main_call1_call0_c_23 : StableHlo.TRef sig ⟨S_, .i32⟩) (constantI S_ 32 6#32)
  :: StableHlo.TRef.unary (.of main_call1_call0_c_23 : StableHlo.TRef sig ⟨S_, .i32⟩) (.of main_call1_call0_v91 : StableHlo.TRef sig ⟨S1x2048x8, .i32⟩) (broadcastInDim S1x2048x8 ![] bcast_S_S1x2048x8)
  :: StableHlo.TRef.binary (.of main_call1_call0_v87 : StableHlo.TRef sig ⟨S1x2048x8, .i32⟩) (.of main_call1_call0_v91 : StableHlo.TRef sig ⟨S1x2048x8, .i32⟩) (.of main_call1_call0_v92 : StableHlo.TRef sig ⟨S1x2048x8, .i32⟩) Host.shrui
  :: StableHlo.TRef.binary (.of main_call1_call0_v90 : StableHlo.TRef sig ⟨S1x2048x8, .i32⟩) (.of main_call1_call0_v92 : StableHlo.TRef sig ⟨S1x2048x8, .i32⟩) (.of main_call1_call0_v93 : StableHlo.TRef sig ⟨S1x2048x8, .i32⟩) ori
  :: StableHlo.TRef.binary (.of main_call1_call0_v88 : StableHlo.TRef sig ⟨S1x2048x8, .i32⟩) (.of main_call1_call0_v93 : StableHlo.TRef sig ⟨S1x2048x8, .i32⟩) (.of main_call1_call0_v94 : StableHlo.TRef sig ⟨S1x2048x8, .i32⟩) xori
  :: StableHlo.TRef.binary (.of main_call1_call0_v88 : StableHlo.TRef sig ⟨S1x2048x8, .i32⟩) (.of main_call1_call0_v94 : StableHlo.TRef sig ⟨S1x2048x8, .i32⟩) (.of main_call1_call0_v95 : StableHlo.TRef sig ⟨S1x2048x8, .i32⟩) addi
  :: StableHlo.TRef.nullary (.of main_call1_call0_c_24 : StableHlo.TRef sig ⟨S_, .i32⟩) (constantI S_ 32 6#32)
  :: StableHlo.TRef.unary (.of main_call1_call0_c_24 : StableHlo.TRef sig ⟨S_, .i32⟩) (.of main_call1_call0_v96 : StableHlo.TRef sig ⟨S1x2048x8, .i32⟩) (broadcastInDim S1x2048x8 ![] bcast_S_S1x2048x8)
  :: StableHlo.TRef.binary (.of main_call1_call0_v94 : StableHlo.TRef sig ⟨S1x2048x8, .i32⟩) (.of main_call1_call0_v96 : StableHlo.TRef sig ⟨S1x2048x8, .i32⟩) (.of main_call1_call0_v97 : StableHlo.TRef sig ⟨S1x2048x8, .i32⟩) Host.shli
  :: StableHlo.TRef.nullary (.of main_call1_call0_c_25 : StableHlo.TRef sig ⟨S_, .i32⟩) (constantI S_ 32 26#32)
  :: StableHlo.TRef.unary (.of main_call1_call0_c_25 : StableHlo.TRef sig ⟨S_, .i32⟩) (.of main_call1_call0_v98 : StableHlo.TRef sig ⟨S1x2048x8, .i32⟩) (broadcastInDim S1x2048x8 ![] bcast_S_S1x2048x8)
  :: StableHlo.TRef.binary (.of main_call1_call0_v94 : StableHlo.TRef sig ⟨S1x2048x8, .i32⟩) (.of main_call1_call0_v98 : StableHlo.TRef sig ⟨S1x2048x8, .i32⟩) (.of main_call1_call0_v99 : StableHlo.TRef sig ⟨S1x2048x8, .i32⟩) Host.shrui
  :: StableHlo.TRef.binary (.of main_call1_call0_v97 : StableHlo.TRef sig ⟨S1x2048x8, .i32⟩) (.of main_call1_call0_v99 : StableHlo.TRef sig ⟨S1x2048x8, .i32⟩) (.of main_call1_call0_v100 : StableHlo.TRef sig ⟨S1x2048x8, .i32⟩) ori
  :: StableHlo.TRef.binary (.of main_call1_call0_v95 : StableHlo.TRef sig ⟨S1x2048x8, .i32⟩) (.of main_call1_call0_v100 : StableHlo.TRef sig ⟨S1x2048x8, .i32⟩) (.of main_call1_call0_v101 : StableHlo.TRef sig ⟨S1x2048x8, .i32⟩) xori
  :: StableHlo.TRef.unary (.of main_call1_v5 : StableHlo.TRef sig ⟨S_, .i32⟩) (.of main_call1_call0_v102 : StableHlo.TRef sig ⟨S1x2048x8, .i32⟩) (broadcastInDim S1x2048x8 ![] bcast_S_S1x2048x8)
  :: StableHlo.TRef.binary (.of main_call1_call0_v95 : StableHlo.TRef sig ⟨S1x2048x8, .i32⟩) (.of main_call1_call0_v102 : StableHlo.TRef sig ⟨S1x2048x8, .i32⟩) (.of main_call1_call0_v103 : StableHlo.TRef sig ⟨S1x2048x8, .i32⟩) addi
  :: StableHlo.TRef.unary (.of main_call1_v7 : StableHlo.TRef sig ⟨S_, .i32⟩) (.of main_call1_call0_v104 : StableHlo.TRef sig ⟨S1x2048x8, .i32⟩) (broadcastInDim S1x2048x8 ![] bcast_S_S1x2048x8)
  :: StableHlo.TRef.binary (.of main_call1_call0_v101 : StableHlo.TRef sig ⟨S1x2048x8, .i32⟩) (.of main_call1_call0_v104 : StableHlo.TRef sig ⟨S1x2048x8, .i32⟩) (.of main_call1_call0_v105 : StableHlo.TRef sig ⟨S1x2048x8, .i32⟩) addi
  :: StableHlo.TRef.nullary (.of main_call1_call0_c_26 : StableHlo.TRef sig ⟨S_, .i32⟩) (constantI S_ 32 3#32)
  :: StableHlo.TRef.unary (.of main_call1_call0_c_26 : StableHlo.TRef sig ⟨S_, .i32⟩) (.of main_call1_call0_v106 : StableHlo.TRef sig ⟨S1x2048x8, .i32⟩) (broadcastInDim S1x2048x8 ![] bcast_S_S1x2048x8)
  :: StableHlo.TRef.binary (.of main_call1_call0_v105 : StableHlo.TRef sig ⟨S1x2048x8, .i32⟩) (.of main_call1_call0_v106 : StableHlo.TRef sig ⟨S1x2048x8, .i32⟩) (.of main_call1_call0_v107 : StableHlo.TRef sig ⟨S1x2048x8, .i32⟩) addi
  :: StableHlo.TRef.binary (.of main_call1_call0_v103 : StableHlo.TRef sig ⟨S1x2048x8, .i32⟩) (.of main_call1_call0_v107 : StableHlo.TRef sig ⟨S1x2048x8, .i32⟩) (.of main_call1_call0_v108 : StableHlo.TRef sig ⟨S1x2048x8, .i32⟩) addi
  :: StableHlo.TRef.nullary (.of main_call1_call0_c_27 : StableHlo.TRef sig ⟨S_, .i32⟩) (constantI S_ 32 17#32)
  :: StableHlo.TRef.unary (.of main_call1_call0_c_27 : StableHlo.TRef sig ⟨S_, .i32⟩) (.of main_call1_call0_v109 : StableHlo.TRef sig ⟨S1x2048x8, .i32⟩) (broadcastInDim S1x2048x8 ![] bcast_S_S1x2048x8)
  :: StableHlo.TRef.binary (.of main_call1_call0_v107 : StableHlo.TRef sig ⟨S1x2048x8, .i32⟩) (.of main_call1_call0_v109 : StableHlo.TRef sig ⟨S1x2048x8, .i32⟩) (.of main_call1_call0_v110 : StableHlo.TRef sig ⟨S1x2048x8, .i32⟩) Host.shli
  :: StableHlo.TRef.nullary (.of main_call1_call0_c_28 : StableHlo.TRef sig ⟨S_, .i32⟩) (constantI S_ 32 15#32)
  :: StableHlo.TRef.unary (.of main_call1_call0_c_28 : StableHlo.TRef sig ⟨S_, .i32⟩) (.of main_call1_call0_v111 : StableHlo.TRef sig ⟨S1x2048x8, .i32⟩) (broadcastInDim S1x2048x8 ![] bcast_S_S1x2048x8)
  :: StableHlo.TRef.binary (.of main_call1_call0_v107 : StableHlo.TRef sig ⟨S1x2048x8, .i32⟩) (.of main_call1_call0_v111 : StableHlo.TRef sig ⟨S1x2048x8, .i32⟩) (.of main_call1_call0_v112 : StableHlo.TRef sig ⟨S1x2048x8, .i32⟩) Host.shrui
  :: StableHlo.TRef.binary (.of main_call1_call0_v110 : StableHlo.TRef sig ⟨S1x2048x8, .i32⟩) (.of main_call1_call0_v112 : StableHlo.TRef sig ⟨S1x2048x8, .i32⟩) (.of main_call1_call0_v113 : StableHlo.TRef sig ⟨S1x2048x8, .i32⟩) ori
  :: StableHlo.TRef.binary (.of main_call1_call0_v108 : StableHlo.TRef sig ⟨S1x2048x8, .i32⟩) (.of main_call1_call0_v113 : StableHlo.TRef sig ⟨S1x2048x8, .i32⟩) (.of main_call1_call0_v114 : StableHlo.TRef sig ⟨S1x2048x8, .i32⟩) xori
  :: StableHlo.TRef.binary (.of main_call1_call0_v108 : StableHlo.TRef sig ⟨S1x2048x8, .i32⟩) (.of main_call1_call0_v114 : StableHlo.TRef sig ⟨S1x2048x8, .i32⟩) (.of main_call1_call0_v115 : StableHlo.TRef sig ⟨S1x2048x8, .i32⟩) addi
  :: StableHlo.TRef.nullary (.of main_call1_call0_c_29 : StableHlo.TRef sig ⟨S_, .i32⟩) (constantI S_ 32 29#32)
  :: StableHlo.TRef.unary (.of main_call1_call0_c_29 : StableHlo.TRef sig ⟨S_, .i32⟩) (.of main_call1_call0_v116 : StableHlo.TRef sig ⟨S1x2048x8, .i32⟩) (broadcastInDim S1x2048x8 ![] bcast_S_S1x2048x8)
  :: StableHlo.TRef.binary (.of main_call1_call0_v114 : StableHlo.TRef sig ⟨S1x2048x8, .i32⟩) (.of main_call1_call0_v116 : StableHlo.TRef sig ⟨S1x2048x8, .i32⟩) (.of main_call1_call0_v117 : StableHlo.TRef sig ⟨S1x2048x8, .i32⟩) Host.shli
  :: StableHlo.TRef.nullary (.of main_call1_call0_c_30 : StableHlo.TRef sig ⟨S_, .i32⟩) (constantI S_ 32 3#32)
  :: StableHlo.TRef.unary (.of main_call1_call0_c_30 : StableHlo.TRef sig ⟨S_, .i32⟩) (.of main_call1_call0_v118 : StableHlo.TRef sig ⟨S1x2048x8, .i32⟩) (broadcastInDim S1x2048x8 ![] bcast_S_S1x2048x8)
  :: StableHlo.TRef.binary (.of main_call1_call0_v114 : StableHlo.TRef sig ⟨S1x2048x8, .i32⟩) (.of main_call1_call0_v118 : StableHlo.TRef sig ⟨S1x2048x8, .i32⟩) (.of main_call1_call0_v119 : StableHlo.TRef sig ⟨S1x2048x8, .i32⟩) Host.shrui
  :: StableHlo.TRef.binary (.of main_call1_call0_v117 : StableHlo.TRef sig ⟨S1x2048x8, .i32⟩) (.of main_call1_call0_v119 : StableHlo.TRef sig ⟨S1x2048x8, .i32⟩) (.of main_call1_call0_v120 : StableHlo.TRef sig ⟨S1x2048x8, .i32⟩) ori
  :: StableHlo.TRef.binary (.of main_call1_call0_v115 : StableHlo.TRef sig ⟨S1x2048x8, .i32⟩) (.of main_call1_call0_v120 : StableHlo.TRef sig ⟨S1x2048x8, .i32⟩) (.of main_call1_call0_v121 : StableHlo.TRef sig ⟨S1x2048x8, .i32⟩) xori
  :: StableHlo.TRef.binary (.of main_call1_call0_v115 : StableHlo.TRef sig ⟨S1x2048x8, .i32⟩) (.of main_call1_call0_v121 : StableHlo.TRef sig ⟨S1x2048x8, .i32⟩) (.of main_call1_call0_v122 : StableHlo.TRef sig ⟨S1x2048x8, .i32⟩) addi
  :: StableHlo.TRef.nullary (.of main_call1_call0_c_31 : StableHlo.TRef sig ⟨S_, .i32⟩) (constantI S_ 32 16#32)
  :: StableHlo.TRef.unary (.of main_call1_call0_c_31 : StableHlo.TRef sig ⟨S_, .i32⟩) (.of main_call1_call0_v123 : StableHlo.TRef sig ⟨S1x2048x8, .i32⟩) (broadcastInDim S1x2048x8 ![] bcast_S_S1x2048x8)
  :: StableHlo.TRef.binary (.of main_call1_call0_v121 : StableHlo.TRef sig ⟨S1x2048x8, .i32⟩) (.of main_call1_call0_v123 : StableHlo.TRef sig ⟨S1x2048x8, .i32⟩) (.of main_call1_call0_v124 : StableHlo.TRef sig ⟨S1x2048x8, .i32⟩) Host.shli
  :: StableHlo.TRef.nullary (.of main_call1_call0_c_32 : StableHlo.TRef sig ⟨S_, .i32⟩) (constantI S_ 32 16#32)
  :: StableHlo.TRef.unary (.of main_call1_call0_c_32 : StableHlo.TRef sig ⟨S_, .i32⟩) (.of main_call1_call0_v125 : StableHlo.TRef sig ⟨S1x2048x8, .i32⟩) (broadcastInDim S1x2048x8 ![] bcast_S_S1x2048x8)
  :: StableHlo.TRef.binary (.of main_call1_call0_v121 : StableHlo.TRef sig ⟨S1x2048x8, .i32⟩) (.of main_call1_call0_v125 : StableHlo.TRef sig ⟨S1x2048x8, .i32⟩) (.of main_call1_call0_v126 : StableHlo.TRef sig ⟨S1x2048x8, .i32⟩) Host.shrui
  :: StableHlo.TRef.binary (.of main_call1_call0_v124 : StableHlo.TRef sig ⟨S1x2048x8, .i32⟩) (.of main_call1_call0_v126 : StableHlo.TRef sig ⟨S1x2048x8, .i32⟩) (.of main_call1_call0_v127 : StableHlo.TRef sig ⟨S1x2048x8, .i32⟩) ori
  :: StableHlo.TRef.binary (.of main_call1_call0_v122 : StableHlo.TRef sig ⟨S1x2048x8, .i32⟩) (.of main_call1_call0_v127 : StableHlo.TRef sig ⟨S1x2048x8, .i32⟩) (.of main_call1_call0_v128 : StableHlo.TRef sig ⟨S1x2048x8, .i32⟩) xori
  :: StableHlo.TRef.binary (.of main_call1_call0_v122 : StableHlo.TRef sig ⟨S1x2048x8, .i32⟩) (.of main_call1_call0_v128 : StableHlo.TRef sig ⟨S1x2048x8, .i32⟩) (.of main_call1_call0_v129 : StableHlo.TRef sig ⟨S1x2048x8, .i32⟩) addi
  :: StableHlo.TRef.nullary (.of main_call1_call0_c_33 : StableHlo.TRef sig ⟨S_, .i32⟩) (constantI S_ 32 24#32)
  :: StableHlo.TRef.unary (.of main_call1_call0_c_33 : StableHlo.TRef sig ⟨S_, .i32⟩) (.of main_call1_call0_v130 : StableHlo.TRef sig ⟨S1x2048x8, .i32⟩) (broadcastInDim S1x2048x8 ![] bcast_S_S1x2048x8)
  :: StableHlo.TRef.binary (.of main_call1_call0_v128 : StableHlo.TRef sig ⟨S1x2048x8, .i32⟩) (.of main_call1_call0_v130 : StableHlo.TRef sig ⟨S1x2048x8, .i32⟩) (.of main_call1_call0_v131 : StableHlo.TRef sig ⟨S1x2048x8, .i32⟩) Host.shli
  :: StableHlo.TRef.nullary (.of main_call1_call0_c_34 : StableHlo.TRef sig ⟨S_, .i32⟩) (constantI S_ 32 8#32)
  :: StableHlo.TRef.unary (.of main_call1_call0_c_34 : StableHlo.TRef sig ⟨S_, .i32⟩) (.of main_call1_call0_v132 : StableHlo.TRef sig ⟨S1x2048x8, .i32⟩) (broadcastInDim S1x2048x8 ![] bcast_S_S1x2048x8)
  :: StableHlo.TRef.binary (.of main_call1_call0_v128 : StableHlo.TRef sig ⟨S1x2048x8, .i32⟩) (.of main_call1_call0_v132 : StableHlo.TRef sig ⟨S1x2048x8, .i32⟩) (.of main_call1_call0_v133 : StableHlo.TRef sig ⟨S1x2048x8, .i32⟩) Host.shrui
  :: StableHlo.TRef.binary (.of main_call1_call0_v131 : StableHlo.TRef sig ⟨S1x2048x8, .i32⟩) (.of main_call1_call0_v133 : StableHlo.TRef sig ⟨S1x2048x8, .i32⟩) (.of main_call1_call0_v134 : StableHlo.TRef sig ⟨S1x2048x8, .i32⟩) ori
  :: StableHlo.TRef.binary (.of main_call1_call0_v129 : StableHlo.TRef sig ⟨S1x2048x8, .i32⟩) (.of main_call1_call0_v134 : StableHlo.TRef sig ⟨S1x2048x8, .i32⟩) (.of main_call1_call0_v135 : StableHlo.TRef sig ⟨S1x2048x8, .i32⟩) xori
  :: StableHlo.TRef.unary (.of main_call1_v7 : StableHlo.TRef sig ⟨S_, .i32⟩) (.of main_call1_call0_v136 : StableHlo.TRef sig ⟨S1x2048x8, .i32⟩) (broadcastInDim S1x2048x8 ![] bcast_S_S1x2048x8)
  :: StableHlo.TRef.binary (.of main_call1_call0_v129 : StableHlo.TRef sig ⟨S1x2048x8, .i32⟩) (.of main_call1_call0_v136 : StableHlo.TRef sig ⟨S1x2048x8, .i32⟩) (.of main_call1_call0_v137 : StableHlo.TRef sig ⟨S1x2048x8, .i32⟩) addi
  :: StableHlo.TRef.unary (.of main_call1_call0_v1 : StableHlo.TRef sig ⟨S_, .i32⟩) (.of main_call1_call0_v138 : StableHlo.TRef sig ⟨S1x2048x8, .i32⟩) (broadcastInDim S1x2048x8 ![] bcast_S_S1x2048x8)
  :: StableHlo.TRef.binary (.of main_call1_call0_v135 : StableHlo.TRef sig ⟨S1x2048x8, .i32⟩) (.of main_call1_call0_v138 : StableHlo.TRef sig ⟨S1x2048x8, .i32⟩) (.of main_call1_call0_v139 : StableHlo.TRef sig ⟨S1x2048x8, .i32⟩) addi
  :: StableHlo.TRef.nullary (.of main_call1_call0_c_35 : StableHlo.TRef sig ⟨S_, .i32⟩) (constantI S_ 32 4#32)
  :: StableHlo.TRef.unary (.of main_call1_call0_c_35 : StableHlo.TRef sig ⟨S_, .i32⟩) (.of main_call1_call0_v140 : StableHlo.TRef sig ⟨S1x2048x8, .i32⟩) (broadcastInDim S1x2048x8 ![] bcast_S_S1x2048x8)
  :: StableHlo.TRef.binary (.of main_call1_call0_v139 : StableHlo.TRef sig ⟨S1x2048x8, .i32⟩) (.of main_call1_call0_v140 : StableHlo.TRef sig ⟨S1x2048x8, .i32⟩) (.of main_call1_call0_v141 : StableHlo.TRef sig ⟨S1x2048x8, .i32⟩) addi
  :: StableHlo.TRef.binary (.of main_call1_call0_v137 : StableHlo.TRef sig ⟨S1x2048x8, .i32⟩) (.of main_call1_call0_v141 : StableHlo.TRef sig ⟨S1x2048x8, .i32⟩) (.of main_call1_call0_v142 : StableHlo.TRef sig ⟨S1x2048x8, .i32⟩) addi
  :: StableHlo.TRef.nullary (.of main_call1_call0_c_36 : StableHlo.TRef sig ⟨S_, .i32⟩) (constantI S_ 32 13#32)
  :: StableHlo.TRef.unary (.of main_call1_call0_c_36 : StableHlo.TRef sig ⟨S_, .i32⟩) (.of main_call1_call0_v143 : StableHlo.TRef sig ⟨S1x2048x8, .i32⟩) (broadcastInDim S1x2048x8 ![] bcast_S_S1x2048x8)
  :: StableHlo.TRef.binary (.of main_call1_call0_v141 : StableHlo.TRef sig ⟨S1x2048x8, .i32⟩) (.of main_call1_call0_v143 : StableHlo.TRef sig ⟨S1x2048x8, .i32⟩) (.of main_call1_call0_v144 : StableHlo.TRef sig ⟨S1x2048x8, .i32⟩) Host.shli
  :: StableHlo.TRef.nullary (.of main_call1_call0_c_37 : StableHlo.TRef sig ⟨S_, .i32⟩) (constantI S_ 32 19#32)
  :: StableHlo.TRef.unary (.of main_call1_call0_c_37 : StableHlo.TRef sig ⟨S_, .i32⟩) (.of main_call1_call0_v145 : StableHlo.TRef sig ⟨S1x2048x8, .i32⟩) (broadcastInDim S1x2048x8 ![] bcast_S_S1x2048x8)
  :: StableHlo.TRef.binary (.of main_call1_call0_v141 : StableHlo.TRef sig ⟨S1x2048x8, .i32⟩) (.of main_call1_call0_v145 : StableHlo.TRef sig ⟨S1x2048x8, .i32⟩) (.of main_call1_call0_v146 : StableHlo.TRef sig ⟨S1x2048x8, .i32⟩) Host.shrui
  :: StableHlo.TRef.binary (.of main_call1_call0_v144 : StableHlo.TRef sig ⟨S1x2048x8, .i32⟩) (.of main_call1_call0_v146 : StableHlo.TRef sig ⟨S1x2048x8, .i32⟩) (.of main_call1_call0_v147 : StableHlo.TRef sig ⟨S1x2048x8, .i32⟩) ori
  :: StableHlo.TRef.binary (.of main_call1_call0_v142 : StableHlo.TRef sig ⟨S1x2048x8, .i32⟩) (.of main_call1_call0_v147 : StableHlo.TRef sig ⟨S1x2048x8, .i32⟩) (.of main_call1_call0_v148 : StableHlo.TRef sig ⟨S1x2048x8, .i32⟩) xori
  :: StableHlo.TRef.binary (.of main_call1_call0_v142 : StableHlo.TRef sig ⟨S1x2048x8, .i32⟩) (.of main_call1_call0_v148 : StableHlo.TRef sig ⟨S1x2048x8, .i32⟩) (.of main_call1_call0_v149 : StableHlo.TRef sig ⟨S1x2048x8, .i32⟩) addi
  :: StableHlo.TRef.nullary (.of main_call1_call0_c_38 : StableHlo.TRef sig ⟨S_, .i32⟩) (constantI S_ 32 15#32)
  :: StableHlo.TRef.unary (.of main_call1_call0_c_38 : StableHlo.TRef sig ⟨S_, .i32⟩) (.of main_call1_call0_v150 : StableHlo.TRef sig ⟨S1x2048x8, .i32⟩) (broadcastInDim S1x2048x8 ![] bcast_S_S1x2048x8)
  :: StableHlo.TRef.binary (.of main_call1_call0_v148 : StableHlo.TRef sig ⟨S1x2048x8, .i32⟩) (.of main_call1_call0_v150 : StableHlo.TRef sig ⟨S1x2048x8, .i32⟩) (.of main_call1_call0_v151 : StableHlo.TRef sig ⟨S1x2048x8, .i32⟩) Host.shli
  :: StableHlo.TRef.nullary (.of main_call1_call0_c_39 : StableHlo.TRef sig ⟨S_, .i32⟩) (constantI S_ 32 17#32)
  :: StableHlo.TRef.unary (.of main_call1_call0_c_39 : StableHlo.TRef sig ⟨S_, .i32⟩) (.of main_call1_call0_v152 : StableHlo.TRef sig ⟨S1x2048x8, .i32⟩) (broadcastInDim S1x2048x8 ![] bcast_S_S1x2048x8)
  :: StableHlo.TRef.binary (.of main_call1_call0_v148 : StableHlo.TRef sig ⟨S1x2048x8, .i32⟩) (.of main_call1_call0_v152 : StableHlo.TRef sig ⟨S1x2048x8, .i32⟩) (.of main_call1_call0_v153 : StableHlo.TRef sig ⟨S1x2048x8, .i32⟩) Host.shrui
  :: StableHlo.TRef.binary (.of main_call1_call0_v151 : StableHlo.TRef sig ⟨S1x2048x8, .i32⟩) (.of main_call1_call0_v153 : StableHlo.TRef sig ⟨S1x2048x8, .i32⟩) (.of main_call1_call0_v154 : StableHlo.TRef sig ⟨S1x2048x8, .i32⟩) ori
  :: StableHlo.TRef.binary (.of main_call1_call0_v149 : StableHlo.TRef sig ⟨S1x2048x8, .i32⟩) (.of main_call1_call0_v154 : StableHlo.TRef sig ⟨S1x2048x8, .i32⟩) (.of main_call1_call0_v155 : StableHlo.TRef sig ⟨S1x2048x8, .i32⟩) xori
  :: StableHlo.TRef.binary (.of main_call1_call0_v149 : StableHlo.TRef sig ⟨S1x2048x8, .i32⟩) (.of main_call1_call0_v155 : StableHlo.TRef sig ⟨S1x2048x8, .i32⟩) (.of main_call1_call0_v156 : StableHlo.TRef sig ⟨S1x2048x8, .i32⟩) addi
  :: StableHlo.TRef.nullary (.of main_call1_call0_c_40 : StableHlo.TRef sig ⟨S_, .i32⟩) (constantI S_ 32 26#32)
  :: StableHlo.TRef.unary (.of main_call1_call0_c_40 : StableHlo.TRef sig ⟨S_, .i32⟩) (.of main_call1_call0_v157 : StableHlo.TRef sig ⟨S1x2048x8, .i32⟩) (broadcastInDim S1x2048x8 ![] bcast_S_S1x2048x8)
  :: StableHlo.TRef.binary (.of main_call1_call0_v155 : StableHlo.TRef sig ⟨S1x2048x8, .i32⟩) (.of main_call1_call0_v157 : StableHlo.TRef sig ⟨S1x2048x8, .i32⟩) (.of main_call1_call0_v158 : StableHlo.TRef sig ⟨S1x2048x8, .i32⟩) Host.shli
  :: StableHlo.TRef.nullary (.of main_call1_call0_c_41 : StableHlo.TRef sig ⟨S_, .i32⟩) (constantI S_ 32 6#32)
  :: StableHlo.TRef.unary (.of main_call1_call0_c_41 : StableHlo.TRef sig ⟨S_, .i32⟩) (.of main_call1_call0_v159 : StableHlo.TRef sig ⟨S1x2048x8, .i32⟩) (broadcastInDim S1x2048x8 ![] bcast_S_S1x2048x8)
  :: StableHlo.TRef.binary (.of main_call1_call0_v155 : StableHlo.TRef sig ⟨S1x2048x8, .i32⟩) (.of main_call1_call0_v159 : StableHlo.TRef sig ⟨S1x2048x8, .i32⟩) (.of main_call1_call0_v160 : StableHlo.TRef sig ⟨S1x2048x8, .i32⟩) Host.shrui
  :: StableHlo.TRef.binary (.of main_call1_call0_v158 : StableHlo.TRef sig ⟨S1x2048x8, .i32⟩) (.of main_call1_call0_v160 : StableHlo.TRef sig ⟨S1x2048x8, .i32⟩) (.of main_call1_call0_v161 : StableHlo.TRef sig ⟨S1x2048x8, .i32⟩) ori
  :: StableHlo.TRef.binary (.of main_call1_call0_v156 : StableHlo.TRef sig ⟨S1x2048x8, .i32⟩) (.of main_call1_call0_v161 : StableHlo.TRef sig ⟨S1x2048x8, .i32⟩) (.of main_call1_call0_v162 : StableHlo.TRef sig ⟨S1x2048x8, .i32⟩) xori
  :: StableHlo.TRef.binary (.of main_call1_call0_v156 : StableHlo.TRef sig ⟨S1x2048x8, .i32⟩) (.of main_call1_call0_v162 : StableHlo.TRef sig ⟨S1x2048x8, .i32⟩) (.of main_call1_call0_v163 : StableHlo.TRef sig ⟨S1x2048x8, .i32⟩) addi
  :: StableHlo.TRef.nullary (.of main_call1_call0_c_42 : StableHlo.TRef sig ⟨S_, .i32⟩) (constantI S_ 32 6#32)
  :: StableHlo.TRef.unary (.of main_call1_call0_c_42 : StableHlo.TRef sig ⟨S_, .i32⟩) (.of main_call1_call0_v164 : StableHlo.TRef sig ⟨S1x2048x8, .i32⟩) (broadcastInDim S1x2048x8 ![] bcast_S_S1x2048x8)
  :: StableHlo.TRef.binary (.of main_call1_call0_v162 : StableHlo.TRef sig ⟨S1x2048x8, .i32⟩) (.of main_call1_call0_v164 : StableHlo.TRef sig ⟨S1x2048x8, .i32⟩) (.of main_call1_call0_v165 : StableHlo.TRef sig ⟨S1x2048x8, .i32⟩) Host.shli
  :: StableHlo.TRef.nullary (.of main_call1_call0_c_43 : StableHlo.TRef sig ⟨S_, .i32⟩) (constantI S_ 32 26#32)
  :: StableHlo.TRef.unary (.of main_call1_call0_c_43 : StableHlo.TRef sig ⟨S_, .i32⟩) (.of main_call1_call0_v166 : StableHlo.TRef sig ⟨S1x2048x8, .i32⟩) (broadcastInDim S1x2048x8 ![] bcast_S_S1x2048x8)
  :: StableHlo.TRef.binary (.of main_call1_call0_v162 : StableHlo.TRef sig ⟨S1x2048x8, .i32⟩) (.of main_call1_call0_v166 : StableHlo.TRef sig ⟨S1x2048x8, .i32⟩) (.of main_call1_call0_v167 : StableHlo.TRef sig ⟨S1x2048x8, .i32⟩) Host.shrui
  :: StableHlo.TRef.binary (.of main_call1_call0_v165 : StableHlo.TRef sig ⟨S1x2048x8, .i32⟩) (.of main_call1_call0_v167 : StableHlo.TRef sig ⟨S1x2048x8, .i32⟩) (.of main_call1_call0_v168 : StableHlo.TRef sig ⟨S1x2048x8, .i32⟩) ori
  :: StableHlo.TRef.binary (.of main_call1_call0_v163 : StableHlo.TRef sig ⟨S1x2048x8, .i32⟩) (.of main_call1_call0_v168 : StableHlo.TRef sig ⟨S1x2048x8, .i32⟩) (.of main_call1_call0_v169 : StableHlo.TRef sig ⟨S1x2048x8, .i32⟩) xori
  :: StableHlo.TRef.unary (.of main_call1_call0_v1 : StableHlo.TRef sig ⟨S_, .i32⟩) (.of main_call1_call0_v170 : StableHlo.TRef sig ⟨S1x2048x8, .i32⟩) (broadcastInDim S1x2048x8 ![] bcast_S_S1x2048x8)
  :: StableHlo.TRef.binary (.of main_call1_call0_v163 : StableHlo.TRef sig ⟨S1x2048x8, .i32⟩) (.of main_call1_call0_v170 : StableHlo.TRef sig ⟨S1x2048x8, .i32⟩) (.of main_call1_v23_0 : StableHlo.TRef sig ⟨S1x2048x8, .i32⟩) addi
  :: StableHlo.TRef.unary (.of main_call1_v5 : StableHlo.TRef sig ⟨S_, .i32⟩) (.of main_call1_call0_v172 : StableHlo.TRef sig ⟨S1x2048x8, .i32⟩) (broadcastInDim S1x2048x8 ![] bcast_S_S1x2048x8)
  :: StableHlo.TRef.binary (.of main_call1_call0_v169 : StableHlo.TRef sig ⟨S1x2048x8, .i32⟩) (.of main_call1_call0_v172 : StableHlo.TRef sig ⟨S1x2048x8, .i32⟩) (.of main_call1_call0_v173 : StableHlo.TRef sig ⟨S1x2048x8, .i32⟩) addi
  :: StableHlo.TRef.nullary (.of main_call1_call0_c_44 : StableHlo.TRef sig ⟨S_, .i32⟩) (constantI S_ 32 5#32)
  :: StableHlo.TRef.unary (.of main_call1_call0_c_44 : StableHlo.TRef sig ⟨S_, .i32⟩) (.of main_call1_call0_v174 : StableHlo.TRef sig ⟨S1x2048x8, .i32⟩) (broadcastInDim S1x2048x8 ![] bcast_S_S1x2048x8)
  :: StableHlo.TRef.binary (.of main_call1_call0_v173 : StableHlo.TRef sig ⟨S1x2048x8, .i32⟩) (.of main_call1_call0_v174 : StableHlo.TRef sig ⟨S1x2048x8, .i32⟩) (.of main_call1_v23_1 : StableHlo.TRef sig ⟨S1x2048x8, .i32⟩) addi
  :: StableHlo.TRef.binary (.of main_call1_v23_0 : StableHlo.TRef sig ⟨S1x2048x8, .i32⟩) (.of main_call1_v23_1 : StableHlo.TRef sig ⟨S1x2048x8, .i32⟩) (.of main_call1_v24 : StableHlo.TRef sig ⟨S1x2048x8, .i32⟩) xori
  :: StableHlo.TRef.nullary (.of main_call1_c_3 : StableHlo.TRef sig ⟨S_, .i32⟩) (constantI S_ 32 9#32)
  :: StableHlo.TRef.unary (.of main_call1_c_3 : StableHlo.TRef sig ⟨S_, .i32⟩) (.of main_call1_v25 : StableHlo.TRef sig ⟨S1x2048x8, .i32⟩) (broadcastInDim S1x2048x8 ![] bcast_S_S1x2048x8)
  :: StableHlo.TRef.binary (.of main_call1_v24 : StableHlo.TRef sig ⟨S1x2048x8, .i32⟩) (.of main_call1_v25 : StableHlo.TRef sig ⟨S1x2048x8, .i32⟩) (.of main_call1_v26 : StableHlo.TRef sig ⟨S1x2048x8, .i32⟩) Host.shrui
  :: StableHlo.TRef.nullary (.of main_call1_c_4 : StableHlo.TRef sig ⟨S_, .i32⟩) (constantI S_ 32 1065353216#32)
  :: StableHlo.TRef.unary (.of main_call1_c_4 : StableHlo.TRef sig ⟨S_, .i32⟩) (.of main_call1_v27 : StableHlo.TRef sig ⟨S1x2048x8, .i32⟩) (broadcastInDim S1x2048x8 ![] bcast_S_S1x2048x8)
  :: StableHlo.TRef.binary (.of main_call1_v26 : StableHlo.TRef sig ⟨S1x2048x8, .i32⟩) (.of main_call1_v27 : StableHlo.TRef sig ⟨S1x2048x8, .i32⟩) (.of main_call1_v28 : StableHlo.TRef sig ⟨S1x2048x8, .i32⟩) ori
  :: StableHlo.TRef.unary (.of main_call1_v28 : StableHlo.TRef sig ⟨S1x2048x8, .i32⟩) (.of main_call1_v29 : StableHlo.TRef sig ⟨S1x2048x8, .f32⟩) (bitcastToFloat .f32)
  :: StableHlo.TRef.nullary (.of main_call1_cst : StableHlo.TRef sig ⟨S_, .f32⟩) (constant S_ .f32 0x3F800000#32)
  :: StableHlo.TRef.unary (.of main_call1_cst : StableHlo.TRef sig ⟨S_, .f32⟩) (.of main_call1_v30 : StableHlo.TRef sig ⟨S1x2048x8, .f32⟩) (broadcastInDim S1x2048x8 ![] bcast_S_S1x2048x8)
  :: StableHlo.TRef.binary (.of main_call1_v29 : StableHlo.TRef sig ⟨S1x2048x8, .f32⟩) (.of main_call1_v30 : StableHlo.TRef sig ⟨S1x2048x8, .f32⟩) (.of main_call1_v31 : StableHlo.TRef sig ⟨S1x2048x8, .f32⟩) subf
  :: StableHlo.TRef.binary (.of main_call1_v3 : StableHlo.TRef sig ⟨S1x1x1, .f32⟩) (.of main_call1_v2 : StableHlo.TRef sig ⟨S1x1x1, .f32⟩) (.of main_call1_v32 : StableHlo.TRef sig ⟨S1x1x1, .f32⟩) subf
  :: StableHlo.TRef.unary (.of main_call1_v32 : StableHlo.TRef sig ⟨S1x1x1, .f32⟩) (.of main_call1_v33 : StableHlo.TRef sig ⟨S1x2048x8, .f32⟩) (broadcastInDim S1x2048x8 ![0, 1, 2] bcast_S1x1x1_S1x2048x8_0_1_2)
  :: StableHlo.TRef.binary (.of main_call1_v31 : StableHlo.TRef sig ⟨S1x2048x8, .f32⟩) (.of main_call1_v33 : StableHlo.TRef sig ⟨S1x2048x8, .f32⟩) (.of main_call1_v34 : StableHlo.TRef sig ⟨S1x2048x8, .f32⟩) mulf
  :: StableHlo.TRef.unary (.of main_call1_v2 : StableHlo.TRef sig ⟨S1x1x1, .f32⟩) (.of main_call1_v35 : StableHlo.TRef sig ⟨S1x2048x8, .f32⟩) (broadcastInDim S1x2048x8 ![0, 1, 2] bcast_S1x1x1_S1x2048x8_0_1_2)
  :: StableHlo.TRef.binary (.of main_call1_v34 : StableHlo.TRef sig ⟨S1x2048x8, .f32⟩) (.of main_call1_v35 : StableHlo.TRef sig ⟨S1x2048x8, .f32⟩) (.of main_call1_v36 : StableHlo.TRef sig ⟨S1x2048x8, .f32⟩) addf
  :: StableHlo.TRef.unary (.of main_call1_v2 : StableHlo.TRef sig ⟨S1x1x1, .f32⟩) (.of main_call1_v37 : StableHlo.TRef sig ⟨S1x2048x8, .f32⟩) (broadcastInDim S1x2048x8 ![0, 1, 2] bcast_S1x1x1_S1x2048x8_0_1_2)
  :: StableHlo.TRef.binary (.of main_call1_v37 : StableHlo.TRef sig ⟨S1x2048x8, .f32⟩) (.of main_call1_v36 : StableHlo.TRef sig ⟨S1x2048x8, .f32⟩) (.of main_v16 : StableHlo.TRef sig ⟨S1x2048x8, .f32⟩) maximumf
  :: [] )

set_option maxHeartbeats 40000000 in
/-- 49 operations: the selection, the gates and the experts. -/
abbrev opsRest : List (HloOp τ sig (Elt F)) :=
  ( StableHlo.binary main_v8 main_v16 main_v17 (mulf : (⟨S1x2048x8, .f32⟩ : BufTy).Contents (Elt F) → (⟨S1x2048x8, .f32⟩ : BufTy).Contents (Elt F) → (⟨S1x2048x8, .f32⟩ : BufTy).Contents (Elt F))
  :: StableHlo.binary main_v3 main_v17 main_v18 (addf : (⟨S1x2048x8, .f32⟩ : BufTy).Contents (Elt F) → (⟨S1x2048x8, .f32⟩ : BufTy).Contents (Elt F) → (⟨S1x2048x8, .f32⟩ : BufTy).Contents (Elt F))
  :: StableHlo.unary main_v18 main_values ((fun x => (Host.topK S1x2048x2 2 (FloatOps.cmpfTotal .gt) x sliceFits_S1x2048x8_S1x2048x2).1) : (⟨S1x2048x8, .f32⟩ : BufTy).Contents (Elt F) → (⟨S1x2048x2, .f32⟩ : BufTy).Contents (Elt F))
  :: StableHlo.unary main_v18 main_indices ((fun x => (Host.topK S1x2048x2 2 (FloatOps.cmpfTotal .gt) x sliceFits_S1x2048x8_S1x2048x2).2) : (⟨S1x2048x8, .f32⟩ : BufTy).Contents (Elt F) → (⟨S1x2048x2, .i32⟩ : BufTy).Contents (Elt F))
  :: StableHlo.TRef.unary (.of main_indices : StableHlo.TRef sig ⟨S1x2048x2, .i32⟩) (.of main_call2_v0 : StableHlo.TRef sig ⟨S1x2048x2x1, .i32⟩) (broadcastInDim S1x2048x2x1 ![0, 1, 2] bcast_S1x2048x2_S1x2048x2x1_0_1_2)
  :: StableHlo.TRef.nullary (.of main_call2_v1 : StableHlo.TRef sig ⟨S1x1x1x8, .i32⟩) (iotaInDim S1x1x1x8 32 3)
  :: StableHlo.TRef.unary (.of main_call2_v0 : StableHlo.TRef sig ⟨S1x2048x2x1, .i32⟩) (.of main_call2_v2 : StableHlo.TRef sig ⟨S1x2048x2x8, .i32⟩) (broadcastInDim S1x2048x2x8 ![0, 1, 2, 3] bcast_S1x2048x2x1_S1x2048x2x8_0_1_2_3)
  :: StableHlo.TRef.unary (.of main_call2_v1 : StableHlo.TRef sig ⟨S1x1x1x8, .i32⟩) (.of main_call2_v3 : StableHlo.TRef sig ⟨S1x2048x2x8, .i32⟩) (broadcastInDim S1x2048x2x8 ![0, 1, 2, 3] bcast_S1x1x1x8_S1x2048x2x8_0_1_2_3)
  :: StableHlo.TRef.binary (.of main_call2_v2 : StableHlo.TRef sig ⟨S1x2048x2x8, .i32⟩) (.of main_call2_v3 : StableHlo.TRef sig ⟨S1x2048x2x8, .i32⟩) (.of main_call2_v4 : StableHlo.TRef sig ⟨S1x2048x2x8, .i1⟩) (cmpi .eq)
  :: StableHlo.TRef.unary (.of main_call2_v4 : StableHlo.TRef sig ⟨S1x2048x2x8, .i1⟩) (.of main_v19 : StableHlo.TRef sig ⟨S1x2048x2x8, .f32⟩) (uitofp .f32)
  :: StableHlo.nullary main_cst_3 (constant S_ .f32 0x00000000#32)
  :: StableHlo.binary main_v19 main_cst_3 main_v20 ((fun x v => Host.reduceAdd x v reducesTo_S1x2048x2x8_S1x2048x8_d2 h_S_) : (⟨S1x2048x2x8, .f32⟩ : BufTy).Contents (Elt F) → (⟨S_, .f32⟩ : BufTy).Contents (Elt F) → (⟨S1x2048x8, .f32⟩ : BufTy).Contents (Elt F))
  :: StableHlo.nullary main_cst_4 (constant S_ .f32 0x00000000#32)
  :: StableHlo.unary main_cst_4 main_v21 (broadcastInDim S1x2048x8 ![] bcast_S_S1x2048x8 : (⟨S_, .f32⟩ : BufTy).Contents (Elt F) → (⟨S1x2048x8, .f32⟩ : BufTy).Contents (Elt F))
  :: StableHlo.binary main_v20 main_v21 main_v22 (cmpf .ogt : (⟨S1x2048x8, .f32⟩ : BufTy).Contents (Elt F) → (⟨S1x2048x8, .f32⟩ : BufTy).Contents (Elt F) → (⟨S1x2048x8, .i1⟩ : BufTy).Contents (Elt F))
  :: StableHlo.nullary main_cst_5 (constant S_ .f32 0xFF800000#32)
  :: StableHlo.TRef.unary (.of main_cst_5 : StableHlo.TRef sig ⟨S_, .f32⟩) (.of main_call3_v0 : StableHlo.TRef sig ⟨S_, .f32⟩) id
  :: StableHlo.TRef.unary (.of main_call3_v0 : StableHlo.TRef sig ⟨S_, .f32⟩) (.of main_call3_v1 : StableHlo.TRef sig ⟨S1x2048x8, .f32⟩) (broadcastInDim S1x2048x8 ![] bcast_S_S1x2048x8)
  :: StableHlo.TRef.ternary (.of main_v22 : StableHlo.TRef sig ⟨S1x2048x8, .i1⟩) (.of main_v18 : StableHlo.TRef sig ⟨S1x2048x8, .f32⟩) (.of main_call3_v1 : StableHlo.TRef sig ⟨S1x2048x8, .f32⟩) (.of main_v23 : StableHlo.TRef sig ⟨S1x2048x8, .f32⟩) select
  :: StableHlo.nullary main_cst_6 (constant S_ .f32 0xFF800000#32)
  :: StableHlo.binary main_v23 main_cst_6 main_v24 ((fun x v => Host.reduce FloatOps.maximumf x v reducesTo_S1x2048x8_S1x2048_d2 h_S_) : (⟨S1x2048x8, .f32⟩ : BufTy).Contents (Elt F) → (⟨S_, .f32⟩ : BufTy).Contents (Elt F) → (⟨S1x2048, .f32⟩ : BufTy).Contents (Elt F))
  :: StableHlo.nullary main_cst_7 (constant S_ .f32 0xFF800000#32)
  :: StableHlo.unary main_cst_7 main_v25 (broadcastInDim S1x2048 ![] bcast_S_S1x2048 : (⟨S_, .f32⟩ : BufTy).Contents (Elt F) → (⟨S1x2048, .f32⟩ : BufTy).Contents (Elt F))
  :: StableHlo.binary main_v25 main_v24 main_v26 (maximumf : (⟨S1x2048, .f32⟩ : BufTy).Contents (Elt F) → (⟨S1x2048, .f32⟩ : BufTy).Contents (Elt F) → (⟨S1x2048, .f32⟩ : BufTy).Contents (Elt F))
  :: StableHlo.unary main_v26 main_v27 (broadcastInDim S1x2048x1 ![0, 1] bcast_S1x2048_S1x2048x1_0_1 : (⟨S1x2048, .f32⟩ : BufTy).Contents (Elt F) → (⟨S1x2048x1, .f32⟩ : BufTy).Contents (Elt F))
  :: StableHlo.unary main_v27 main_v28 (broadcastInDim S1x2048x8 ![0, 1, 2] bcast_S1x2048x1_S1x2048x8_0_1_2 : (⟨S1x2048x1, .f32⟩ : BufTy).Contents (Elt F) → (⟨S1x2048x8, .f32⟩ : BufTy).Contents (Elt F))
  :: StableHlo.binary main_v23 main_v28 main_v29 (subf : (⟨S1x2048x8, .f32⟩ : BufTy).Contents (Elt F) → (⟨S1x2048x8, .f32⟩ : BufTy).Contents (Elt F) → (⟨S1x2048x8, .f32⟩ : BufTy).Contents (Elt F))
  :: StableHlo.unary main_v29 main_v30 (Host.exp : (⟨S1x2048x8, .f32⟩ : BufTy).Contents (Elt F) → (⟨S1x2048x8, .f32⟩ : BufTy).Contents (Elt F))
  :: StableHlo.nullary main_cst_8 (constant S_ .f32 0x00000000#32)
  :: StableHlo.binary main_v30 main_cst_8 main_v31 ((fun x v => Host.reduceAdd x v reducesTo_S1x2048x8_S1x2048_d2 h_S_) : (⟨S1x2048x8, .f32⟩ : BufTy).Contents (Elt F) → (⟨S_, .f32⟩ : BufTy).Contents (Elt F) → (⟨S1x2048, .f32⟩ : BufTy).Contents (Elt F))
  :: StableHlo.unary main_v31 main_v32 (broadcastInDim S1x2048x1 ![0, 1] bcast_S1x2048_S1x2048x1_0_1 : (⟨S1x2048, .f32⟩ : BufTy).Contents (Elt F) → (⟨S1x2048x1, .f32⟩ : BufTy).Contents (Elt F))
  :: StableHlo.unary main_v32 main_v33 (broadcastInDim S1x2048x8 ![0, 1, 2] bcast_S1x2048x1_S1x2048x8_0_1_2 : (⟨S1x2048x1, .f32⟩ : BufTy).Contents (Elt F) → (⟨S1x2048x8, .f32⟩ : BufTy).Contents (Elt F))
  :: StableHlo.binary main_v30 main_v33 main_v34 (Host.divf : (⟨S1x2048x8, .f32⟩ : BufTy).Contents (Elt F) → (⟨S1x2048x8, .f32⟩ : BufTy).Contents (Elt F) → (⟨S1x2048x8, .f32⟩ : BufTy).Contents (Elt F))
  :: StableHlo.reshape main_arg0 main_v35 (rfl : (.f32 : EltTy) = .f32) shapeCasts_S1x2048x768_S2048x768
  :: StableHlo.binary main_v35 main_arg5 main_v36 ((fun l r => Host.dotGeneral dot_S2048x768_S8x768x3072_S2048x8x3072_1_1_0_02_n_n none l r) : (⟨S2048x768, .f32⟩ : BufTy).Contents (Elt F) → (⟨S8x768x3072, .f32⟩ : BufTy).Contents (Elt F) → (⟨S2048x8x3072, .f32⟩ : BufTy).Contents (Elt F))
  :: StableHlo.unary main_arg6 main_v37 (broadcastInDim S1x8x3072 ![1, 2] bcast_S8x3072_S1x8x3072_1_2 : (⟨S8x3072, .f32⟩ : BufTy).Contents (Elt F) → (⟨S1x8x3072, .f32⟩ : BufTy).Contents (Elt F))
  :: StableHlo.unary main_v37 main_v38 (broadcastInDim S2048x8x3072 ![0, 1, 2] bcast_S1x8x3072_S2048x8x3072_0_1_2 : (⟨S1x8x3072, .f32⟩ : BufTy).Contents (Elt F) → (⟨S2048x8x3072, .f32⟩ : BufTy).Contents (Elt F))
  :: StableHlo.binary main_v36 main_v38 main_v39 (addf : (⟨S2048x8x3072, .f32⟩ : BufTy).Contents (Elt F) → (⟨S2048x8x3072, .f32⟩ : BufTy).Contents (Elt F) → (⟨S2048x8x3072, .f32⟩ : BufTy).Contents (Elt F))
  :: StableHlo.TRef.nullary (.of main_call4_cst : StableHlo.TRef sig ⟨S_, .f32⟩) (constant S_ .f32 0x00000000#32)
  :: StableHlo.TRef.unary (.of main_call4_cst : StableHlo.TRef sig ⟨S_, .f32⟩) (.of main_call4_v0 : StableHlo.TRef sig ⟨S2048x8x3072, .f32⟩) (broadcastInDim S2048x8x3072 ![] bcast_S_S2048x8x3072)
  :: StableHlo.TRef.binary (.of main_v39 : StableHlo.TRef sig ⟨S2048x8x3072, .f32⟩) (.of main_call4_v0 : StableHlo.TRef sig ⟨S2048x8x3072, .f32⟩) (.of main_v40 : StableHlo.TRef sig ⟨S2048x8x3072, .f32⟩) maximumf
  :: StableHlo.binary main_arg7 main_v40 main_v41 ((fun l r => Host.dotGeneral dot_S8x3072x768_S2048x8x3072_S8x768x2048_1_2_2_0_0_1 none l r) : (⟨S8x3072x768, .f32⟩ : BufTy).Contents (Elt F) → (⟨S2048x8x3072, .f32⟩ : BufTy).Contents (Elt F) → (⟨S8x768x2048, .f32⟩ : BufTy).Contents (Elt F))
  :: StableHlo.unary main_v41 main_v42 ((transpose S2048x8x768 [2, 0, 1] · transposes_S8x768x2048_S2048x8x768_2_0_1) : (⟨S8x768x2048, .f32⟩ : BufTy).Contents (Elt F) → (⟨S2048x8x768, .f32⟩ : BufTy).Contents (Elt F))
  :: StableHlo.unary main_arg8 main_v43 (broadcastInDim S1x8x768 ![1, 2] bcast_S8x768_S1x8x768_1_2 : (⟨S8x768, .f32⟩ : BufTy).Contents (Elt F) → (⟨S1x8x768, .f32⟩ : BufTy).Contents (Elt F))
  :: StableHlo.unary main_v43 main_v44 (broadcastInDim S2048x8x768 ![0, 1, 2] bcast_S1x8x768_S2048x8x768_0_1_2 : (⟨S1x8x768, .f32⟩ : BufTy).Contents (Elt F) → (⟨S2048x8x768, .f32⟩ : BufTy).Contents (Elt F))
  :: StableHlo.binary main_v42 main_v44 main_v45 (addf : (⟨S2048x8x768, .f32⟩ : BufTy).Contents (Elt F) → (⟨S2048x8x768, .f32⟩ : BufTy).Contents (Elt F) → (⟨S2048x8x768, .f32⟩ : BufTy).Contents (Elt F))
  :: StableHlo.reshape main_v34 main_v46 (rfl : (.f32 : EltTy) = .f32) shapeCasts_S1x2048x8_S2048x8
  :: StableHlo.binary main_v45 main_v46 main_v47 ((fun l r => Host.dotGeneral dot_S2048x8x768_S2048x8_S2048x768_1_1_2_n_0_0 none l r) : (⟨S2048x8x768, .f32⟩ : BufTy).Contents (Elt F) → (⟨S2048x8, .f32⟩ : BufTy).Contents (Elt F) → (⟨S2048x768, .f32⟩ : BufTy).Contents (Elt F))
  :: StableHlo.reshape main_v47 main_v48 (rfl : (.f32 : EltTy) = .f32) shapeCasts_S2048x768_S1x2048x768
  :: [] )

/-- Every operation of `opsScale` touches buffers of the TensorCore alone. -/
theorem opsScale_sub : (opsScale : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub ..⟩

/-- None of `opsScale` allocates. -/
theorem opsScale_fresh : (opsScale : List (HloOp τ sig (Elt F))).Forall fun op => op.fresh = ∅ :=
  StableHlo.forall_fresh_of_map rfl

/-- What the operations of `opsScale` write, in order. -/
abbrev opsScale_W : List (Ref sig .tc) :=
  [main_v0, main_v1, main_v2, main_v3, main_v4, main_v5, main_v6, main_v7, main_call0_cst, main_call0_v0, main_call0_v1, main_call0_v2, main_call0_v3, main_call0_v4, main_call0_v5, main_call0_v6, main_call0_v7, main_call0_v8, main_call0_v9, main_call0_v10, main_call0_v11, main_v8]

theorem opsScale_writes : (opsScale : List (HloOp τ sig (Elt F))).map HloOp.writes = opsScale_W.map fun r => {Proc.devRef (τ := τ) .tc r} := rfl

/-- Every operation of `opsKey` touches buffers of the TensorCore alone. -/
theorem opsKey_sub : (opsKey : List (HloOp τ sig (Elt F))).Forall fun op => op.bufs ⊆ StableHlo.tcRefs τ sig :=
  ⟨StableHlo.nullary_bufs_sub .., StableHlo.nullary_bufs_sub .., StableHlo.binary_bufs_sub .., StableHlo.unary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.nullary_bufs_sub ..⟩

/-- None of `opsKey` allocates. -/
theorem opsKey_fresh : (opsKey : List (HloOp τ sig (Elt F))).Forall fun op => op.fresh = ∅ :=
  StableHlo.forall_fresh_of_map rfl

/-- What the operations of `opsKey` write, in order. -/
abbrev opsKey_W : List (Ref sig .tc) :=
  [main_c, main_c_0, main_v9, main_v10, main_v11, main_c_1, main_v12, main_v13, main_v14, main_v15, main_cst, main_cst_2]

theorem opsKey_writes : (opsKey : List (HloOp τ sig (Elt F))).map HloOp.writes = opsKey_W.map fun r => {Proc.devRef (τ := τ) .tc r} := rfl

/-- Every operation of `opsNoise` touches buffers of the TensorCore alone. -/
theorem opsNoise_sub : (opsNoise : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.nullary_bufs_sub .., StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub ..⟩

/-- None of `opsNoise` allocates. -/
theorem opsNoise_fresh : (opsNoise : List (HloOp τ sig (Elt F))).Forall fun op => op.fresh = ∅ :=
  StableHlo.forall_fresh_of_map rfl

/-- What the operations of `opsNoise` write, in order. -/
abbrev opsNoise_W : List (Ref sig .tc) :=
  [main_call1_v0, main_call1_v1, main_call1_v2, main_call1_v3, main_call1_v4, main_call1_v5, main_call1_v6, main_call1_v7, main_call1_v8, main_call1_v9, main_call1_v10, main_call1_c, main_call1_v11, main_call1_v12, main_call1_c_0, main_call1_v13, main_call1_v14, main_call1_c_1, main_call1_v15, main_call1_v16, main_call1_v17, main_call1_v18, main_call1_c_2, main_call1_v19, main_call1_v20, main_call1_v21, main_call1_v22, main_call1_call0_v0, main_call1_call0_c, main_call1_call0_v1, main_call1_call0_v2, main_call1_call0_v3, main_call1_call0_v4, main_call1_call0_v5, main_call1_call0_v6, main_call1_call0_c_0, main_call1_call0_v7, main_call1_call0_v8, main_call1_call0_c_1, main_call1_call0_v9, main_call1_call0_v10, main_call1_call0_v11, main_call1_call0_v12, main_call1_call0_v13, main_call1_call0_c_2, main_call1_call0_v14, main_call1_call0_v15, main_call1_call0_c_3, main_call1_call0_v16, main_call1_call0_v17, main_call1_call0_v18, main_call1_call0_v19, main_call1_call0_v20, main_call1_call0_c_4, main_call1_call0_v21, main_call1_call0_v22, main_call1_call0_c_5, main_call1_call0_v23, main_call1_call0_v24, main_call1_call0_v25, main_call1_call0_v26, main_call1_call0_v27, main_call1_call0_c_6, main_call1_call0_v28, main_call1_call0_v29, main_call1_call0_c_7, main_call1_call0_v30, main_call1_call0_v31, main_call1_call0_v32, main_call1_call0_v33, main_call1_call0_v34, main_call1_call0_v35, main_call1_call0_v36, main_call1_call0_v37, main_call1_call0_c_8, main_call1_call0_v38, main_call1_call0_v39, main_call1_call0_v40, main_call1_call0_c_9, main_call1_call0_v41, main_call1_call0_v42, main_call1_call0_c_10, main_call1_call0_v43, main_call1_call0_v44, main_call1_call0_v45, main_call1_call0_v46, main_call1_call0_v47, main_call1_call0_c_11, main_call1_call0_v48, main_call1_call0_v49, main_call1_call0_c_12, main_call1_call0_v50, main_call1_call0_v51, main_call1_call0_v52, main_call1_call0_v53, main_call1_call0_v54, main_call1_call0_c_13, main_call1_call0_v55, main_call1_call0_v56, main_call1_call0_c_14, main_call1_call0_v57, main_call1_call0_v58, main_call1_call0_v59, main_call1_call0_v60, main_call1_call0_v61, main_call1_call0_c_15, main_call1_call0_v62, main_call1_call0_v63, main_call1_call0_c_16, main_call1_call0_v64, main_call1_call0_v65, main_call1_call0_v66, main_call1_call0_v67, main_call1_call0_v68, main_call1_call0_v69, main_call1_call0_v70, main_call1_call0_v71, main_call1_call0_c_17, main_call1_call0_v72, main_call1_call0_v73, main_call1_call0_v74, main_call1_call0_c_18, main_call1_call0_v75, main_call1_call0_v76, main_call1_call0_c_19, main_call1_call0_v77, main_call1_call0_v78, main_call1_call0_v79, main_call1_call0_v80, main_call1_call0_v81, main_call1_call0_c_20, main_call1_call0_v82, main_call1_call0_v83, main_call1_call0_c_21, main_call1_call0_v84, main_call1_call0_v85, main_call1_call0_v86, main_call1_call0_v87, main_call1_call0_v88, main_call1_call0_c_22, main_call1_call0_v89, main_call1_call0_v90, main_call1_call0_c_23, main_call1_call0_v91, main_call1_call0_v92, main_call1_call0_v93, main_call1_call0_v94, main_call1_call0_v95, main_call1_call0_c_24, main_call1_call0_v96, main_call1_call0_v97, main_call1_call0_c_25, main_call1_call0_v98, main_call1_call0_v99, main_call1_call0_v100, main_call1_call0_v101, main_call1_call0_v102, main_call1_call0_v103, main_call1_call0_v104, main_call1_call0_v105, main_call1_call0_c_26, main_call1_call0_v106, main_call1_call0_v107, main_call1_call0_v108, main_call1_call0_c_27, main_call1_call0_v109, main_call1_call0_v110, main_call1_call0_c_28, main_call1_call0_v111, main_call1_call0_v112, main_call1_call0_v113, main_call1_call0_v114, main_call1_call0_v115, main_call1_call0_c_29, main_call1_call0_v116, main_call1_call0_v117, main_call1_call0_c_30, main_call1_call0_v118, main_call1_call0_v119, main_call1_call0_v120, main_call1_call0_v121, main_call1_call0_v122, main_call1_call0_c_31, main_call1_call0_v123, main_call1_call0_v124, main_call1_call0_c_32, main_call1_call0_v125, main_call1_call0_v126, main_call1_call0_v127, main_call1_call0_v128, main_call1_call0_v129, main_call1_call0_c_33, main_call1_call0_v130, main_call1_call0_v131, main_call1_call0_c_34, main_call1_call0_v132, main_call1_call0_v133, main_call1_call0_v134, main_call1_call0_v135, main_call1_call0_v136, main_call1_call0_v137, main_call1_call0_v138, main_call1_call0_v139, main_call1_call0_c_35, main_call1_call0_v140, main_call1_call0_v141, main_call1_call0_v142, main_call1_call0_c_36, main_call1_call0_v143, main_call1_call0_v144, main_call1_call0_c_37, main_call1_call0_v145, main_call1_call0_v146, main_call1_call0_v147, main_call1_call0_v148, main_call1_call0_v149, main_call1_call0_c_38, main_call1_call0_v150, main_call1_call0_v151, main_call1_call0_c_39, main_call1_call0_v152, main_call1_call0_v153, main_call1_call0_v154, main_call1_call0_v155, main_call1_call0_v156, main_call1_call0_c_40, main_call1_call0_v157, main_call1_call0_v158, main_call1_call0_c_41, main_call1_call0_v159, main_call1_call0_v160, main_call1_call0_v161, main_call1_call0_v162, main_call1_call0_v163, main_call1_call0_c_42, main_call1_call0_v164, main_call1_call0_v165, main_call1_call0_c_43, main_call1_call0_v166, main_call1_call0_v167, main_call1_call0_v168, main_call1_call0_v169, main_call1_call0_v170, main_call1_v23_0, main_call1_call0_v172, main_call1_call0_v173, main_call1_call0_c_44, main_call1_call0_v174, main_call1_v23_1, main_call1_v24, main_call1_c_3, main_call1_v25, main_call1_v26, main_call1_c_4, main_call1_v27, main_call1_v28, main_call1_v29, main_call1_cst, main_call1_v30, main_call1_v31, main_call1_v32, main_call1_v33, main_call1_v34, main_call1_v35, main_call1_v36, main_call1_v37, main_v16]

theorem opsNoise_writes : (opsNoise : List (HloOp τ sig (Elt F))).map HloOp.writes = opsNoise_W.map fun r => {Proc.devRef (τ := τ) .tc r} := rfl

/-- Every operation of `opsRest` touches buffers of the TensorCore alone. -/
theorem opsRest_sub : (opsRest : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.unary_bufs_sub .., StableHlo.nullary_bufs_sub .., StableHlo.unary_bufs_sub .., StableHlo.unary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.reshape_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.reshape_bufs_sub .., StableHlo.binary_bufs_sub .., StableHlo.reshape_bufs_sub ..⟩

/-- None of `opsRest` allocates. -/
theorem opsRest_fresh : (opsRest : List (HloOp τ sig (Elt F))).Forall fun op => op.fresh = ∅ :=
  StableHlo.forall_fresh_of_map rfl

/-- What the operations of `opsRest` write, in order. -/
abbrev opsRest_W : List (Ref sig .tc) :=
  [main_v17, main_v18, main_values, main_indices, main_call2_v0, main_call2_v1, main_call2_v2, main_call2_v3, main_call2_v4, main_v19, main_cst_3, main_v20, main_cst_4, main_v21, main_v22, main_cst_5, main_call3_v0, main_call3_v1, main_v23, main_cst_6, main_v24, main_cst_7, main_v25, main_v26, main_v27, main_v28, main_v29, main_v30, main_cst_8, main_v31, main_v32, main_v33, main_v34, main_v35, main_v36, main_v37, main_v38, main_v39, main_call4_cst, main_call4_v0, main_v40, main_v41, main_v42, main_v43, main_v44, main_v45, main_v46, main_v47, main_v48]

theorem opsRest_writes : (opsRest : List (HloOp τ sig (Elt F))).map HloOp.writes = opsRest_W.map fun r => {Proc.devRef (τ := τ) .tc r} := rfl

/-- The printed program is the run of the four stretches. -/
theorem main_line (c : Dev nD) : main (F := F) c = StableHlo.seq (opsScale ++ (opsKey ++ (opsNoise ++ opsRest))) := by
  chain_rfl

/-- The whole line touches buffers of the TensorCore alone. -/
theorem line_sub : (opsScale ++ (opsKey ++ (opsNoise ++ opsRest)) : List (HloOp τ sig (Elt F))).Forall fun op => op.bufs ⊆ StableHlo.tcRefs τ sig :=
  List.forall_append.mpr ⟨opsScale_sub, List.forall_append.mpr ⟨opsKey_sub, List.forall_append.mpr ⟨opsNoise_sub, opsRest_sub⟩⟩⟩

/-- The whole line allocates nothing. -/
theorem line_fresh : ∀ op ∈ (opsScale ++ (opsKey ++ (opsNoise ++ opsRest)) : List (HloOp τ sig (Elt F))), op.fresh = ∅ :=
  List.forall_iff_forall_mem.mp
    (List.forall_append.mpr ⟨opsScale_fresh, List.forall_append.mpr ⟨opsKey_fresh, List.forall_append.mpr ⟨opsNoise_fresh, opsRest_fresh⟩⟩⟩)

/-- The contents of device `c` when the reference returns. -/
def final (m : (ℓ : Loc nD τ sig) → Buf (Elt F) ℓ) (c : Dev nD) : Valuation τ sig (Elt F) :=
  StableHlo.after opsRest (StableHlo.after opsNoise (StableHlo.after opsKey (StableHlo.after opsScale (StableHlo.launchContents m c))))

/-- A buffer none of the stretches writes ends as launched. -/
theorem final_unwritten (m : (ℓ : Loc nD τ sig) → Buf (Elt F) ℓ) (c : Dev nD) {r : Ref sig .tc}
    (h₁ : r ∉ opsScale_W) (h₄ : r ∉ opsKey_W) (h₂ : r ∉ opsNoise_W) (h₃ : r ∉ opsRest_W) :
    final m c (Proc.devRef .tc r) = m ((c.tc : Thread nD τ).loc r) := by
  unfold final
  rw [StableHlo.after_of_writes_sub _ _ (StableHlo.forall_writes_sub_of_map opsRest_writes) h₃, StableHlo.after_of_writes_sub _ _ (StableHlo.forall_writes_sub_of_map opsNoise_writes) h₂,
    StableHlo.after_of_writes_sub _ _ (StableHlo.forall_writes_sub_of_map opsKey_writes) h₄,
    StableHlo.after_of_writes_sub _ _ (StableHlo.forall_writes_sub_of_map opsScale_writes) h₁]

/-- The reference runs: every buffer ends at `final`, and there is no counter to leave nonzero. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = final m d (Proc.devRef .tc b) :=
  θ_run_mono (StableHlo.run_hlo defs main (fun d => main_line d) (by decide) (by decide) line_sub line_fresh m ρ)
    fun _ h d b => (h d b).trans (by
      unfold final
      rw [StableHlo.after_append, StableHlo.after_append, StableHlo.after_append])

/-- The run once more: the arguments end as launched, with every counter at zero. -/
theorem run_quiet (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
      ∧ r.2.sem = fun _ => 0 := by
  refine θ_run_mono (run m ρ) fun r h => ⟨fun c => ?_, sem_eq_zero_of_no_sems (by decide) r.2⟩
  have hk : ∀ b : Ref sig .tc, b ∉ opsScale_W → b ∉ opsKey_W → b ∉ opsNoise_W → b ∉ opsRest_W →
        r.2.mem ((c.tc : Thread nD τ).loc b) = m ((c.tc : Thread nD τ).loc b) :=
    fun b h₁ h₄ h₂ h₃ => (h c b).trans (final_unwritten m c h₁ h₄ h₂ h₃)
  refine ⟨?_, ?_, ?_, ?_, ?_, ?_, ?_, ?_, ?_⟩ <;>
    exact hk _ (by decide +kernel) (by decide +kernel) (by decide +kernel) (by decide +kernel)

end Cert.ReferenceIdeal.Line
end
-- ==== Proof.Expert.lean ====
/-
  One expert at one row block: what the second kernel's body adds to the accumulator, as a formula.
-/
module

public import proofs.«01_k».proof.Proof.Gen.KernelIdeal.Frame
public import Idealize.ShloMosaic.Lib.Pointwise
public import Idealize.ShloMosaic.Lib.Pipeline.Value
public import Idealize.ShloMosaic.Lib.Pipeline.ReadBack
public import Idealize.ShloMosaic.Lib.Pipeline.ValueKit.Tiles

@[expose] public section

set_option maxRecDepth 16384

noncomputable section

namespace Cert.Expert

open Idealize.ShloMosaic Idealize.ShloMosaic.Pointwise Idealize.ShloMosaic.Tactic Cert.KernelIdeal Cert.KernelIdeal.Gen

/-- One output of one expert for one row: the two-layer network with a rectifier in between. -/
def cell (x : Fin 768 → EReal) (w1 : Fin 768 → Fin 3072 → EReal) (b1 : Fin 3072 → EReal) (w2 : Fin 3072 → Fin 768 → EReal)
    (b2 : Fin 768 → EReal) (j : Fin 768) : EReal :=
  (∑ k, max ((∑ d, x d * w1 d k) + b1 k) 0 * w2 k j) + b2 j

/-- Two expert numbers, as words, are equal exactly when they are the same expert. -/
theorem word_eq (a b : Fin 8) :
    IntOp.cmpi .eq (BitVec.ofNat 32 a.val) (BitVec.ofNat 32 b.val) = if a = b then 1#1 else 0#1 := by
  revert a b; decide

/-- A row summed after every lane but one is set to zero is that lane. -/
theorem pick_lane (f : Fin 8 → EReal) (e : Fin 8) :
    (∑ l : Fin 8, Scalar.select (IntOp.cmpi .eq (BitVec.ofNat 32 l.val) (BitVec.ofNat 32 e.val)) (f l) 0) = f e := by
  rw [Finset.sum_eq_single e]
  · rw [word_eq, if_pos rfl]; rfl
  · intro l _ hl
    rw [word_eq, if_neg hl]; rfl
  · exact fun h => absurd (Finset.mem_univ e) h

/-- The value stored for 512 rows, from what the body loads: the accumulator plus the expert's output times the gate. -/
def chunk {F : FTy → Type} [FloatOps F] (i : grid1.Coords) (w1 : Vec F S1x768x3072 .bf16) (w2 : Vec F S1x3072x768 .bf16)
    (b1 : Vec F S1x1x3072 .f32) (b2 : Vec F S1x1x768 .f32) (x : Vec F S512x768 .f32) (g : Vec F S512x8 .f32)
    (acc : Vec F S512x768 .f32) : FVec F S512x768 .f32 :=
  k1_pay9 (k1_pay7 w1 w2 b1 b2 x) (k1_pay8 i g) acc

theorem chunk_apply (i : grid1.Coords) (w1 : Vec Ideal S1x768x3072 .bf16) (w2 : Vec Ideal S1x3072x768 .bf16)
    (b1 : Vec Ideal S1x1x3072 .f32) (b2 : Vec Ideal S1x1x768 .f32) (x : Vec Ideal S512x768 .f32) (g : Vec Ideal S512x8 .f32)
    (acc : Vec Ideal S512x768 .f32) (r : Fin 512) (j : Fin 768) :
    chunk i w1 w2 b1 b2 x g acc (ix2 r j) = acc (ix2 r j)
      + cell (fun d => x (ix2 r d)) (fun d k => w1 (ix3 0 d k)) (fun k => b1 (ix3 0 0 k)) (fun k j => w2 (ix3 0 k j))
          (fun j => b2 (ix3 0 0 j)) j * g (ix2 r (i 0)) := by
  pointwise [chunk, k1_pay9, k1_pay7, k1_pay8, k1_pay3, k1_pay4, k1_pay5, k1_pay6, cell]
  congr 2
  exact pick_lane (fun l => g (ix2 r l)) (i 0)

/-- The block after a point: what it held plus the expert's output times that expert's gate, row by row. -/
def added (i : grid1.Coords) (x0 : Vec Ideal S2048x768 .f32) (x1 : Vec Ideal S1x768x3072 .bf16) (x2 : Vec Ideal S1x1x3072 .f32)
    (x3 : Vec Ideal S1x3072x768 .bf16) (x4 : Vec Ideal S1x1x768 .f32) (x5 : Vec Ideal S2048x8 .f32)
    (xo : Vec Ideal S2048x768 .f32) : Vec Ideal S2048x768 .f32 := fun y => xo y
  + cell (fun d => x0 (ix2 (y 0) d)) (fun d k => x1 (ix3 0 d k)) (fun k => x2 (ix3 0 0 k)) (fun k j => x3 (ix3 0 k j))
      (fun j => x4 (ix3 0 0 j)) (y 1) * x5 (ix2 (y 0) (i 0))

theorem hz3 : (![0, 0, 0] : Fin 3 → Nat) = fun _ => 0 := funext fun a => by fin_cases a <;> rfl
theorem hz2 : (![0, 0] : Fin 2 → Nat) = fun _ => 0 := funext fun a => by fin_cases a <;> rfl

/-- A load of rows from `o` on reads row `o + r` at row `r`. -/
theorem ld_rows {n w : Nat} {e : EltTy} (X : Vec Ideal ⟨2, ![2048, w]⟩ e) (o : Nat)
    (h : ∀ a, ![o, 0] a + (⟨2, ![n, w]⟩ : Shape).size a ≤ (⟨2, ![2048, w]⟩ : Shape).size a)
    (r : Fin n) (l : Fin w) (q : Fin 2048) (hq : q.val = o + r.val) :
    View.ld X (Rect.unit (s := ⟨2, ![2048, w]⟩) ![o, 0] (⟨2, ![n, w]⟩ : Shape).size h) (ix2 r l) = X (ix2 q l) := by
  refine View.ld_unit_apply_of X _ _ h _ _ fun a => ?_
  match a with
  | ⟨0, _⟩ => exact hq
  | ⟨1, _⟩ => exact (Nat.zero_add _).symm

/-- A stored block of 512 rows is the matching rows of `added`. -/
theorem chunk_rows (i : grid1.Coords) (x0 : Vec Ideal S2048x768 .f32) (x1 : Vec Ideal S1x768x3072 .bf16) (x2 : Vec Ideal S1x1x3072 .f32)
    (x3 : Vec Ideal S1x3072x768 .bf16) (x4 : Vec Ideal S1x1x768 .f32) (x5 : Vec Ideal S2048x8 .f32)
    (xo : Vec Ideal S2048x768 .f32) (o : Nat) (h1 : ∀ a, ![o, 0] a + S512x768.size a ≤ S2048x768.size a)
    (h2 : ∀ a, ![o, 0] a + S512x8.size a ≤ S2048x8.size a) (y : S512x768.Idx) :
    chunk i x1 x3 x2 x4 (View.ld x0 (Rect.unit (s := S2048x768) ![o, 0] S512x768.size h1))
      (View.ld x5 (Rect.unit (s := S2048x8) ![o, 0] S512x8.size h2))
      (View.ld xo (Rect.unit (s := S2048x768) ![o, 0] S512x768.size h1)) y
    = added i x0 x1 x2 x3 x4 x5 xo ((Rect.unit (s := S2048x768) ![o, 0] S512x768.size h1).emb y) := by
  obtain ⟨r, j, rfl⟩ : ∃ (r : Fin 512) (j : Fin 768), y = ix2 r j :=
    ⟨y 0, y 1, funext fun a => by match a with | ⟨0, _⟩ => rfl | ⟨1, _⟩ => rfl⟩
  have ho : o + 512 ≤ 2048 := h1 0
  have he : (Rect.unit (s := S2048x768) ![o, 0] S512x768.size h1).emb (ix2 r j) = ix2 (⟨o + r.val, by omega⟩ : Fin 2048) j := by
    funext a
    apply Fin.ext
    rw [Rect.emb_apply]
    match a with
    | ⟨0, _⟩ => exact congrArg (o + ·) (Nat.one_mul _)
    | ⟨1, _⟩ => exact (Nat.zero_add _).trans (Nat.one_mul _)
  rw [he, chunk_apply]
  unfold added
  rw [ld_rows xo o h1 r j ⟨o + r.val, by omega⟩ rfl, ld_rows x5 o h2 r (i 0) ⟨o + r.val, by omega⟩ rfl,
    show (fun d => View.ld x0 (Rect.unit (s := S2048x768) ![o, 0] S512x768.size h1) (ix2 r d))
      = fun d => x0 (ix2 (⟨o + r.val, by omega⟩ : Fin 2048) d) from funext fun d => ld_rows x0 o h1 r d _ rfl]
  rfl

/-- The block of zeros the first point starts from. -/
theorem zeros_eq : (k1_pay2 : FVec Ideal S2048x768 .f32) = fun _ => 0 := by
  funext y
  pointwise [k1_pay2]

/-- The second, third and fourth blocks of rows are computed as the first is. -/
theorem chunk_1 {F : FTy → Type} [FloatOps F] (i : grid1.Coords) (w1 : Vec F S1x768x3072 .bf16) (w2 : Vec F S1x3072x768 .bf16)
    (b1 : Vec F S1x1x3072 .f32) (b2 : Vec F S1x1x768 .f32) (x : Vec F S512x768 .f32) (g : Vec F S512x8 .f32)
    (acc : Vec F S512x768 .f32) :
    k1_pay10 (BitVec.ofNat 32 (i 0).val) (k1_pay3 w1) (k1_pay4 w2) (k1_pay5 b1) (k1_pay6 b2) x g acc
      = chunk i w1 w2 b1 b2 x g acc := rfl

theorem chunk_2 {F : FTy → Type} [FloatOps F] (i : grid1.Coords) (w1 : Vec F S1x768x3072 .bf16) (w2 : Vec F S1x3072x768 .bf16)
    (b1 : Vec F S1x1x3072 .f32) (b2 : Vec F S1x1x768 .f32) (x : Vec F S512x768 .f32) (g : Vec F S512x8 .f32)
    (acc : Vec F S512x768 .f32) :
    k1_pay13 (BitVec.ofNat 32 (i 0).val) (k1_pay4 w2) (k1_pay6 b2) (k1_pay11 (k1_pay3 w1) (k1_pay5 b1) x) k1_pay12 g acc
      = chunk i w1 w2 b1 b2 x g acc := rfl

theorem chunk_3 {F : FTy → Type} [FloatOps F] (i : grid1.Coords) (w1 : Vec F S1x768x3072 .bf16) (w2 : Vec F S1x3072x768 .bf16)
    (b1 : Vec F S1x1x3072 .f32) (b2 : Vec F S1x1x768 .f32) (x : Vec F S512x768 .f32) (g : Vec F S512x8 .f32)
    (acc : Vec F S512x768 .f32) :
    k1_pay1 (k1_pay14 (k1_pay3 w1) (k1_pay4 w2) (k1_pay5 b1) (k1_pay6 b2) x) (k1_pay15 (BitVec.ofNat 32 (i 0).val) g) acc
      = chunk i w1 w2 b1 b2 x g acc := rfl

/-- Rows read out of a block that was just filled with zeros are zeros. -/
theorem read_zeros {sig : RefSig} {κ : Kind} {sp : Space} (v : View sig κ sp S2048x768 .f32) (r : Rect S2048x768) :
    v.readCov (Val := Elt Ideal) [⟨Rect.unit ![0, 0] ![2048, 768] inb_S2048x768_S2048x768_0_0, k1_pay2 (F := Ideal)⟩] r.toLoadRect
      = View.ld (fun _ : S2048x768.Idx => (0 : EReal)) r := by
  rw [zeros_eq]
  exact View.readCov_fill v inb_S2048x768_S2048x768_0_0 _ [] r fun a => congrFun hz2 a

/-- Four stores that are parts of one array, over whatever was stored before, leave that array wherever they reach. -/
theorem canon_rows4 {S : Shape} {e : EltTy} (G : Vec Ideal S e) {r0 r1 r2 r3 : Rect S} {w0 : r0.shape.Idx → Elt Ideal e}
    {w1 : r1.shape.Idx → Elt Ideal e} {w2 : r2.shape.Idx → Elt Ideal e} {w3 : r3.shape.Idx → Elt Ideal e}
    {L : List (View.Piece (Elt Ideal) S e)} (h0 : ∀ x, w0 x = G (r0.emb x)) (h1 : ∀ x, w1 x = G (r1.emb x))
    (h2 : ∀ x, w2 x = G (r2.emb x)) (h3 : ∀ x, w3 x = G (r3.emb x)) (y : S.Idx)
    (hc : ∃ p ∈ ([⟨r0, w0⟩, ⟨r1, w1⟩, ⟨r2, w2⟩, ⟨r3, w3⟩] : List (View.Piece (Elt Ideal) S e)), y ∈ p.1.set) :
    View.canon (⟨r0, w0⟩ :: ⟨r1, w1⟩ :: ⟨r2, w2⟩ :: ⟨r3, w3⟩ :: L) y = G y :=
  View.canon_append_of_piecesOf G L [⟨r0, w0⟩, ⟨r1, w1⟩, ⟨r2, w2⟩, ⟨r3, w3⟩] ⟨h0, h1, h2, h3, trivial⟩ y hc

section Block

variable (c : Dev nD) (i : grid1.Coords) (arg1 : Memref sig .tc .vmem S2048x768 .f32) (harg1 : arg1.IsWhole)
  (arg2 : Memref sig .tc .vmem S1x768x3072 .bf16) (harg2 : arg2.IsWhole) (arg3 : Memref sig .tc .vmem S1x1x3072 .f32) (harg3 : arg3.IsWhole)
  (arg4 : Memref sig .tc .vmem S1x3072x768 .bf16) (harg4 : arg4.IsWhole) (arg5 : Memref sig .tc .vmem S1x1x768 .f32) (harg5 : arg5.IsWhole)
  (arg6 : Memref sig .tc .vmem S2048x8 .f32) (harg6 : arg6.IsWhole) (arg7 : Memref sig .tc .vmem S2048x768 .f32) (harg7 : arg7.IsWhole)
  (x0 : Vec Ideal S2048x768 .f32) (x1 : Vec Ideal S1x768x3072 .bf16) (x2 : Vec Ideal S1x1x3072 .f32)
  (x3 : Vec Ideal S1x3072x768 .bf16) (x4 : Vec Ideal S1x1x768 .f32) (x5 : Vec Ideal S2048x8 .f32)

theorem out_B (hc0 : ¬cond1_0 i) (xo : Vec Ideal S2048x768 .f32) :
    out1_B_6 c i arg1 harg1 arg2 harg2 arg3 harg3 arg4 harg4 arg5 harg5 arg6 harg6 arg7 harg7 hc0 x0 x1 x2 x3 x4 x5 xo
      = added i x0 x1 x2 x3 x4 x5 xo := by
  have hcov := cover1_B_6 c i arg1 harg1 arg2 harg2 arg3 harg3 arg4 harg4 arg5 harg5 arg6 harg6 arg7 harg7 hc0 x0 x1 x2 x3 x4 x5 xo
  unfold out1_B_6
  rw [View.read_writes_eq_canon _ _ _ hcov]
  clear hcov
  unfold kernelRun1_B
  dsimp only
  sl_unfold_words
  simp only [View.readAt_eq_ld, harg1.read_unread, harg2.read_unread, harg3.read_unread, harg4.read_unread, harg5.read_unread,
    harg6.read_unread, harg7.read_unread, View.ld_unit_zero (S := S1x768x3072) hz3, View.ld_unit_zero (S := S1x3072x768) hz3,
    View.ld_unit_zero (S := S1x1x3072) hz3, View.ld_unit_zero (S := S1x1x768) hz3]
  rw [chunk_1, chunk_2, chunk_3]
  funext y
  refine canon_rows4 (added i x0 x1 x2 x3 x4 x5 xo) ?_ ?_ ?_ ?_ y ?_
  · exact chunk_rows i x0 x1 x2 x3 x4 x5 _ 1536 _ inb_S2048x8_S512x8_1536_0
  · exact chunk_rows i x0 x1 x2 x3 x4 x5 _ 1024 _ inb_S2048x8_S512x8_1024_0
  · exact chunk_rows i x0 x1 x2 x3 x4 x5 _ 512 _ inb_S2048x8_S512x8_512_0
  · exact chunk_rows i x0 x1 x2 x3 x4 x5 _ 0 _ inb_S2048x8_S512x8_0_0
  · exact View.cover_of_tiled_head _ _ _ rfl y

theorem out_A (hc0 : cond1_0 i) :
    out1_A_6 c i arg1 harg1 arg2 harg2 arg3 harg3 arg4 harg4 arg5 harg5 arg6 harg6 arg7 harg7 hc0 x0 x1 x2 x3 x4 x5
      = added i x0 x1 x2 x3 x4 x5 (fun _ => 0) := by
  have hcov := cover1_A_6 c i arg1 harg1 arg2 harg2 arg3 harg3 arg4 harg4 arg5 harg5 arg6 harg6 arg7 harg7 hc0 x0 x1 x2 x3 x4 x5
  unfold out1_A_6
  rw [View.read_writes_eq_canon _ _ _ hcov]
  clear hcov
  unfold kernelRun1_A
  dsimp only
  sl_unfold_words
  simp only [View.readAt_eq_ld, harg1.read_unread, harg2.read_unread, harg3.read_unread, harg4.read_unread, harg5.read_unread,
    harg6.read_unread, harg7.read_unread, View.ld_unit_zero (S := S1x768x3072) hz3, View.ld_unit_zero (S := S1x3072x768) hz3,
    View.ld_unit_zero (S := S1x1x3072) hz3, View.ld_unit_zero (S := S1x1x768) hz3]
  simp (disch := decide) only [↓View.readCov_skip]
  simp only [read_zeros]
  rw [chunk_1, chunk_2, chunk_3]
  funext y
  refine canon_rows4 (added i x0 x1 x2 x3 x4 x5 (fun _ => 0)) ?_ ?_ ?_ ?_ y ?_
  · exact chunk_rows i x0 x1 x2 x3 x4 x5 _ 1536 _ inb_S2048x8_S512x8_1536_0
  · exact chunk_rows i x0 x1 x2 x3 x4 x5 _ 1024 _ inb_S2048x8_S512x8_1024_0
  · exact chunk_rows i x0 x1 x2 x3 x4 x5 _ 512 _ inb_S2048x8_S512x8_512_0
  · exact chunk_rows i x0 x1 x2 x3 x4 x5 _ 0 _ inb_S2048x8_S512x8_0_0
  · exact View.cover_of_tiled_head _ _ _ rfl y

end Block

end Cert.Expert

end
-- ==== Proof.Gate.lean ====
module

public import Idealize.ShloMosaic.Lib.Pointwise
public import Idealize.ShloMosaic.Lib.SortPrefix

/-! Choosing the two greatest of eight numbers, and the softmax over the chosen two.

Both programs pick, from the eight noisy logits of a row, the greatest and the second greatest, the lower lane first
where two are equal. One program finds them by two maxima and two minima over lane numbers; the other sorts. Here is
what the two have in common: the lane that `Leads`. -/

@[expose] public section

set_option maxRecDepth 16384

noncomputable section

namespace Cert.Gate

open Idealize.ShloMosaic

/-- Lane `i` holds the greatest entry of `f`, and is the lowest lane that does. -/
def Leads (f : Fin 8 → EReal) (i : Fin 8) : Prop := ∀ l, f l < f i ∨ (f l = f i ∧ i ≤ l)

/-- Some lane leads. -/
theorem exists_leads (f : Fin 8 → EReal) : ∃ i, Leads f i := by
  classical
  obtain ⟨a, -, ha⟩ := Finset.exists_max_image Finset.univ f ⟨0, Finset.mem_univ _⟩
  obtain ⟨i, hi, hlow⟩ := Finset.exists_min_image (Finset.univ.filter fun l => f l = f a) id
    ⟨a, Finset.mem_filter.mpr ⟨Finset.mem_univ _, rfl⟩⟩
  have hia : f i = f a := (Finset.mem_filter.mp hi).2
  refine ⟨i, fun l => ?_⟩
  rcases lt_or_eq_of_le (ha l (Finset.mem_univ _)) with h | h
  · exact Or.inl (hia ▸ h)
  · exact Or.inr ⟨h.trans hia.symm, hlow l (Finset.mem_filter.mpr ⟨Finset.mem_univ _, h⟩)⟩

theorem Leads.le {f : Fin 8 → EReal} {i : Fin 8} (h : Leads f i) (l : Fin 8) : f l ≤ f i := by
  rcases h l with h | h
  · exact h.le
  · exact h.1.le

/-- The maximum over the lanes, started at `⊥`, is the leading lane's entry. -/
theorem Leads.fold_max {f : Fin 8 → EReal} {i : Fin 8} (h : Leads f i) : Finset.univ.fold max ⊥ f = f i := by
  apply le_antisymm
  · exact Finset.fold_max_le _ |>.mpr ⟨bot_le, fun l _ => h.le l⟩
  · exact (Finset.le_fold_max _).mpr (Or.inr ⟨i, Finset.mem_univ _, le_rfl⟩)

/-- The least lane number that passes a test, as the word minimum over the lanes finds it: a lane that fails counts as
8. -/
theorem least_word : ∀ (p : Fin 8 → Bool) (i : Fin 8), p i = true → (∀ l, l < i → p l = false) →
    Finset.univ.fold IntOp.minsi 2147483647#32 (fun l : Fin 8 => if p l = true then BitVec.ofNat 32 l.val else 8#32)
      = BitVec.ofNat 32 i.val := by
  decide +kernel

/-- The word minimum over the lanes that hold the maximum is the leading lane's number. -/
theorem Leads.word {f : Fin 8 → EReal} {i : Fin 8} (h : Leads f i) :
    Finset.univ.fold IntOp.minsi 2147483647#32 (fun l : Fin 8 => if f l = f i then BitVec.ofNat 32 l.val else 8#32)
      = BitVec.ofNat 32 i.val := by
  classical
  have := least_word (fun l => decide (f l = f i)) i (by simp) (fun l hl => by
    simp only [decide_eq_false_iff_not]
    intro e
    rcases h l with h | h
    · exact absurd (e ▸ h) (lt_irrefl _)
    · exact absurd h.2 (not_le.mpr hl))
  simpa using this

/-- `f` with lane `i` lowered to `⊥`. -/
def without (f : Fin 8 → EReal) (i : Fin 8) : Fin 8 → EReal := fun l => if l = i then ⊥ else f l

/-- The second lane is another than the first, when no entry is `⊥`. -/
theorem second_ne {f : Fin 8 → EReal} {i j : Fin 8} (hf : ∀ l, f l ≠ ⊥) (hj : Leads (without f i) j) : j ≠ i := by
  intro e
  subst e
  obtain ⟨l, hl⟩ : ∃ l : Fin 8, l ≠ j := exists_ne j
  have := hj.le l
  simp only [without, if_neg hl, if_pos] at this
  exact hf l (le_bot_iff.mp this)

/-- One step of the insertion depends on the comparator only at the pairs it asks about. -/
theorem insertBefore_agree {B B' : Fin 8 → Fin 8 → Bool} (a : Fin 8) (m : List (Fin 8))
    (h : ∀ b ∈ m, B b a = B' b a) : insertBefore B a m = insertBefore B' a m := by
  induction m with
  | nil => rfl
  | cons b m ih =>
    have hb := h b (List.mem_cons_self ..)
    simp only [insertBefore, hb]
    split
    · rw [ih fun c hc => h c (List.mem_cons_of_mem _ hc)]
    · rfl

/-- So two comparators that agree on every pair whose first lane is the higher one sort an ascending list alike. -/
theorem stableSort_agree {B B' : Fin 8 → Fin 8 → Bool} (l : List (Fin 8)) (hl : l.Pairwise (· < ·))
    (h : ∀ a b, a < b → B b a = B' b a) : stableSort B l = stableSort B' l := by
  induction l with
  | nil => rfl
  | cons a l ih =>
    obtain ⟨ha, hl⟩ := List.pairwise_cons.mp hl
    simp only [stableSort]
    rw [ih hl]
    exact insertBefore_agree a _ fun b hb => h a b (ha b ((perm_stableSort B' l).mem_iff.mp hb))

/-- "Greater entry first; of two equal ones the lower lane first": a strict total order on the lanes. -/
def ahead (f : Fin 8 → EReal) (k k' : Fin 8) : Bool :=
  decide (f k' < f k) || (decide (f k = f k') && decide (k < k'))

theorem ahead_strict (f : Fin 8 → EReal) : StrictTotalBefore (ahead f) := by
  have := StrictTotalBefore.of_key_then_position (κ := EReal) (fun a b => decide (b < a)) f
    (fun a => by simp) (fun a b c hab hbc => by
      simp only [decide_eq_true_eq] at *; exact hbc.trans hab)
    (fun a b => by
      simp only [decide_eq_true_eq]
      rcases lt_trichotomy a b with h | h | h
      · exact Or.inr (Or.inr h)
      · exact Or.inr (Or.inl h)
      · exact Or.inl h)
  exact this

/-- The sort by "greater first" puts lanes in the order `ahead`: being stable, it leaves equal entries in lane order. -/
theorem sorted_ahead (f : Fin 8 → EReal) :
    (sortedFrom (fun k k' : Fin 8 => Ideal.cmpTotal .gt (f k) (f k') == 1#1)) = sortedFrom (ahead f) := by
  have e : sortPositions 8 (fun k k' : Fin 8 => Ideal.cmpTotal .gt (f k) (f k') == 1#1) = sortPositions 8 (ahead f) := by
    refine stableSort_agree _ (List.pairwise_lt_finRange 8) fun a b hab => ?_
    have : ¬ b < a := not_lt.mpr hab.le
    simp only [ahead, this, decide_false, Bool.and_false, Bool.or_false, Ideal.cmpTotal, CmpDirection.ordered, Ideal.cmp]
    by_cases h : f a < f b <;> simp [h]
  funext k
  unfold sortedFrom
  simp only [e, List.get_eq_getElem, Fin.val_cast]

/-- The sort's first two positions are the leading lane and the lane that leads the rest. -/
theorem sorted_two {f : Fin 8 → EReal} {i j : Fin 8} (hf : ∀ l, f l ≠ ⊥) (hi : Leads f i) (hj : Leads (without f i) j)
    (t : Fin 2) :
    sortedFrom (fun k k' : Fin 8 => Ideal.cmpTotal .gt (f k) (f k') == 1#1) (t.castLE (by decide)) = ![i, j] t := by
  have hji := second_ne hf hj
  have first : ∀ p, p ≠ i → ahead f p i = false := fun p hp => by
    rcases hi p with h | h
    · simp [ahead, h.le, h.ne]
    · have : ¬ p < i := not_lt.mpr h.2
      simp [ahead, h.1, this]
  have second : ∀ p, p ≠ i → p ≠ j → ahead f p j = false := fun p hp _ => by
    have := hj p
    simp only [without, if_neg hp, if_neg hji] at this
    rcases this with h | h
    · simp [ahead, h.le, h.ne]
    · have : ¬ p < j := not_lt.mpr h.2
      simp [ahead, h.1, this]
  rw [sorted_ahead]
  refine (ahead_strict f).sortedFrom_eq_of_prefix (by decide) ![i, j] ?_ ?_ ?_ t
  · intro a b hab
    fin_cases a <;> fin_cases b <;> simp_all
  · intro a b hab
    fin_cases a <;> fin_cases b <;> simp_all
  · intro a p hp
    have h0 := hp 0
    have h1 := hp 1
    simp only [Matrix.cons_val_zero, Matrix.cons_val_one] at h0 h1
    fin_cases a
    · exact first p (Ne.symm h0)
    · exact second p (Ne.symm h0) (Ne.symm h1)

/-- The gate of lane `e` when the first lane is `i` and the second `j`. -/
def gate (f : Fin 8 → EReal) (i j e : Fin 8) : EReal :=
  if e = i then Ideal.div 1 (1 + Ideal.exp (f j - f i))
  else if e = j then Ideal.div (Ideal.exp (f j - f i)) (1 + Ideal.exp (f j - f i)) else 0

/-- The entries of the chosen two lanes; `⊥` elsewhere. -/
def kept (f : Fin 8 → EReal) (i j : Fin 8) : Fin 8 → EReal := fun l => if l = i ∨ l = j then f l else ⊥

/-- The greatest kept entry is the leading lane's. -/
theorem kept_max {f : Fin 8 → EReal} {i j : Fin 8} (hi : Leads f i) :
    Finset.univ.fold max ⊥ (kept f i j) = f i := by
  apply le_antisymm
  · refine (Finset.fold_max_le _).mpr ⟨bot_le, fun l _ => ?_⟩
    unfold kept
    split
    · exact hi.le l
    · exact bot_le
  · exact (Finset.le_fold_max _).mpr (Or.inr ⟨i, Finset.mem_univ _, by simp [kept]⟩)

/-- The softmax over the kept entries is the gate. -/
theorem softmax_kept (g : Fin 8 → ℝ) (i j e : Fin 8) (hji : j ≠ i) :
    Ideal.div (Ideal.exp (kept (fun l => (g l : EReal)) i j e - (g i : EReal)))
        (∑ l, Ideal.exp (kept (fun l => (g l : EReal)) i j l - (g i : EReal)))
      = gate (fun l => (g l : EReal)) i j e := by
  have hk : ∀ l, Ideal.exp (kept (fun l => (g l : EReal)) i j l - (g i : EReal))
      = (if l = i then 1 else 0) + (if l = j then Ideal.exp ((g j : EReal) - (g i : EReal)) else 0) := by
    intro l
    unfold kept
    by_cases h1 : l = i
    · subst h1
      rw [if_pos (Or.inl rfl), if_pos rfl, if_neg (Ne.symm hji), add_zero, ← EReal.coe_sub, sub_self]
      show ((Real.exp 0 : ℝ) : EReal) = 1
      rw [Real.exp_zero]; rfl
    · by_cases h2 : l = j
      · subst h2
        simp [h1]
      · rw [if_neg (by tauto), if_neg h1, if_neg h2, add_zero]
        show Ideal.exp (⊥ - (g i : EReal)) = 0
        rw [EReal.bot_sub]
        rfl
  have hs : (∑ l, Ideal.exp (kept (fun l => (g l : EReal)) i j l - (g i : EReal)))
      = 1 + Ideal.exp ((g j : EReal) - (g i : EReal)) := by
    rw [Finset.sum_congr rfl fun l _ => hk l, Finset.sum_add_distrib]
    simp
  rw [hs, hk e]
  unfold gate
  by_cases h1 : e = i
  · subst h1
    simp [Ne.symm hji]
  · by_cases h2 : e = j
    · subst h2
      simp [h1]
    · simp only [if_neg h1, if_neg h2, add_zero]
      have : (1 : EReal) + Ideal.exp ((g j : EReal) - (g i : EReal)) ≠ 0 := by
        rw [← EReal.coe_sub]
        show (1 : EReal) + ((Real.exp (g j - g i) : ℝ) : EReal) ≠ 0
        have : (1 : EReal) + ((Real.exp (g j - g i) : ℝ) : EReal) = ((1 + Real.exp (g j - g i) : ℝ) : EReal) := by
          rw [EReal.coe_add]; rfl
        rw [this]
        have hp := Real.exp_pos (g j - g i)
        intro h0
        have := EReal.coe_eq_zero.mp h0
        linarith
      simp [Ideal.div, this]

end Cert.Gate

end
-- ==== Proof.Router.lean ====
module

public import proofs.«01_k».proof.Proof.Expert
public import proofs.«01_k».proof.Proof.Gate

/-! What the first kernel leaves in its result array: the gate of every row and expert. -/

@[expose] public section

set_option maxRecDepth 16384

noncomputable section

namespace Cert.Router

open Idealize.ShloMosaic Idealize.ShloMosaic.Pointwise Idealize.ShloMosaic.Tactic Idealize.ShloMosaic.TcCoe
open Idealize.ShloMosaic.Pipeline (Dat)
open Cert.KernelIdeal Cert.KernelIdeal.Gen Cert.Gate Cert.Expert

/-- `max z 0 + log (1 + exp (-|z|))`. -/
def softplus (z : EReal) : EReal := max z 0 + Ideal.log1p (Ideal.exp (0 - FloatOps.absf (F := Ideal) (φ := .f32) z))

/-- The noisy logit of row `r` and expert `l`: the routing logit plus the noise's scale times the noise. -/
def noisy (X : S2048x768.Idx → EReal) (Wr : S768x8.Idx → EReal) (br : S8.Idx → EReal) (Wn : S768x8.Idx → EReal)
    (bn : S8.Idx → EReal) (U : S2048x8.Idx → EReal) (r : Fin 2048) (l : Fin 8) : EReal :=
  (∑ d, X (ix2 r d) * Wr (ix2 d l) + br (ix1 l)) + softplus (∑ d, X (ix2 r d) * Wn (ix2 d l) + bn (ix1 l)) * U (ix2 r l)

theorem bits_bot : Ideal.ofBits FTy.f32 4286578688#32 = ⊥ := by
  simp [Ideal.ofBits, Ideal.ieee]

variable (x0 : Vec Ideal S2048x768 .f32) (x1 : Vec Ideal S768x128 .f32) (x2 : Vec Ideal S1x128 .f32) (x3 : Vec Ideal S2048x8 .f32)

/-- The row of noisy logits the kernel works out. -/
def row (r : Fin 2048) : Fin 8 → EReal := fun l => k0_pay2 x0 x1 x2 x3 (ix2 r l)

/-- It is `noisy` of the two halves of the packed matrix and row. -/
theorem row_eq (Wr : S768x8.Idx → EReal) (br : S8.Idx → EReal) (Wn : S768x8.Idx → EReal) (bn : S8.Idx → EReal)
    (h1 : ∀ d (l : Fin 8), x1 (ix2 d ⟨l.val, by omega⟩) = Wr (ix2 d l)) (h2 : ∀ (l : Fin 8), x2 (ix2 0 ⟨l.val, by omega⟩) = br (ix1 l))
    (h3 : ∀ d (l : Fin 8), x1 (ix2 d ⟨8 + l.val, by omega⟩) = Wn (ix2 d l))
    (h4 : ∀ (l : Fin 8), x2 (ix2 0 ⟨8 + l.val, by omega⟩) = bn (ix1 l)) (r : Fin 2048) (l : Fin 8) :
    row x0 x1 x2 x3 r l = noisy x0 Wr br Wn bn x3 r l := by
  unfold row noisy softplus
  pointwise [k0_pay2]
  simp only [h1, h2, h3, h4]

variable {x0 x1 x2 x3} {r : Fin 2048} {i j : Fin 8} (hi : Leads (row x0 x1 x2 x3 r) i)
  (hj : Leads (without (row x0 x1 x2 x3 r) i) j)
include hi

theorem first_max : k0_pay3 x0 x1 x2 x3 (ix2 r 0) = row x0 x1 x2 x3 r i := by
  pointwise [k0_pay3]
  rw [bits_bot]
  exact hi.fold_max

theorem first_lane : k0_pay4 x0 x1 x2 x3 (ix2 r 0) = BitVec.ofNat 32 i.val := by
  pointwise [k0_pay4]
  rw [first_max hi]
  exact hi.word

theorem rest_eq (l : Fin 8) : k0_pay5 x0 x1 x2 x3 (ix2 r l) = without (row x0 x1 x2 x3 r) i l := by
  pointwise [k0_pay5]
  rw [first_lane hi, word_eq, bits_bot]
  unfold without
  by_cases h : l = i
  · rw [if_pos h, if_pos h]; rfl
  · rw [if_neg h, if_neg h]; rfl

include hj

theorem second_max : k0_pay6 x0 x1 x2 x3 (ix2 r 0) = without (row x0 x1 x2 x3 r) i j := by
  pointwise [k0_pay6]
  rw [bits_bot, funext fun l => rest_eq hi l]
  exact hj.fold_max

theorem second_lane (l : Fin 8) : k0_pay7 x0 x1 x2 x3 (ix2 r l)
    = if without (row x0 x1 x2 x3 r) i l = without (row x0 x1 x2 x3 r) i j then BitVec.ofNat 32 l.val else 8#32 := by
  pointwise [k0_pay7]
  rw [rest_eq hi, second_max hi hj]

/-- The kernel's gate. -/
theorem gate_cell (hji : j ≠ i) (l : Fin 8) :
    k0_pay1 (F := Ideal) (iota .tc S2048x8 32 [1] iota_S2048x8_d1_w32) (k0_pay3 x0 x1 x2 x3) (k0_pay4 x0 x1 x2 x3)
      (k0_pay6 x0 x1 x2 x3) (k0_pay7 x0 x1 x2 x3) (ix2 r l) = gate (row x0 x1 x2 x3 r) i j l := by
  pointwise [k0_pay1]
  rw [first_lane hi, first_max hi, second_max hi hj, funext fun l => second_lane hi hj l, hj.word, word_eq, word_eq]
  unfold gate
  rw [show without (row x0 x1 x2 x3 r) i j = row x0 x1 x2 x3 r j from if_neg hji]
  by_cases h : l = i
  · rw [if_pos h, if_pos h]; rfl
  · rw [if_neg h, if_neg h]
    by_cases h' : l = j
    · rw [if_pos h', if_pos h']; rfl
    · rw [if_neg h', if_neg h']; rfl

end Cert.Router

namespace Cert.Router

open Idealize.ShloMosaic Idealize.ShloMosaic.Pointwise Idealize.ShloMosaic.Tactic Idealize.ShloMosaic.TcCoe
open Idealize.ShloMosaic.Pipeline (Dat)
open Cert.KernelIdeal Cert.KernelIdeal.Gen Cert.Gate Cert.Expert

/-- The block a point leaves, over the blocks it reads. -/
def gates (x0 : Vec Ideal S2048x768 .f32) (x1 : Vec Ideal S768x128 .f32) (x2 : Vec Ideal S1x128 .f32) (x3 : Vec Ideal S2048x8 .f32) :
    S2048x8.Idx → EReal :=
  k0_pay1 (F := Ideal) (iota .tc S2048x8 32 [1] iota_S2048x8_d1_w32) (k0_pay3 x0 x1 x2 x3) (k0_pay4 x0 x1 x2 x3)
      (k0_pay6 x0 x1 x2 x3) (k0_pay7 x0 x1 x2 x3)

theorem out_eq (x0 : Vec Ideal S2048x768 .f32) (x1 : Vec Ideal S768x128 .f32) (x2 : Vec Ideal S1x128 .f32) (x3 : Vec Ideal S2048x8 .f32) :
    out0_4 x0 x1 x2 x3 = gates x0 x1 x2 x3 := by
  unfold out0_4 gates
  simp only [View.ld_unit_zero (S := S2048x768) hz2, View.ld_unit_zero (S := S768x128) hz2, View.ld_unit_zero (S := S1x128) hz2,
    View.ld_unit_zero (S := S2048x8) hz2]
  exact View.canon_unit_zero (S := S2048x8) hz2 _ _

variable (V : (c : Dev nD) → (b : Ref sig .tc) → Buf (Elt Ideal) ((c : Thread nD τ).loc b)) (c : Dev nD)

theorem index_zero : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) :=
  (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0))

theorem whole_x (t : Fin cfg0.N) : (iblk0 V c 0 t : Vec Ideal S2048x768 .f32) = V c main_v0 := by
  funext y
  unfold iblk0
  rw [View.read_apply]
  show V c main_v0 _ = _
  have h := index_zero t
  congr 1
  funext a
  apply Fin.ext
  match a with
  | ⟨0, _⟩ => show win0_0.index t 0 * 2048 + 1 * (y 0).val = (y 0).val; rw [h.1.1]; omega
  | ⟨1, _⟩ => show win0_0.index t 1 * 768 + 1 * (y 1).val = (y 1).val; rw [h.1.2]; omega

theorem whole_w (t : Fin cfg0.N) : (iblk0 V c 1 t : Vec Ideal S768x128 .f32) = V c main_v5 := by
  funext y
  unfold iblk0
  rw [View.read_apply]
  show V c main_v5 _ = _
  have h := index_zero t
  congr 1
  funext a
  apply Fin.ext
  match a with
  | ⟨0, _⟩ => show win0_1.index t 0 * 768 + 1 * (y 0).val = (y 0).val; rw [h.2.1.1]; omega
  | ⟨1, _⟩ => show win0_1.index t 1 * 128 + 1 * (y 1).val = (y 1).val; rw [h.2.1.2]; omega

theorem whole_b (t : Fin cfg0.N) : (iblk0 V c 2 t : Vec Ideal S1x128 .f32) = V c main_v14 := by
  funext y
  unfold iblk0
  rw [View.read_apply]
  show V c main_v14 _ = _
  have h := index_zero t
  congr 1
  funext a
  apply Fin.ext
  match a with
  | ⟨0, _⟩ => show win0_2.index t 0 * 1 + 1 * (y 0).val = (y 0).val; rw [h.2.2.1.1]; omega
  | ⟨1, _⟩ => show win0_2.index t 1 * 128 + 1 * (y 1).val = (y 1).val; rw [h.2.2.1.2]; omega

theorem whole_u (t : Fin cfg0.N) : (iblk0 V c 3 t : Vec Ideal S2048x8 .f32) = V c main_v23 := by
  funext y
  unfold iblk0
  rw [View.read_apply]
  show V c main_v23 _ = _
  have h := index_zero t
  congr 1
  funext a
  apply Fin.ext
  match a with
  | ⟨0, _⟩ => show win0_3.index t 0 * 2048 + 1 * (y 0).val = (y 0).val; rw [h.2.2.2.1.1]; omega
  | ⟨1, _⟩ => show win0_3.index t 1 * 8 + 1 * (y 1).val = (y 1).val; rw [h.2.2.2.1.2]; omega

/-- The gates over the arrays held when the kernel starts. -/
def held : S2048x8.Idx → EReal := gates (V c main_v0) (V c main_v5) (V c main_v14) (V c main_v23)

theorem flushed_eq (t : Fin cfg0.N) (_ : (cfg0.win 4).flush t = true) :
    (dat0 V c).flushed 4 t = ((cfg0.win 4).blk t).view.read (Elt Ideal) (held V c) := by
  show (cfg0.win 4).cut (grid0.coords t) ((dat0 V c).after 4 t) = _
  rw [after0_4, out_eq, whole_x, whole_w, whole_b, whole_u]
  have hz' : (fun a => win0_4.index t a * main_v24.ty.shape.size a) = fun _ => 0 := funext fun a => by
    have h := index_zero t
    match a with
    | ⟨0, _⟩ => show win0_4.index t 0 * _ = 0; rw [h.2.2.2.2.1, Nat.zero_mul]
    | ⟨1, _⟩ => show win0_4.index t 1 * _ = 0; rw [h.2.2.2.2.2, Nat.zero_mul]
  exact (Memref.read_access_unit_zero (Elt Ideal) main_v24 hz' (fun a => by rw [congrFun hz' a]; simp) (held V c)).symm

/-- The first kernel leaves the gates. -/
theorem final_eq : (dat0 V c).arrAt 4 cfg0.N = held V c :=
  (dat0 V c).arrAt_eq_of_cover 4 (held V c) (flushed_eq V c) fun i =>
    ⟨⟨0, by rw [show cfg0.N = 1 from N_0]; decide⟩, flush0_4 _, by
      generalize (⟨0, _⟩ : Fin cfg0.N) = t
      show i ∈ ((View.whole main_v24).slice (win0_4.rect t)).set
      rw [View.set_slice_whole, Rect.mem_set_unit]
      intro a
      have h0 : (i 0 : Nat) < 2048 := (i 0).isLt
      have h1 : (i 1 : Nat) < 8 := (i 1).isLt
      have h := index_zero t
      match a with
      | ⟨0, _⟩ => show win0_4.index t 0 * 2048 ≤ (i 0 : Nat) ∧ (i 0 : Nat) < win0_4.index t 0 * 2048 + 2048
                  rw [h.2.2.2.2.1]; omega
      | ⟨1, _⟩ => show win0_4.index t 1 * 8 ≤ (i 1 : Nat) ∧ (i 1 : Nat) < win0_4.index t 1 * 8 + 8
                  rw [h.2.2.2.2.2]; omega⟩

end Cert.Router

end
-- ==== Proof.RefValue.lean ====
module

public import proofs.«01_k».proof.Proof.RefOps
public import proofs.«01_k».proof.Proof.Router
public import Idealize.ShloMosaic.Lib.StableHlo.ReadAt

/-! What the reference's operations compute, read at one place: the noisy logits, the two chosen lanes, the gates, and the
gated sum of the experts. -/

@[expose] public section

set_option maxRecDepth 16384

noncomputable section

namespace Cert.RefValue

open Idealize.ShloMosaic Idealize.ShloMosaic.Pointwise Idealize.ShloMosaic.Tactic Idealize.ShloMosaic.TcCoe
open Cert.ReferenceIdeal Cert.ReferenceIdeal.Gen Cert.ReferenceIdeal.Line Cert.Gate Cert.Expert

/-- A token's affine image under a router matrix. -/
def affine (X : S1x2048x768.Idx → EReal) (W : S768x8.Idx → EReal) (b : S8.Idx → EReal) (r : Fin 2048) (l : Fin 8) : EReal :=
  ∑ d, X (ix3 0 r d) * W (ix2 d l) + b (ix1 l)

/-- The logit with its scaled noise. -/
def noisy (L S U : S1x2048x8.Idx → EReal) (r : Fin 2048) (l : Fin 8) : EReal :=
  L (ix3 0 r l) + S (ix3 0 r l) * U (ix3 0 r l)

/-- The experts' outputs for one token, each times its gate, summed. -/
def mixed (X : S1x2048x768.Idx → EReal) (W1 : S8x768x3072.Idx → EReal) (B1 : S8x3072.Idx → EReal) (W2 : S8x3072x768.Idx → EReal)
    (B2 : S8x768.Idx → EReal) (G : Fin 8 → EReal) (r : Fin 2048) (l : Fin 768) : EReal :=
  ∑ e, cell (fun d => X (ix3 0 r d)) (fun d k => W1 (ix3 e d k)) (fun k => B1 (ix2 e k)) (fun k j => W2 (ix3 e k j))
    (fun j => B2 (ix2 e j)) l * G e

/-- How often lane `l` is among the two chosen ones. -/
def count (i j l : Fin 8) : EReal := (if i = l then 1 else 0) + (if j = l then 1 else 0)

/-- It is positive at the chosen lanes and nowhere else. -/
theorem count_pos (i j l : Fin 8) : 0 < count i j l ↔ l = i ∨ l = j := by
  unfold count
  by_cases h1 : i = l <;> by_cases h2 : j = l
  · rw [if_pos h1, if_pos h2]
    exact ⟨fun _ => Or.inl h1.symm, fun _ => lt_of_lt_of_le zero_lt_one (le_add_of_nonneg_right zero_le_one)⟩
  · rw [if_pos h1, if_neg h2, add_zero]
    exact ⟨fun _ => Or.inl h1.symm, fun _ => zero_lt_one⟩
  · rw [if_neg h1, if_pos h2, zero_add]
    exact ⟨fun _ => Or.inr h2.symm, fun _ => zero_lt_one⟩
  · rw [if_neg h1, if_neg h2, add_zero]
    exact ⟨fun h => absurd h (lt_irrefl _), fun h => h.elim (fun h => absurd h.symm h1) fun h => absurd h.symm h2⟩

variable (V : Valuation τ sig (Elt Ideal))

/-- The routing logit. -/
theorem logit_eq (r : Fin 2048) (l : Fin 8) :
    (StableHlo.after opsScale V (Proc.devRef .tc main_v3) : S1x2048x8.Idx → EReal) (ix3 0 r l)
      = affine (V (Proc.devRef .tc main_arg0)) (V (Proc.devRef .tc main_arg1)) (V (Proc.devRef .tc main_arg2)) r l := by
  after_reads_at
  rfl

/-- The noise's scale. -/
theorem scale_eq (r : Fin 2048) (l : Fin 8) :
    (StableHlo.after opsScale V (Proc.devRef .tc main_v8) : S1x2048x8.Idx → EReal) (ix3 0 r l)
      = Router.softplus (affine (V (Proc.devRef .tc main_arg0)) (V (Proc.devRef .tc main_arg3)) (V (Proc.devRef .tc main_arg4)) r l) := by
  after_reads_at
  refine (if_neg fun h => h rfl).trans ?_
  unfold Router.softplus affine
  simp only [zero_sub]

/-- The operations up to the count of how often a lane was chosen. -/
abbrev opsChoose : List (HloOp τ sig (Elt Ideal)) := opsRest.take 12
/-- From there to the gates. -/
abbrev opsGate : List (HloOp τ sig (Elt Ideal)) := (opsRest.drop 12).take 21
/-- The experts. -/
abbrev opsExperts : List (HloOp τ sig (Elt Ideal)) := opsRest.drop 33

/-- The three, one after another, are the whole stretch. -/
theorem rest_split : (opsRest : List (HloOp τ sig (Elt Ideal))) = opsChoose ++ (opsGate ++ opsExperts) := rfl

/-- The noisy logits of one token. -/
abbrev row (r : Fin 2048) : Fin 8 → EReal :=
  noisy (V (Proc.devRef .tc main_v3)) (V (Proc.devRef .tc main_v8)) (V (Proc.devRef .tc main_v16)) r

/-- What the selection reads is the row of noisy logits. -/
theorem row_eq (r : Fin 2048) (l : Fin 8) :
    (StableHlo.after opsChoose V (Proc.devRef .tc main_v18) : S1x2048x8.Idx → EReal) (ix3 0 r l) = row V r l := by
  after_reads_at
  rfl

/-- The selection's lane numbers are the positions a stable sort of the row puts first. -/
theorem chosen (x : S1x2048x8.Idx → EReal) (r : Fin 2048) (t : Fin 2) :
    (Host.topK S1x2048x2 2 (FloatOps.cmpfTotal (F := Ideal) (φ := .f32) CmpDirection.gt) x sliceFits_S1x2048x8_S1x2048x2).2 (ix3 0 r t)
      = BitVec.ofNat 32 (sortedFrom (fun k k' : Fin 8 => Ideal.cmpTotal .gt (x (ix3 0 r k)) (x (ix3 0 r k')) == 1#1)
          (t.castLE (by decide))).val := by
  have along : ∀ k : Fin 8, (ix3 (0 : Fin 1) r (t.castLE (by decide : 2 ≤ 8)) : S1x2048x8.Idx).along 2 k = ix3 0 r k := by
    intro k
    funext a
    match a with
    | ⟨0, _⟩ => rfl
    | ⟨1, _⟩ => rfl
    | ⟨2, _⟩ => rfl
  unfold Host.topK
  pointwise
  show BitVec.ofNat 32 (((ix3 (0 : Fin 1) r (t.castLE (by decide : 2 ≤ 8)) : S1x2048x8.Idx).along 2
    (sortedFrom (fun k k' : Fin 8 => Ideal.cmpTotal .gt
      (x ((ix3 (0 : Fin 1) r (t.castLE (by decide : 2 ≤ 8)) : S1x2048x8.Idx).along 2 k))
      (x ((ix3 (0 : Fin 1) r (t.castLE (by decide : 2 ≤ 8)) : S1x2048x8.Idx).along 2 k')) == 1#1) (t.castLE (by decide)))) 2).val = _
  simp only [along]
  rfl

variable {V} {r : Fin 2048} {i j : Fin 8}

/-- How often a lane was chosen. -/
theorem count_eq (hf : ∀ l, row V r l ≠ ⊥) (hi : Leads (row V r) i) (hj : Leads (without (row V r) i) j) (l : Fin 8) :
    (StableHlo.after opsChoose V (Proc.devRef .tc main_v20) : S1x2048x8.Idx → EReal) (ix3 0 r l) = count i j l := by
  have sel : ∀ t : Fin 2, (Host.topK S1x2048x2 2 (FloatOps.cmpfTotal (F := Ideal) (φ := .f32) CmpDirection.gt)
      (addf (F := Ideal) (φ := .f32) (V (Proc.devRef .tc main_v3)) (mulf (V (Proc.devRef .tc main_v8)) (V (Proc.devRef .tc main_v16))))
      sliceFits_S1x2048x8_S1x2048x2).2 (ix3 0 r t) = BitVec.ofNat 32 (![i, j] t).val := fun t =>
    (chosen _ r t).trans (by rw [← sorted_two hf hi hj t]; rfl)
  have one : ∀ a : Fin 8, FloatOps.uitofp (F := Ideal) FTy.f32 (IntOp.cmpi CmpIPredicate.eq (BitVec.ofNat 32 a.val) (BitVec.ofNat 32 l.val))
      = if a = l then (1 : EReal) else 0 := by
    intro a
    rw [word_eq]
    by_cases h : a = l
    · rw [if_pos h, if_pos h]
      show ((((1#1 : BitVec 1).toNat : ℝ)) : EReal) = 1
      simp
    · rw [if_neg h, if_neg h]
      show ((((0#1 : BitVec 1).toNat : ℝ)) : EReal) = 0
      simp
  after_reads_at
  simp only [sel, Fin.sum_univ_two, Matrix.cons_val_zero, Matrix.cons_val_one, one]
  rfl

/-- The gates, from the row of noisy logits and the counts. -/
theorem gate_form (f : Fin 8 → EReal) (i j : Fin 8)
    (h18 : ∀ l, (V (Proc.devRef .tc main_v18) : S1x2048x8.Idx → EReal) (ix3 0 r l) = f l)
    (h20 : ∀ l, (V (Proc.devRef .tc main_v20) : S1x2048x8.Idx → EReal) (ix3 0 r l) = count i j l)
    (hi : Leads f i) (l : Fin 8) :
    (StableHlo.after opsGate V (Proc.devRef .tc main_v34) : S1x2048x8.Idx → EReal) (ix3 0 r l)
      = Ideal.div (Ideal.exp (kept f i j l - f i)) (∑ k, Ideal.exp (kept f i j k - f i)) := by
  have hk : ∀ l, (if (0 : EReal) < (V (Proc.devRef .tc main_v20) : S1x2048x8.Idx → EReal) (ix3 0 r l)
      then (V (Proc.devRef .tc main_v18) : S1x2048x8.Idx → EReal) (ix3 0 r l)
      else id (constant (F := Ideal) S_ FTy.f32 4286578688#32) ix0) = kept f i j l := by
    intro l
    rw [h18, h20, show id (constant (F := Ideal) S_ FTy.f32 4286578688#32) ix0 = (⊥ : EReal) from Router.bits_bot]
    unfold kept
    exact if_congr (count_pos i j l) rfl rfl
  after_reads_at
  simp only [hk, Router.bits_bot, kept_max hi, bot_le, max_eq_right]

/-- The experts, gated and summed. -/
theorem experts_eq (r : Fin 2048) (l : Fin 768) :
    (StableHlo.after opsExperts V (Proc.devRef .tc main_v48) : S1x2048x768.Idx → EReal) (ix3 0 r l)
      = mixed (V (Proc.devRef .tc main_arg0)) (V (Proc.devRef .tc main_arg5)) (V (Proc.devRef .tc main_arg6))
          (V (Proc.devRef .tc main_arg7)) (V (Proc.devRef .tc main_arg8))
          (fun e => (V (Proc.devRef .tc main_v34) : S1x2048x8.Idx → EReal) (ix3 0 r e)) r l := by
  after_reads_at
  unfold mixed cell
  refine Finset.sum_congr rfl fun e _ => ?_
  congr 2
  exact Finset.sum_congr rfl fun k _ => mul_comm _ _

/-- The choosing operations leave the arguments as they are. -/
theorem choose_args : StableHlo.after opsChoose V (Proc.devRef .tc main_arg0) = V (Proc.devRef .tc main_arg0)
    ∧ StableHlo.after opsChoose V (Proc.devRef .tc main_arg5) = V (Proc.devRef .tc main_arg5)
    ∧ StableHlo.after opsChoose V (Proc.devRef .tc main_arg6) = V (Proc.devRef .tc main_arg6)
    ∧ StableHlo.after opsChoose V (Proc.devRef .tc main_arg7) = V (Proc.devRef .tc main_arg7)
    ∧ StableHlo.after opsChoose V (Proc.devRef .tc main_arg8) = V (Proc.devRef .tc main_arg8) := by
  refine ⟨?_, ?_, ?_, ?_, ?_⟩ <;> after_reads_simp

/-- And so do the gating operations. -/
theorem gate_args : StableHlo.after opsGate V (Proc.devRef .tc main_arg0) = V (Proc.devRef .tc main_arg0)
    ∧ StableHlo.after opsGate V (Proc.devRef .tc main_arg5) = V (Proc.devRef .tc main_arg5)
    ∧ StableHlo.after opsGate V (Proc.devRef .tc main_arg6) = V (Proc.devRef .tc main_arg6)
    ∧ StableHlo.after opsGate V (Proc.devRef .tc main_arg7) = V (Proc.devRef .tc main_arg7)
    ∧ StableHlo.after opsGate V (Proc.devRef .tc main_arg8) = V (Proc.devRef .tc main_arg8) := by
  refine ⟨?_, ?_, ?_, ?_, ?_⟩ <;> after_reads_simp

/-- From real noisy logits: the experts' outputs for a token, each times its gate, summed. -/
theorem rest_eq {g : Fin 8 → ℝ} (hg : row V r = fun l => (g l : EReal)) (hi : Leads (row V r) i)
    (hj : Leads (without (row V r) i) j) (d : Fin 768) :
    (StableHlo.after opsRest V (Proc.devRef .tc main_v48) : S1x2048x768.Idx → EReal) (ix3 0 r d)
      = mixed (V (Proc.devRef .tc main_arg0)) (V (Proc.devRef .tc main_arg5)) (V (Proc.devRef .tc main_arg6))
          (V (Proc.devRef .tc main_arg7)) (V (Proc.devRef .tc main_arg8)) (gate (row V r) i j) r d := by
  have hf : ∀ l, row V r l ≠ ⊥ := fun l => by rw [hg]; exact EReal.coe_ne_bot _
  have hc := (congrArg (fun o => StableHlo.after o V) rest_split).trans
    ((StableHlo.after_append _ _ V).trans (StableHlo.after_append _ _ _))
  obtain ⟨c0, c5, c6, c7, c8⟩ := choose_args (V := V)
  obtain ⟨g0, g5, g6, g7, g8⟩ := gate_args (V := StableHlo.after opsChoose V)
  refine (congrFun (congrFun hc (Proc.devRef .tc main_v48)) (ix3 0 r d)).trans ((experts_eq r d).trans ?_)
  rw [g0, g5, g6, g7, g8, c0, c5, c6, c7, c8]
  congr 1
  funext e
  rw [gate_form (row V r) i j (row_eq V r) (count_eq hf hi hj) hi e, hg]
  exact softmax_kept g i j e (second_ne hf hj)

end Cert.RefValue

end
-- ==== Proof.Finite.lean ====
module

public import proofs.«01_k».proof.Defs
public import proofs.«01_k».proof.Proof.RefValue

/-! Where the router's operands hold real numbers only, so do its noisy logits. -/

@[expose] public section

set_option maxRecDepth 16384

noncomputable section

namespace Cert.Finite

open Idealize.ShloMosaic Idealize.ShloMosaic.Pointwise Idealize.ShloMosaic.Tactic Idealize.ShloMosaic.TcCoe
open Cert.ReferenceIdeal

/-- `x` is a real number. -/
def IsReal (x : EReal) : Prop := ∃ q : ℝ, x = (q : EReal)

/-- Sums, products and finite sums of reals are real. -/
theorem IsReal.add {x y : EReal} : IsReal x → IsReal y → IsReal (x + y) := by
  rintro ⟨p, rfl⟩ ⟨q, rfl⟩
  exact ⟨p + q, (EReal.coe_add p q).symm⟩

theorem IsReal.mul {x y : EReal} : IsReal x → IsReal y → IsReal (x * y) := by
  rintro ⟨p, rfl⟩ ⟨q, rfl⟩
  exact ⟨p * q, (EReal.coe_mul p q).symm⟩

theorem IsReal.sum {ι : Type} (s : Finset ι) {f : ι → EReal} (h : ∀ k, IsReal (f k)) : IsReal (∑ k ∈ s, f k) :=
  Finset.sum_induction f IsReal (fun _ _ => IsReal.add) ⟨0, rfl⟩ fun k _ => h k

/-- `softplus` of a real number is one: the logarithm's argument is at least 1. -/
theorem IsReal.softplus {z : EReal} : IsReal z → IsReal (Router.softplus z) := by
  rintro ⟨q, rfl⟩
  refine IsReal.add ⟨max q 0, (EReal.coe_strictMono.monotone.map_max (a := q) (b := (0 : ℝ))).symm⟩ ?_
  have ha : FloatOps.absf (F := Ideal) (φ := .f32) (q : EReal) = ((max q (-q) : ℝ) : EReal) :=
    (EReal.coe_strictMono.monotone.map_max (a := q) (b := -q)).symm
  have hs : (0 : EReal) - ((max q (-q) : ℝ) : EReal) = ((0 - max q (-q) : ℝ) : EReal) := (EReal.coe_sub 0 _).symm
  rw [ha, hs]
  show IsReal (Ideal.log (1 + ((Real.exp (0 - max q (-q)) : ℝ) : EReal)))
  have h1 : (1 : EReal) + ((Real.exp (0 - max q (-q)) : ℝ) : EReal) = ((1 + Real.exp (0 - max q (-q)) : ℝ) : EReal) := by
    rw [EReal.coe_add]; rfl
  rw [h1]
  have hp := Real.exp_pos (0 - max q (-q))
  refine ⟨Real.log (1 + Real.exp (0 - max q (-q))), ?_⟩
  exact if_neg (by linarith)

/-- An affine image of a row of reals is real. -/
theorem affine_real {X : S1x2048x768.Idx → EReal} {W : S768x8.Idx → EReal} {b : S8.Idx → EReal} (hX : ∀ i, IsReal (X i))
    (hW : ∀ i, IsReal (W i)) (hb : ∀ i, IsReal (b i)) (r : Fin 2048) (l : Fin 8) : IsReal (RefValue.affine X W b r l) :=
  (IsReal.sum _ fun _ => (hX _).mul (hW _)).add (hb _)

/-- What the precondition says of one element. -/
theorem real_of_lt {x : EReal} (h : FloatOps.cmpf (F := Ideal) (φ := .f32) CmpFPredicate.olt
    (FloatOps.absf (F := Ideal) (φ := .f32) x) (Ideal.ofBits FTy.f32 0x7F800000#32) = 1#1) : IsReal x := by
  have ht : Ideal.ofBits FTy.f32 0x7F800000#32 = ⊤ := by
    simp [Ideal.ofBits, Ideal.ieee]
  rw [ht] at h
  have h' : BitVec.ofBool (decide (max x (-x) < (⊤ : EReal))) = 1#1 := h
  have hlt : max x (-x) < (⊤ : EReal) := by
    by_contra hn
    rw [decide_eq_false hn] at h'
    exact absurd h' (by decide)
  induction x with
  | bot => exact absurd hlt (by simp)
  | top => exact absurd hlt (by simp)
  | coe q => exact ⟨q, rfl⟩

/-- The side conditions of the precondition's operations. -/
theorem facts : Cert.Pre_router_finite.Facts := ⟨by decide, by decide, by decide⟩

/-- The same, as the instance the precondition is stated over. -/
instance : Cert.Pre_router_finite.Facts := facts

/-- The precondition: the router's operands hold real numbers only. -/
theorem operands_real {m : (ℓ : Loc KernelIdeal.nD KernelIdeal.τ KernelIdeal.sig) → Buf (Elt Ideal) ℓ} (h : Pre_KernelIdeal_router_finite m)
    (c : Dev KernelIdeal.nD) :
    (∀ i, IsReal ((m ((c.tc : Thread KernelIdeal.nD KernelIdeal.τ).loc KernelIdeal.main_arg0) : S1x2048x768.Idx → EReal) i))
    ∧ (∀ i, IsReal ((m ((c.tc : Thread KernelIdeal.nD KernelIdeal.τ).loc KernelIdeal.main_arg1) : S768x8.Idx → EReal) i))
    ∧ (∀ i, IsReal ((m ((c.tc : Thread KernelIdeal.nD KernelIdeal.τ).loc KernelIdeal.main_arg2) : S8.Idx → EReal) i))
    ∧ (∀ i, IsReal ((m ((c.tc : Thread KernelIdeal.nD KernelIdeal.τ).loc KernelIdeal.main_arg3) : S768x8.Idx → EReal) i))
    ∧ (∀ i, IsReal ((m ((c.tc : Thread KernelIdeal.nD KernelIdeal.τ).loc KernelIdeal.main_arg4) : S8.Idx → EReal) i)) := by
  obtain ⟨h0, h1, h2, h3, h4⟩ := h c
  exact ⟨fun i => real_of_lt (congrFun h0 i), fun i => real_of_lt (congrFun h1 i), fun i => real_of_lt (congrFun h2 i),
    fun i => real_of_lt (congrFun h3 i), fun i => real_of_lt (congrFun h4 i)⟩

end Cert.Finite

end
-- ==== Proof.Mirror.lean ====
module

public import Idealize.ShloMosaic.Lib.StableHlo
public import Idealize.ShloMosaic.Lib.StableHlo.Run
public import Idealize.ShloMosaic.Lib.Pipeline.Frame

/-! Two straight lines of host operations, of two programs, that do the same thing to buffers numbered one apart.
    `Alike lo n V V'` says that the buffers `lo, …, n - 1` of the second program hold what the buffers one further on hold in
    the first. Each operation of a mirrored pair writes the next buffer, so the relation grows by one at each step, and
    no operation need be looked at again. -/

@[expose] public section

noncomputable section

namespace Cert.Mirror

open Idealize.ShloMosaic Idealize.ShloMosaic.StableHlo

variable {τ τ' : Topo} {sig sig' : RefSig} {Val : EltTy → Type}

/-- Reference `x` of the first program is device buffer `k + 1`, reference `x'` of the second is device buffer `k`. -/
def Twin (k : ℕ) (x : Ref sig .tc) (x' : Ref sig' .tc) : Prop :=
  x.space = .hbm ∧ x'.space = .hbm ∧ x.idx.val = k + 1 ∧ x'.idx.val = k

/-- A reference is its space and its number. -/
theorem ref_ext {s : RefSig} {x y : Ref s .tc} (hs : x.space = y.space) (hi : x.idx.val = y.idx.val) : x = y := by
  obtain ⟨sx, ix, hx⟩ := x
  obtain ⟨sy, iy, hy⟩ := y
  obtain rfl : sx = sy := hs
  obtain rfl : ix = iy := Fin.ext hi
  rfl

theorem Twin.left_eq {k : ℕ} {x y : Ref sig .tc} {x' y' : Ref sig' .tc} (h : Twin k x x') (g : Twin k y y') : x = y :=
  ref_ext (h.1.trans g.1.symm) (h.2.2.1.trans g.2.2.1.symm)

theorem Twin.right_eq {k : ℕ} {x y : Ref sig .tc} {x' y' : Ref sig' .tc} (h : Twin k x x') (g : Twin k y y') : x' = y' :=
  ref_ext (h.2.1.trans g.2.1.symm) (h.2.2.2.trans g.2.2.2.symm)

/-- The buffers `lo, …, n - 1` of the second program hold what their twins of the first hold. -/
def Alike (lo n : ℕ) (V : Valuation τ sig Val) (V' : Valuation τ' sig' Val) : Prop :=
  ∀ (T : BufTy) (x : TRef sig T) (x' : TRef sig' T) (k : ℕ), Twin k x.ref x'.ref → lo ≤ k → k < n →
    x.ofBuf (V (Proc.devRef .tc x.ref)) = x'.ofBuf (V' (Proc.devRef .tc x'.ref))

/-- An empty stretch of buffers is alike in any two valuations. -/
theorem alike_refl (n : ℕ) (V : Valuation τ sig Val) (V' : Valuation τ' sig' Val) : Alike n n V V' :=
  fun _ _ _ _ _ h h' => absurd h' (Nat.not_lt.mpr h)

/-- Two operations that write twins `n`, with the same value, and nothing else, lengthen the stretch by one. -/
theorem Alike.write {lo n : ℕ} {V W : Valuation τ sig Val} {V' W' : Valuation τ' sig' Val} {T : BufTy} {y : TRef sig T}
    {y' : TRef sig' T} (h : Alike lo n V V') (hy : Twin n y.ref y'.ref)
    (hv : y.ofBuf (W (Proc.devRef .tc y.ref)) = y'.ofBuf (W' (Proc.devRef .tc y'.ref)))
    (hW : ∀ r : Ref sig .tc, r ≠ y.ref → W (Proc.devRef .tc r) = V (Proc.devRef .tc r))
    (hW' : ∀ r : Ref sig' .tc, r ≠ y'.ref → W' (Proc.devRef .tc r) = V' (Proc.devRef .tc r)) : Alike lo (n + 1) W W' := by
  intro U x x' k hk hlo hn
  rcases Nat.lt_succ_iff_lt_or_eq.mp hn with hlt | rfl
  · have hne : x.ref ≠ y.ref := fun e => by
      have := hk.2.2.1; rw [e, hy.2.2.1] at this; omega
    have hne' : x'.ref ≠ y'.ref := fun e => by
      have := hk.2.2.2; rw [e, hy.2.2.2] at this; omega
    have hs := hW _ hne
    have hs' := hW' _ hne'
    have := h U x x' k hk hlo hlt
    rw [← hs, ← hs'] at this
    exact this
  · obtain ⟨rx, tx, dx, ux⟩ := x
    obtain ⟨rx', tx', dx', ux'⟩ := x'
    obtain ⟨ry, ty, dy, uy⟩ := y
    obtain ⟨ry', ty', dy', uy'⟩ := y'
    obtain rfl : rx = ry := hk.left_eq hy
    obtain rfl : rx' = ry' := hk.right_eq hy
    obtain rfl : U = T := tx.symm.trans ty
    exact hv

/-- Twins inside the stretch. -/
def Seen (lo n : ℕ) (x : Ref sig .tc) (x' : Ref sig' .tc) : Prop :=
  Twin x'.idx.val x x' ∧ lo ≤ x'.idx.val ∧ x'.idx.val < n

theorem Alike.seen {lo n : ℕ} {V : Valuation τ sig Val} {V' : Valuation τ' sig' Val} (h : Alike lo n V V') {T : BufTy}
    {x : TRef sig T} {x' : TRef sig' T} (hx : Seen lo n x.ref x'.ref) :
    x.ofBuf (V (Proc.devRef .tc x.ref)) = x'.ofBuf (V' (Proc.devRef .tc x'.ref)) :=
  h T x x' _ hx.1 hx.2.1 hx.2.2

/-- The lines `ops` and `ops'` carry a stretch alike up to `n` to one alike up to `m`. -/
structure Mirrors (lo n m : ℕ) (ops : List (HloOp τ sig Val)) (ops' : List (HloOp τ' sig' Val)) : Prop where
  alike : ∀ V V', Alike lo n V V' → Alike lo m (after ops V) (after ops' V')

theorem Mirrors.nil {lo n : ℕ} : Mirrors lo n n ([] : List (HloOp τ sig Val)) ([] : List (HloOp τ' sig' Val)) :=
  ⟨fun _ _ h => h⟩

/-- Two mirrored pairs of lines, one after the other. -/
theorem Mirrors.append {lo n m p : ℕ} {a b : List (HloOp τ sig Val)} {a' b' : List (HloOp τ' sig' Val)}
    (h : Mirrors lo n m a a') (g : Mirrors lo m p b b') : Mirrors lo n p (a ++ b) (a' ++ b') := by
  refine ⟨fun V V' hV => ?_⟩
  rw [after_append, after_append]
  exact g.alike _ _ (h.alike _ _ hV)

variable {Tx Ta Tb Ty : BufTy} {lo n m : ℕ} {ops : List (HloOp τ sig Val)} {ops' : List (HloOp τ' sig' Val)}
  {x : TRef sig Tx} {x' : TRef sig' Tx} {a : TRef sig Ta} {a' : TRef sig' Ta} {b : TRef sig Tb} {b' : TRef sig' Tb}
  {y : TRef sig Ty} {y' : TRef sig' Ty}

/-- A constant. -/
theorem Mirrors.nullary {v v' : Ty.Contents Val} (hy : Twin n y.ref y'.ref) (hv : v = v')
    (h : Mirrors lo (n + 1) m ops ops') :
    Mirrors lo n m (TRef.nullary y v :: ops) (TRef.nullary y' v' :: ops') := by
  refine ⟨fun V V' hV => ?_⟩
  refine h.alike _ _ (hV.write hy ?_ (fun r hr => nullary_result_ne _ _ _ _ hr) (fun r hr => nullary_result_ne _ _ _ _ hr))
  rw [nullary_result, nullary_result]
  simp only [TRef.ofBuf, TRef.toBuf, cast_cast, cast_eq, hv]

/-- One operand, which lies in the stretch. -/
theorem Mirrors.unary {f f' : Tx.Contents Val → Ty.Contents Val} (hy : Twin n y.ref y'.ref)
    (hx : Seen lo n x.ref x'.ref) (hf : f = f') (h : Mirrors lo (n + 1) m ops ops') :
    Mirrors lo n m (TRef.unary x y f :: ops) (TRef.unary x' y' f' :: ops') := by
  refine ⟨fun V V' hV => ?_⟩
  refine h.alike _ _ (hV.write hy ?_ (fun r hr => unary_result_ne _ _ _ _ _ _ hr) (fun r hr => unary_result_ne _ _ _ _ _ _ hr))
  rw [unary_result, unary_result]
  have := hV.seen hx
  simp only [TRef.ofBuf] at this
  simp only [TRef.ofBuf, TRef.toBuf, cast_cast, cast_eq, hf, this]

/-- Two operands. -/
theorem Mirrors.binary {f f' : Ta.Contents Val → Tb.Contents Val → Ty.Contents Val} (hy : Twin n y.ref y'.ref)
    (ha : Seen lo n a.ref a'.ref) (hb : Seen lo n b.ref b'.ref)
    (hf : f = f') (h : Mirrors lo (n + 1) m ops ops') :
    Mirrors lo n m (TRef.binary a b y f :: ops) (TRef.binary a' b' y' f' :: ops') := by
  refine ⟨fun V V' hV => ?_⟩
  refine h.alike _ _ (hV.write hy ?_ (fun r hr => binary_result_ne _ _ _ _ _ _ _ _ hr)
    (fun r hr => binary_result_ne _ _ _ _ _ _ _ _ hr))
  rw [binary_result, binary_result]
  have h₁ := hV.seen ha
  have h₂ := hV.seen hb
  simp only [TRef.ofBuf] at h₁ h₂
  simp only [TRef.ofBuf, TRef.toBuf, cast_cast, cast_eq, hf, h₁, h₂]

/-- What a change of shape leaves, read at the value's own type. -/
theorem reshape_value {x : TRef sig Tx} {y : TRef sig Ty} (he : Tx.elt = Ty.elt) (hn : Tx.shape.ShapeCasts Ty.shape)
    (V : Valuation τ sig Val) :
    y.ofBuf ((TRef.reshape x y he hn).result V (Proc.devRef .tc y.ref))
      = fun i => he ▸ shapeCast Ty.shape (x.ofBuf (V (Proc.devRef .tc x.ref))) hn i := by
  obtain ⟨rx, rfl, dx, ux⟩ := x
  obtain ⟨ry, rfl, dy, uy⟩ := y
  exact reshape_result ..

/-- A change of shape. -/
theorem Mirrors.reshape {he he' : Tx.elt = Ty.elt} {hn hn' : Tx.shape.ShapeCasts Ty.shape}
    (hy : Twin n y.ref y'.ref)
    (hx : Seen lo n x.ref x'.ref) (h : Mirrors lo (n + 1) m ops ops') :
    Mirrors lo n m (TRef.reshape x y he hn :: ops) (TRef.reshape x' y' he' hn' :: ops') := by
  refine ⟨fun V V' hV => ?_⟩
  refine h.alike _ _ (hV.write hy ?_ (fun r hr => reshape_result_ne _ _ _ _ _ _ _ hr) (fun r hr => reshape_result_ne _ _ _ _ _ _ _ hr))
  rw [reshape_value, reshape_value, hV.seen hx]

end Cert.Mirror

end
-- ==== Proof.Noise.lean ====
module

public import proofs.«01_k».proof.Proof.Gen.KernelIdeal.Launch
public import proofs.«01_k».proof.Proof.RefOps
public import proofs.«01_k».proof.Proof.Mirror

/-! The noise is drawn by the same operations in both programs, on buffers numbered one apart: the array of uniform
    variates the kernel reads is the array the reference reads. -/

@[expose] public section

set_option maxRecDepth 65536
set_option Elab.async false

noncomputable section

namespace Cert.KernelIdeal.Noise

open Idealize.ShloMosaic Idealize.SL.Sem Cert.KernelIdeal.Gen

variable {F : FTy → Type} [FloatOps F]

/-- The kernel's construction of the key, and the two ends of the interval. -/
abbrev keyOps : List (HloOp τ sig (Elt F)) :=
  ( StableHlo.TRef.nullary (.of main_c_6 : StableHlo.TRef sig ⟨S_, .i32⟩) (constantI S_ 32 42#32)
  :: StableHlo.TRef.nullary (.of main_c_7 : StableHlo.TRef sig ⟨S_, .i32⟩) (constantI S_ 32 32#32)
  :: StableHlo.TRef.binary (.of main_c_6 : StableHlo.TRef sig ⟨S_, .i32⟩) (.of main_c_7 : StableHlo.TRef sig ⟨S_, .i32⟩) (.of main_v15 : StableHlo.TRef sig ⟨S_, .i32⟩) (Host.shrui : (⟨S_, .i32⟩ : BufTy).Contents (Elt F) → (⟨S_, .i32⟩ : BufTy).Contents (Elt F) → (⟨S_, .i32⟩ : BufTy).Contents (Elt F))
  :: StableHlo.TRef.unary (.of main_v15 : StableHlo.TRef sig ⟨S_, .i32⟩) (.of main_v16 : StableHlo.TRef sig ⟨S_, .i32⟩) (id : (⟨S_, .i32⟩ : BufTy).Contents (Elt F) → (⟨S_, .i32⟩ : BufTy).Contents (Elt F))
  :: StableHlo.TRef.unary (.of main_v16 : StableHlo.TRef sig ⟨S_, .i32⟩) (.of main_v17 : StableHlo.TRef sig ⟨S1, .i32⟩) (broadcastInDim S1 ![] bcast_S_S1 : (⟨S_, .i32⟩ : BufTy).Contents (Elt F) → (⟨S1, .i32⟩ : BufTy).Contents (Elt F))
  :: StableHlo.TRef.nullary (.of main_c_8 : StableHlo.TRef sig ⟨S_, .i32⟩) (constantI S_ 32 4294967295#32)
  :: StableHlo.TRef.binary (.of main_c_6 : StableHlo.TRef sig ⟨S_, .i32⟩) (.of main_c_8 : StableHlo.TRef sig ⟨S_, .i32⟩) (.of main_v18 : StableHlo.TRef sig ⟨S_, .i32⟩) (andi : (⟨S_, .i32⟩ : BufTy).Contents (Elt F) → (⟨S_, .i32⟩ : BufTy).Contents (Elt F) → (⟨S_, .i32⟩ : BufTy).Contents (Elt F))
  :: StableHlo.TRef.unary (.of main_v18 : StableHlo.TRef sig ⟨S_, .i32⟩) (.of main_v19 : StableHlo.TRef sig ⟨S_, .i32⟩) (id : (⟨S_, .i32⟩ : BufTy).Contents (Elt F) → (⟨S_, .i32⟩ : BufTy).Contents (Elt F))
  :: StableHlo.TRef.unary (.of main_v19 : StableHlo.TRef sig ⟨S_, .i32⟩) (.of main_v20 : StableHlo.TRef sig ⟨S1, .i32⟩) (broadcastInDim S1 ![] bcast_S_S1 : (⟨S_, .i32⟩ : BufTy).Contents (Elt F) → (⟨S1, .i32⟩ : BufTy).Contents (Elt F))
  :: StableHlo.TRef.binary (.of main_v17 : StableHlo.TRef sig ⟨S1, .i32⟩) (.of main_v20 : StableHlo.TRef sig ⟨S1, .i32⟩) (.of main_v21 : StableHlo.TRef sig ⟨S2, .i32⟩) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))
  :: StableHlo.TRef.nullary (.of main_cst_9 : StableHlo.TRef sig ⟨S_, .f32⟩) (constant S_ .f32 0x00000000#32)
  :: StableHlo.TRef.nullary (.of main_cst_10 : StableHlo.TRef sig ⟨S_, .f32⟩) (constant S_ .f32 0x3F800000#32)
  :: [] )

/-- The first stretch of the kernel's host code ends with the construction of the key. -/
theorem hostOps0_eq : (hostOps0 : List (HloOp τ sig (Elt F))) = hostOps0.take 23 ++ keyOps := rfl

end Cert.KernelIdeal.Noise

namespace Cert.Mirror

open Idealize.ShloMosaic Idealize.SL.Sem

variable {F : FTy → Type} [FloatOps F]

set_option maxHeartbeats 40000000 in
/-- The two programs' key, operation by operation. -/
theorem key_mirrors : Mirrors 31 31 43
    (Cert.KernelIdeal.Noise.keyOps : List (HloOp _ _ (Elt F)))
    (Cert.ReferenceIdeal.Line.opsKey : List (HloOp _ _ (Elt F))) := by
  repeat' first
    | with_reducible exact Mirrors.nil
    | with_reducible refine Mirrors.nullary ?_ ?_ ?_
    | with_reducible refine Mirrors.unary ?_ ?_ ?_ ?_
    | with_reducible refine Mirrors.binary ?_ ?_ ?_ ?_ ?_
    | with_reducible refine Mirrors.reshape ?_ ?_ ?_
    | exact ⟨rfl, rfl, rfl, rfl⟩
    | exact ⟨⟨rfl, rfl, rfl, rfl⟩, by decide, by decide⟩
    | exact rfl

set_option maxHeartbeats 40000000 in
/-- The two programs' generator, operation by operation. -/
theorem noise_mirrors : Mirrors 31 43 310
    (Cert.KernelIdeal.Gen.hostOps0_1 : List (HloOp _ _ (Elt F)))
    (Cert.ReferenceIdeal.Line.opsNoise : List (HloOp _ _ (Elt F))) := by
  repeat' first
    | with_reducible exact Mirrors.nil
    | with_reducible refine Mirrors.nullary ?_ ?_ ?_
    | with_reducible refine Mirrors.unary ?_ ?_ ?_ ?_
    | with_reducible refine Mirrors.binary ?_ ?_ ?_ ?_ ?_
    | with_reducible refine Mirrors.reshape ?_ ?_ ?_
    | exact ⟨rfl, rfl, rfl, rfl⟩
    | exact ⟨⟨rfl, rfl, rfl, rfl⟩, by decide, by decide⟩
    | exact rfl

end Cert.Mirror

end
-- ==== Proof.NoiseValue.lean ====
module

public import proofs.«01_k».proof.Proof.Noise
public import Idealize.ShloMosaic.Lib.StableHlo.ReadAt
public import Idealize.ShloMosaic.Lib.Pointwise

/-! The noise: the same in both programs, and a real number at every place. -/

@[expose] public section

set_option maxRecDepth 65536

noncomputable section

namespace Cert.NoiseValue

open Idealize.ShloMosaic Idealize.ShloMosaic.Pointwise Idealize.ShloMosaic.Tactic Idealize.ShloMosaic.TcCoe Idealize.SL.Sem
open Cert.ReferenceIdeal Cert.ReferenceIdeal.Gen Cert.ReferenceIdeal.Line

/-- From the same place on, both programs draw the same noise. -/
theorem same {F : FTy → Type} [FloatOps F] (V : Valuation KernelIdeal.τ KernelIdeal.sig (Elt F)) (V' : Valuation τ sig (Elt F)) :
    (StableHlo.after KernelIdeal.Gen.hostOps0_1 (StableHlo.after KernelIdeal.Gen.hostOps0 V) (Proc.devRef .tc KernelIdeal.main_v22)
        : S1x2048x8.Idx → F .f32)
      = (StableHlo.after opsNoise (StableHlo.after opsKey V') (Proc.devRef .tc main_v16) : S1x2048x8.Idx → F .f32) := by
  rw [KernelIdeal.Noise.hostOps0_eq, StableHlo.after_append]
  have h := (Mirror.noise_mirrors (F := F)).alike _ _ ((Mirror.key_mirrors (F := F)).alike _ _
    (Mirror.alike_refl 31 (StableHlo.after (KernelIdeal.Gen.hostOps0.take 23) V) V'))
  exact h.seen (x := (.of KernelIdeal.main_v22 : StableHlo.TRef KernelIdeal.sig ⟨S1x2048x8, .f32⟩))
    (x' := (.of main_v16 : StableHlo.TRef sig ⟨S1x2048x8, .f32⟩)) ⟨⟨rfl, rfl, rfl, rfl⟩, by decide, by decide⟩

/-- The end of the generator: the top 23 bits of a random word become the fraction of a number between 1 and 2, from which
1 is taken; the result is stretched to the interval from 0 to 1, which leaves it alone. -/
abbrev tailOps {F : FTy → Type} [FloatOps F] : List (HloOp τ sig (Elt F)) :=
  ( StableHlo.TRef.nullary (.of main_call1_c_3 : StableHlo.TRef sig ⟨S_, .i32⟩) (constantI S_ 32 9#32)
  :: StableHlo.TRef.unary (.of main_call1_c_3 : StableHlo.TRef sig ⟨S_, .i32⟩) (.of main_call1_v25 : StableHlo.TRef sig ⟨S1x2048x8, .i32⟩) (broadcastInDim S1x2048x8 ![] bcast_S_S1x2048x8)
  :: StableHlo.TRef.binary (.of main_call1_v24 : StableHlo.TRef sig ⟨S1x2048x8, .i32⟩) (.of main_call1_v25 : StableHlo.TRef sig ⟨S1x2048x8, .i32⟩) (.of main_call1_v26 : StableHlo.TRef sig ⟨S1x2048x8, .i32⟩) Host.shrui
  :: StableHlo.TRef.nullary (.of main_call1_c_4 : StableHlo.TRef sig ⟨S_, .i32⟩) (constantI S_ 32 1065353216#32)
  :: StableHlo.TRef.unary (.of main_call1_c_4 : StableHlo.TRef sig ⟨S_, .i32⟩) (.of main_call1_v27 : StableHlo.TRef sig ⟨S1x2048x8, .i32⟩) (broadcastInDim S1x2048x8 ![] bcast_S_S1x2048x8)
  :: StableHlo.TRef.binary (.of main_call1_v26 : StableHlo.TRef sig ⟨S1x2048x8, .i32⟩) (.of main_call1_v27 : StableHlo.TRef sig ⟨S1x2048x8, .i32⟩) (.of main_call1_v28 : StableHlo.TRef sig ⟨S1x2048x8, .i32⟩) ori
  :: StableHlo.TRef.unary (.of main_call1_v28 : StableHlo.TRef sig ⟨S1x2048x8, .i32⟩) (.of main_call1_v29 : StableHlo.TRef sig ⟨S1x2048x8, .f32⟩) (bitcastToFloat .f32)
  :: StableHlo.TRef.nullary (.of main_call1_cst : StableHlo.TRef sig ⟨S_, .f32⟩) (constant S_ .f32 0x3F800000#32)
  :: StableHlo.TRef.unary (.of main_call1_cst : StableHlo.TRef sig ⟨S_, .f32⟩) (.of main_call1_v30 : StableHlo.TRef sig ⟨S1x2048x8, .f32⟩) (broadcastInDim S1x2048x8 ![] bcast_S_S1x2048x8)
  :: StableHlo.TRef.binary (.of main_call1_v29 : StableHlo.TRef sig ⟨S1x2048x8, .f32⟩) (.of main_call1_v30 : StableHlo.TRef sig ⟨S1x2048x8, .f32⟩) (.of main_call1_v31 : StableHlo.TRef sig ⟨S1x2048x8, .f32⟩) subf
  :: StableHlo.TRef.binary (.of main_call1_v3 : StableHlo.TRef sig ⟨S1x1x1, .f32⟩) (.of main_call1_v2 : StableHlo.TRef sig ⟨S1x1x1, .f32⟩) (.of main_call1_v32 : StableHlo.TRef sig ⟨S1x1x1, .f32⟩) subf
  :: StableHlo.TRef.unary (.of main_call1_v32 : StableHlo.TRef sig ⟨S1x1x1, .f32⟩) (.of main_call1_v33 : StableHlo.TRef sig ⟨S1x2048x8, .f32⟩) (broadcastInDim S1x2048x8 ![0, 1, 2] bcast_S1x1x1_S1x2048x8_0_1_2)
  :: StableHlo.TRef.binary (.of main_call1_v31 : StableHlo.TRef sig ⟨S1x2048x8, .f32⟩) (.of main_call1_v33 : StableHlo.TRef sig ⟨S1x2048x8, .f32⟩) (.of main_call1_v34 : StableHlo.TRef sig ⟨S1x2048x8, .f32⟩) mulf
  :: StableHlo.TRef.unary (.of main_call1_v2 : StableHlo.TRef sig ⟨S1x1x1, .f32⟩) (.of main_call1_v35 : StableHlo.TRef sig ⟨S1x2048x8, .f32⟩) (broadcastInDim S1x2048x8 ![0, 1, 2] bcast_S1x1x1_S1x2048x8_0_1_2)
  :: StableHlo.TRef.binary (.of main_call1_v34 : StableHlo.TRef sig ⟨S1x2048x8, .f32⟩) (.of main_call1_v35 : StableHlo.TRef sig ⟨S1x2048x8, .f32⟩) (.of main_call1_v36 : StableHlo.TRef sig ⟨S1x2048x8, .f32⟩) addf
  :: StableHlo.TRef.unary (.of main_call1_v2 : StableHlo.TRef sig ⟨S1x1x1, .f32⟩) (.of main_call1_v37 : StableHlo.TRef sig ⟨S1x2048x8, .f32⟩) (broadcastInDim S1x2048x8 ![0, 1, 2] bcast_S1x1x1_S1x2048x8_0_1_2)
  :: StableHlo.TRef.binary (.of main_call1_v37 : StableHlo.TRef sig ⟨S1x2048x8, .f32⟩) (.of main_call1_v36 : StableHlo.TRef sig ⟨S1x2048x8, .f32⟩) (.of main_v16 : StableHlo.TRef sig ⟨S1x2048x8, .f32⟩) maximumf
  :: [] )

theorem noise_split : (opsNoise : List (HloOp τ sig (Elt Ideal))) = opsNoise.take 250 ++ tailOps := rfl

/-- A word shifted right by nine places, with the bits of 1 put in, has exponent 127. -/
theorem exponent (w : BitVec 32) : (IntOp.ori (IntOp.shrui .host w 9#32) 1065353216#32).extractLsb' 23 8 = 127#8 := by
  show ((w >>> (9#32 : BitVec 32)) ||| 1065353216#32).extractLsb' 23 8 = 127#8
  apply BitVec.eq_of_getLsbD_eq
  intro i hi
  have hw : ∀ n, 32 ≤ n → w.getLsbD n = false := fun n hn => BitVec.getLsbD_of_ge w n hn
  simp only [BitVec.getLsbD_extractLsb', BitVec.getLsbD_or, BitVec.ushiftRight_eq', BitVec.getLsbD_ushiftRight]
  rw [hw _ (by simp; omega)]
  revert i
  decide

/-- So the number it denotes is real. -/
theorem word_real (w : BitVec 32) :
    ∃ q : ℝ, Ideal.ofBits FTy.f32 (IntOp.ori (IntOp.shrui ArithUnit.host w 9#32) 1065353216#32) = (q : EReal) := by
  show ∃ q : ℝ, Ideal.ieee 8 23 _ = (q : EReal)
  unfold Ideal.ieee
  simp only [exponent]
  exact ⟨_, rfl⟩

/-- The noise is drawn from an interval that starts at 0. -/
theorem low (V : Valuation τ sig (Elt Ideal)) :
    (StableHlo.after opsNoise (StableHlo.after opsKey V) (Proc.devRef .tc main_call1_v2) : S1x1x1.Idx → EReal) (ix3 0 0 0) = (0 : EReal) := by
  after_reads_at
  show Ideal.ofBits .f32 0#32 = 0
  simp [Ideal.ofBits, Ideal.ieee]

/-- And that ends at 1. -/
theorem high (V : Valuation τ sig (Elt Ideal)) :
    (StableHlo.after opsNoise (StableHlo.after opsKey V) (Proc.devRef .tc main_call1_v3) : S1x1x1.Idx → EReal) (ix3 0 0 0) = (1 : EReal) := by
  after_reads_at
  show Ideal.ofBits .f32 1065353216#32 = 1
  simp [Ideal.ofBits, Ideal.ieee, -EReal.coe_mul]
  norm_num

/-- The end of the generator makes a real number. -/
theorem tail_real (W : Valuation τ sig (Elt Ideal)) (r : Fin 2048) (l : Fin 8)
    (h0 : (W (Proc.devRef .tc main_call1_v2) : S1x1x1.Idx → EReal) (ix3 0 0 0) = (0 : EReal))
    (h1 : (W (Proc.devRef .tc main_call1_v3) : S1x1x1.Idx → EReal) (ix3 0 0 0) = (1 : EReal)) :
    ∃ q : ℝ, (StableHlo.after tailOps W (Proc.devRef .tc main_v16) : S1x2048x8.Idx → EReal) (ix3 0 r l) = (q : EReal) := by
  obtain ⟨q, hq⟩ := word_real ((W (Proc.devRef .tc main_call1_v24) : S1x2048x8.Idx → BitVec 32) (ix3 0 r l))
  refine ⟨max 0 (q - 1), ?_⟩
  after_reads_at
  rw [h0, h1, hq, sub_zero, mul_one, add_zero]
  exact (EReal.coe_strictMono.monotone.map_max (a := (0 : ℝ)) (b := q - 1)).symm

theorem tail_low (W : Valuation τ sig (Elt Ideal)) :
    (StableHlo.after tailOps W (Proc.devRef .tc main_call1_v2) : S1x1x1.Idx → EReal) (ix3 0 0 0)
      = (W (Proc.devRef .tc main_call1_v2) : S1x1x1.Idx → EReal) (ix3 0 0 0) := by after_reads_simp

theorem tail_high (W : Valuation τ sig (Elt Ideal)) :
    (StableHlo.after tailOps W (Proc.devRef .tc main_call1_v3) : S1x1x1.Idx → EReal) (ix3 0 0 0)
      = (W (Proc.devRef .tc main_call1_v3) : S1x1x1.Idx → EReal) (ix3 0 0 0) := by after_reads_simp

/-- What the generator leaves, through its end. -/
theorem noise_tail (V : Valuation τ sig (Elt Ideal)) :
    StableHlo.after opsNoise V = StableHlo.after tailOps (StableHlo.after (opsNoise.take 250) V) :=
  (congrArg (fun o => StableHlo.after o V) noise_split).trans (StableHlo.after_append _ _ V)

/-- The noise is real. -/
theorem noise_real (V : Valuation τ sig (Elt Ideal)) (r : Fin 2048) (l : Fin 8) :
    ∃ q : ℝ, (StableHlo.after opsNoise (StableHlo.after opsKey V) (Proc.devRef .tc main_v16) : S1x2048x8.Idx → EReal) (ix3 0 r l)
      = (q : EReal) := by
  have hc := noise_tail (StableHlo.after opsKey V)
  have h0 := (congrFun (congrFun hc (Proc.devRef .tc main_call1_v2)) (ix3 0 0 0)).symm.trans (low V)
  have h1 := (congrFun (congrFun hc (Proc.devRef .tc main_call1_v3)) (ix3 0 0 0)).symm.trans (high V)
  obtain ⟨q, hq⟩ := tail_real _ r l ((tail_low _).symm.trans h0) ((tail_high _).symm.trans h1)
  exact ⟨q, (congrFun (congrFun hc (Proc.devRef .tc main_v16)) (ix3 0 r l)).trans hq⟩

end Cert.NoiseValue

end
-- ==== Proof.KernelRun.lean ====
module

public import proofs.«01_k».proof.Proof.Gen.KernelIdeal.Frame

/-! The kernel's run, to what its result array holds. -/

@[expose] public section

set_option maxRecDepth 16384

noncomputable section

namespace Cert.KernelIdeal.Run

open Idealize.ShloMosaic Cert.KernelIdeal.Gen
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel's launch once more, reading off the final state what its result array holds (`W7` at `main_v30`) next to
    the arguments. -/
theorem run : θ_run defs (onTc (τ := τ) (main (F := F))) ⟨m, fun _ => 0, ρ⟩ (fun r => ∀ c : Dev nD,
      r.2.mem ((c.tc : Thread nD τ).loc main_v30) = W7 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v30 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.Run

end
-- ==== Proof.Pack.lean ====
module

public import proofs.«01_k».proof.Proof.Gen.KernelIdeal.Frame
public import Idealize.ShloMosaic.Lib.Routing.OpsSet

/-! The kernel lays its two router matrices side by side in one matrix of 128 columns: the routing weights in columns
0–7, the noise weights in columns 8–15, zeros after that; the two bias vectors likewise in one row. Each is written by
an update of a block of columns. Here is what an updated array holds at a place inside and outside the block. -/

@[expose] public section

set_option maxRecDepth 16384

noncomputable section

namespace Cert.Pack

open Idealize.ShloMosaic Idealize.ShloMosaic.ValueIdx Idealize.ShloMosaic.Routing Cert.KernelIdeal Cert.KernelIdeal.Gen

variable {α : Type}

/-- An update of eight columns, starting at column `k`, lands its entry `(a, b)` at row `a`, column `k + b`. -/
theorem lands_block (idx : IVec S1 32) (k : Int) (hk : (idx (ix1 0)).toInt = k) (j : S768x8.Idx) (r : Fin 768) (c : Fin 128) :
    scatter_S768x128_S1_S768x8_01_n_1_0.resultIdx? j idx = some (ix2 r c) ↔ (j 0).val = r.val ∧ k + (j 1).val = c.val := by
  have w0 : scatter_S768x128_S1_S768x8_01_n_1_0.window j 0 = (j 0).val := rfl
  have w1 : scatter_S768x128_S1_S768x8_01_n_1_0.window j 1 = (j 1).val := rfl
  have s0 : scatter_S768x128_S1_S768x8_01_n_1_0.start j idx 0 = 0 := rfl
  have s1 : scatter_S768x128_S1_S768x8_01_n_1_0.start j idx 1 = k := by
    rw [← hk]
    unfold ScatterDims.start
    rw [dif_pos (by decide)]
    congr 2
    funext b
    match b with
    | ⟨0, _⟩ => exact Subsingleton.elim (α := Fin 1) _ _
  rw [resultIdx?_ix2, s0, w0, s1, w1]
  omega

/-- Inside the block the updated matrix holds the update. -/
theorem block_hit (x : S768x128.Idx → α) (idx : IVec S1 32) (k : Nat) (hk : (idx (ix1 0)).toInt = k) (u : S768x8.Idx → α)
    (r : Fin 768) (l : Fin 8) (h : k + l.val < 128) :
    Host.scatter scatter_S768x128_S1_S768x8_01_n_1_0 (fun _ b => b) x idx u (ix2 r ⟨k + l.val, h⟩) = u (ix2 r l) := by
  refine scatter_set_hit _ x idx u _ _ (fun j hj => ?_) (ix2 r l) ((lands_block idx k hk _ r _).mpr ⟨rfl, ?_⟩)
  · have := (lands_block idx k hk j r _).mp hj
    congr 1
    funext a
    apply Fin.ext
    match a with
    | ⟨0, _⟩ => exact this.1
    | ⟨1, _⟩ =>
      have h2 := this.2
      show (j 1).val = l.val
      simp only at h2
      omega
  · show (k : Int) + ((l.val : Nat) : Int) = ((k + l.val : Nat) : Int)
    omega

/-- Left of the block the updated matrix is as before. -/
theorem block_miss (x : S768x128.Idx → α) (idx : IVec S1 32) (k : Nat) (hk : (idx (ix1 0)).toInt = k) (u : S768x8.Idx → α)
    (r : Fin 768) (c : Fin 128) (h : c.val < k) :
    Host.scatter scatter_S768x128_S1_S768x8_01_n_1_0 (fun _ b => b) x idx u (ix2 r c) = x (ix2 r c) := by
  refine scatter_set_miss _ x idx u _ fun j hj => ?_
  have := ((lands_block idx k hk j r c).mp hj).2
  omega

/-- An update of eight places of the one row, starting at place `k`, lands its entry `b` at place `k + b`. -/
theorem lands_row (idx : IVec S2 32) (k : Int) (h0 : (idx (ix1 0)).toInt = 0) (hk : (idx (ix1 1)).toInt = k) (j : S8.Idx) (c : Fin 128) :
    scatter_S1x128_S2_S8_0_0_01_0.resultIdx? j idx = some (ix2 0 c) ↔ k + (j 0).val = c.val := by
  have w0 : scatter_S1x128_S2_S8_0_0_01_0.window j 0 = 0 := rfl
  have w1 : scatter_S1x128_S2_S8_0_0_01_0.window j 1 = (j 0).val := rfl
  have s0 : scatter_S1x128_S2_S8_0_0_01_0.start j idx 0 = 0 := by
    rw [← h0]
    unfold ScatterDims.start
    rw [dif_pos (by decide)]
    congr 2
    funext b
    match b with
    | ⟨0, _⟩ => rfl
  have s1 : scatter_S1x128_S2_S8_0_0_01_0.start j idx 1 = k := by
    rw [← hk]
    unfold ScatterDims.start
    rw [dif_pos (by decide)]
    congr 2
    funext b
    match b with
    | ⟨0, _⟩ => rfl
  rw [resultIdx?_ix2, s0, w0, s1, w1]
  simp

/-- Inside the block the updated row holds the update. -/
theorem row_hit (x : S1x128.Idx → α) (idx : IVec S2 32) (k : Nat) (h0 : (idx (ix1 0)).toInt = 0) (hk : (idx (ix1 1)).toInt = k)
    (u : S8.Idx → α) (l : Fin 8) (h : k + l.val < 128) :
    Host.scatter scatter_S1x128_S2_S8_0_0_01_0 (fun _ b => b) x idx u (ix2 0 ⟨k + l.val, h⟩) = u (ix1 l) := by
  refine scatter_set_hit _ x idx u _ _ (fun j hj => ?_) (ix1 l) ((lands_row idx k h0 hk _ _).mpr ?_)
  · have := (lands_row idx k h0 hk j _).mp hj
    congr 1
    funext a
    apply Fin.ext
    match a with
    | ⟨0, _⟩ =>
      show (j 0).val = l.val
      simp only at this
      omega
  · show (k : Int) + ((l.val : Nat) : Int) = ((k + l.val : Nat) : Int)
    omega

/-- Left of the block the updated row is as before. -/
theorem row_miss (x : S1x128.Idx → α) (idx : IVec S2 32) (k : Nat) (h0 : (idx (ix1 0)).toInt = 0) (hk : (idx (ix1 1)).toInt = k)
    (u : S8.Idx → α) (c : Fin 128) (h : c.val < k) :
    Host.scatter scatter_S1x128_S2_S8_0_0_01_0 (fun _ b => b) x idx u (ix2 0 c) = x (ix2 0 c) := by
  refine scatter_set_miss _ x idx u _ fun j hj => ?_
  have := (lands_row idx k h0 hk j c).mp hj
  omega

end Cert.Pack

end
-- ==== Proof.KernelHost.lean ====
module

public import proofs.«01_k».proof.Proof.Pack
public import Idealize.ShloMosaic.Lib.StableHlo.ReadAt
public import Idealize.ShloMosaic.Lib.Pointwise

/-! What the host code hands the two kernels: the packed router matrices, the arrays reshaped. -/

@[expose] public section

set_option maxRecDepth 16384

noncomputable section

namespace Cert.KernelHost

open Idealize.ShloMosaic Idealize.ShloMosaic.Pointwise Idealize.ShloMosaic.Tactic Idealize.ShloMosaic.TcCoe
open Cert.KernelIdeal Cert.KernelIdeal.Gen Cert.Pack

variable (V : Valuation τ sig (Elt Ideal))

theorem x_eq (r : Fin 2048) (d : Fin 768) :
    (StableHlo.after hostOps0 V (Proc.devRef .tc main_v0) : S2048x768.Idx → EReal) (ix2 r d)
      = (V (Proc.devRef .tc main_arg0) : S1x2048x768.Idx → EReal) (ix3 0 r d) := by
  after_reads_at

/-- Columns 0–7 of the packed matrix are the routing weights. -/
theorem pack_wr (r : Fin 768) (l : Fin 8) :
    (StableHlo.after hostOps0 V (Proc.devRef .tc main_v5) : S768x128.Idx → EReal) (ix2 r ⟨l.val, by omega⟩)
      = (V (Proc.devRef .tc main_arg1) : S768x8.Idx → EReal) (ix2 r l) := by
  after_reads_simp
  refine (block_miss _ _ 8 rfl _ r _ l.isLt).trans ?_
  rw [show (⟨l.val, by omega⟩ : Fin 128) = ⟨0 + l.val, by omega⟩ from Fin.ext (Nat.zero_add _).symm]
  exact block_hit _ _ 0 rfl _ r l _

/-- Columns 8–15 of the packed matrix are the noise weights. -/
theorem pack_wn (r : Fin 768) (l : Fin 8) :
    (StableHlo.after hostOps0 V (Proc.devRef .tc main_v5) : S768x128.Idx → EReal) (ix2 r ⟨8 + l.val, by omega⟩)
      = (V (Proc.devRef .tc main_arg3) : S768x8.Idx → EReal) (ix2 r l) := by
  after_reads_simp
  exact block_hit _ _ 8 rfl _ r l _

/-- Where the routing biases go in the row. -/
theorem at_first : ∀ i : Fin 2,
    ((StableHlo.after hostOps0 V (Proc.devRef .tc main_v9) : IVec S2 32) (ix1 i)).toInt = ![0, 0] i := by
  intro i
  after_reads_simp
  fin_cases i <;> pointwise <;> rfl

/-- Where the noise biases go in the row. -/
theorem at_second : ∀ i : Fin 2,
    ((StableHlo.after hostOps0 V (Proc.devRef .tc main_v13) : IVec S2 32) (ix1 i)).toInt = ![0, 8] i := by
  intro i
  after_reads_simp
  fin_cases i <;> pointwise <;> rfl

/-- Places 0–7 of the packed row are the routing biases. -/
theorem pack_br (l : Fin 8) :
    (StableHlo.after hostOps0 V (Proc.devRef .tc main_v14) : S1x128.Idx → EReal) (ix2 0 ⟨l.val, by omega⟩)
      = (V (Proc.devRef .tc main_arg2) : S8.Idx → EReal) (ix1 l) := by
  have h0 := at_first V
  have h1 := at_second V
  revert h0 h1
  after_reads_simp
  intro h0 h1
  refine (row_miss _ _ 8 (h1 0) (h1 1) _ _ l.isLt).trans ?_
  rw [show (⟨l.val, by omega⟩ : Fin 128) = ⟨0 + l.val, by omega⟩ from Fin.ext (Nat.zero_add _).symm]
  exact row_hit _ _ 0 (h0 0) (h0 1) _ l _

/-- Places 8–15 of the packed row are the noise biases. -/
theorem pack_bn (l : Fin 8) :
    (StableHlo.after hostOps0 V (Proc.devRef .tc main_v14) : S1x128.Idx → EReal) (ix2 0 ⟨8 + l.val, by omega⟩)
      = (V (Proc.devRef .tc main_arg4) : S8.Idx → EReal) (ix1 l) := by
  have h1 := at_second V
  revert h1
  after_reads_simp
  intro h1
  exact row_hit _ _ 8 (h1 0) (h1 1) _ l _

theorem w1_eq (e : Fin 8) (d : Fin 768) (k : Fin 3072) :
    (StableHlo.after hostOps1 V (Proc.devRef .tc main_v25) : S8x768x3072.Idx → EReal) (ix3 e d k)
      = (V (Proc.devRef .tc main_arg5) : S8x768x3072.Idx → EReal) (ix3 e d k) := by
  after_reads_at

theorem w2_eq (e : Fin 8) (d : Fin 3072) (k : Fin 768) :
    (StableHlo.after hostOps1 V (Proc.devRef .tc main_v26) : S8x3072x768.Idx → EReal) (ix3 e d k)
      = (V (Proc.devRef .tc main_arg7) : S8x3072x768.Idx → EReal) (ix3 e d k) := by
  after_reads_at

theorem b1_eq (e : Fin 8) (k : Fin 3072) :
    (StableHlo.after hostOps1 V (Proc.devRef .tc main_v27) : S8x1x3072.Idx → EReal) (ix3 e 0 k)
      = (V (Proc.devRef .tc main_arg6) : S8x3072.Idx → EReal) (ix2 e k) := by
  after_reads_at

theorem b2_eq (e : Fin 8) (k : Fin 768) :
    (StableHlo.after hostOps1 V (Proc.devRef .tc main_v28) : S8x1x768.Idx → EReal) (ix3 e 0 k)
      = (V (Proc.devRef .tc main_arg8) : S8x768.Idx → EReal) (ix2 e k) := by
  after_reads_at

theorem u_eq (r : Fin 2048) (l : Fin 8) :
    (StableHlo.after hostOps0_2 V (Proc.devRef .tc main_v23) : S2048x8.Idx → EReal) (ix2 r l)
      = (V (Proc.devRef .tc main_v22) : S1x2048x8.Idx → EReal) (ix3 0 r l) := by
  after_reads_at

theorem result_eq (r : Fin 2048) (d : Fin 768) :
    (StableHlo.after hostOps2 V (Proc.devRef .tc main_v30) : S1x2048x768.Idx → EReal) (ix3 0 r d)
      = (V (Proc.devRef .tc main_v29) : S2048x768.Idx → EReal) (ix2 r d) := by
  after_reads_at

end Cert.KernelHost

end
-- ==== Proof.Experts.lean ====
module

public import proofs.«01_k».proof.Proof.Expert

/-! What the second kernel leaves in its result array: the eight experts' outputs, each times its gate, summed. -/

@[expose] public section

set_option maxRecDepth 16384

noncomputable section

namespace Cert.Expert

open Idealize.ShloMosaic Idealize.ShloMosaic.Pointwise Idealize.ShloMosaic.Tactic Idealize.ShloMosaic.TcCoe
open Idealize.ShloMosaic.Pipeline (Dat)
open Cert.KernelIdeal Cert.KernelIdeal.Gen

variable (V : (c : Dev nD) → (b : Ref sig .tc) → Buf (Elt Ideal) ((c : Thread nD τ).loc b)) (c : Dev nD)

/-- Expert `e`'s share of the result at `y`, over the arrays the kernel reads. -/
def share (X : S2048x768.Idx → EReal) (W1 : S8x768x3072.Idx → EReal) (B1 : S8x1x3072.Idx → EReal) (W2 : S8x3072x768.Idx → EReal)
    (B2 : S8x1x768.Idx → EReal) (G : S2048x8.Idx → EReal) (e : Fin 8) (y : S2048x768.Idx) : EReal :=
  cell (fun d => X (ix2 (y 0) d)) (fun d k => W1 (ix3 e d k)) (fun k => B1 (ix3 e 0 k)) (fun k j => W2 (ix3 e k j))
    (fun j => B2 (ix3 e 0 j)) (y 1) * G (ix2 (y 0) e)

/-- The share over the arrays held when the kernel starts. -/
abbrev shareAt (e : Fin 8) (y : S2048x768.Idx) : EReal :=
  share (V c main_v0) (V c main_v25) (V c main_v27) (V c main_v26) (V c main_v28) (V c main_v24) e y

/-- The number of the expert a grid point works on. -/
abbrev expertOf (t : Fin cfg1.N) : Fin 8 := grid1.coords t 0

theorem expertOf_val : ∀ t : Fin cfg1.N, (expertOf t).val = t.val :=
  (by decide +kernel : ∀ t : Fin grid1.N, ((grid1.coords t 0 : Fin 8)).val = t.val)

theorem index_whole : ∀ t : Fin cfg1.N, win1_0.index t 0 = 0 ∧ win1_0.index t 1 = 0 ∧ win1_5.index t 0 = 0 ∧ win1_5.index t 1 = 0
    ∧ win1_6.index t 0 = 0 ∧ win1_6.index t 1 = 0 :=
  (by decide +kernel : ∀ t : Fin grid1.N, win1_0.index t 0 = 0 ∧ win1_0.index t 1 = 0 ∧ win1_5.index t 0 = 0 ∧ win1_5.index t 1 = 0
    ∧ win1_6.index t 0 = 0 ∧ win1_6.index t 1 = 0)

theorem index_expert : ∀ t : Fin cfg1.N, (win1_1.index t 0 = (grid1.coords t 0).val ∧ win1_1.index t 1 = 0 ∧ win1_1.index t 2 = 0)
    ∧ (win1_2.index t 0 = (grid1.coords t 0).val ∧ win1_2.index t 1 = 0 ∧ win1_2.index t 2 = 0)
    ∧ (win1_3.index t 0 = (grid1.coords t 0).val ∧ win1_3.index t 1 = 0 ∧ win1_3.index t 2 = 0)
    ∧ (win1_4.index t 0 = (grid1.coords t 0).val ∧ win1_4.index t 1 = 0 ∧ win1_4.index t 2 = 0) :=
  (by decide +kernel : ∀ t : Fin grid1.N, (win1_1.index t 0 = (grid1.coords t 0).val ∧ win1_1.index t 1 = 0 ∧ win1_1.index t 2 = 0)
    ∧ (win1_2.index t 0 = (grid1.coords t 0).val ∧ win1_2.index t 1 = 0 ∧ win1_2.index t 2 = 0)
    ∧ (win1_3.index t 0 = (grid1.coords t 0).val ∧ win1_3.index t 1 = 0 ∧ win1_3.index t 2 = 0)
    ∧ (win1_4.index t 0 = (grid1.coords t 0).val ∧ win1_4.index t 1 = 0 ∧ win1_4.index t 2 = 0))

theorem rows_x (t : Fin cfg1.N) (r : Fin 2048) (d : Fin 768) :
    (iblk1 V c 0 t : Vec Ideal S2048x768 .f32) (ix2 r d) = V c main_v0 (ix2 r d) := by
  unfold iblk1
  rw [View.read_apply]
  show V c main_v0 _ = _
  congr 1
  funext a
  apply Fin.ext
  match a with
  | ⟨0, _⟩ => show win1_0.index t 0 * 2048 + 1 * r.val = r.val; rw [(index_whole t).1]; omega
  | ⟨1, _⟩ => show win1_0.index t 1 * 768 + 1 * d.val = d.val; rw [(index_whole t).2.1]; omega

theorem rows_g (t : Fin cfg1.N) (r : Fin 2048) (d : Fin 8) :
    (iblk1 V c 5 t : Vec Ideal S2048x8 .f32) (ix2 r d) = V c main_v24 (ix2 r d) := by
  unfold iblk1
  rw [View.read_apply]
  show V c main_v24 _ = _
  congr 1
  funext a
  apply Fin.ext
  match a with
  | ⟨0, _⟩ => show win1_5.index t 0 * 2048 + 1 * r.val = r.val; rw [(index_whole t).2.2.1]; omega
  | ⟨1, _⟩ => show win1_5.index t 1 * 8 + 1 * d.val = d.val; rw [(index_whole t).2.2.2.1]; omega

theorem block_w1 (t : Fin cfg1.N) (d : Fin 768) (k : Fin 3072) :
    (iblk1 V c 1 t : Vec Ideal S1x768x3072 .bf16) (ix3 0 d k) = V c main_v25 (ix3 (expertOf t) d k) := by
  unfold iblk1
  rw [View.read_apply]
  show V c main_v25 _ = _
  congr 1
  funext a
  apply Fin.ext
  match a with
  | ⟨0, _⟩ => show win1_1.index t 0 * 1 + 1 * 0 = (grid1.coords t 0).val; rw [(index_expert t).1.1]; omega
  | ⟨1, _⟩ => show win1_1.index t 1 * 768 + 1 * d.val = d.val; rw [(index_expert t).1.2.1]; omega
  | ⟨2, _⟩ => show win1_1.index t 2 * 3072 + 1 * k.val = k.val; rw [(index_expert t).1.2.2]; omega

theorem block_b1 (t : Fin cfg1.N) (k : Fin 3072) :
    (iblk1 V c 2 t : Vec Ideal S1x1x3072 .f32) (ix3 0 0 k) = V c main_v27 (ix3 (expertOf t) 0 k) := by
  unfold iblk1
  rw [View.read_apply]
  show V c main_v27 _ = _
  congr 1
  funext a
  apply Fin.ext
  match a with
  | ⟨0, _⟩ => show win1_2.index t 0 * 1 + 1 * 0 = (grid1.coords t 0).val; rw [(index_expert t).2.1.1]; omega
  | ⟨1, _⟩ => show win1_2.index t 1 * 1 + 1 * 0 = 0; rw [(index_expert t).2.1.2.1]
  | ⟨2, _⟩ => show win1_2.index t 2 * 3072 + 1 * k.val = k.val; rw [(index_expert t).2.1.2.2]; omega

theorem block_w2 (t : Fin cfg1.N) (k : Fin 3072) (j : Fin 768) :
    (iblk1 V c 3 t : Vec Ideal S1x3072x768 .bf16) (ix3 0 k j) = V c main_v26 (ix3 (expertOf t) k j) := by
  unfold iblk1
  rw [View.read_apply]
  show V c main_v26 _ = _
  congr 1
  funext a
  apply Fin.ext
  match a with
  | ⟨0, _⟩ => show win1_3.index t 0 * 1 + 1 * 0 = (grid1.coords t 0).val; rw [(index_expert t).2.2.1.1]; omega
  | ⟨1, _⟩ => show win1_3.index t 1 * 3072 + 1 * k.val = k.val; rw [(index_expert t).2.2.1.2.1]; omega
  | ⟨2, _⟩ => show win1_3.index t 2 * 768 + 1 * j.val = j.val; rw [(index_expert t).2.2.1.2.2]; omega

theorem block_b2 (t : Fin cfg1.N) (j : Fin 768) :
    (iblk1 V c 4 t : Vec Ideal S1x1x768 .f32) (ix3 0 0 j) = V c main_v28 (ix3 (expertOf t) 0 j) := by
  unfold iblk1
  rw [View.read_apply]
  show V c main_v28 _ = _
  congr 1
  funext a
  apply Fin.ext
  match a with
  | ⟨0, _⟩ => show win1_4.index t 0 * 1 + 1 * 0 = (grid1.coords t 0).val; rw [(index_expert t).2.2.2.1]; omega
  | ⟨1, _⟩ => show win1_4.index t 1 * 1 + 1 * 0 = 0; rw [(index_expert t).2.2.2.2.1]
  | ⟨2, _⟩ => show win1_4.index t 2 * 768 + 1 * j.val = j.val; rw [(index_expert t).2.2.2.2.2]; omega

/-- A point adds its expert's share. -/
theorem added_eq (t : Fin cfg1.N) (xo : Vec Ideal S2048x768 .f32) :
    added (grid1.coords t) (iblk1 V c 0 t) (iblk1 V c 1 t) (iblk1 V c 2 t) (iblk1 V c 3 t) (iblk1 V c 4 t) (iblk1 V c 5 t) xo
      = fun y => xo y + shareAt V c (expertOf t) y := by
  funext y
  unfold added shareAt share
  simp only [rows_x, block_w1, block_b1, block_w2, block_b2]
  rw [rows_g V c t (y 0) (grid1.coords t 0), funext fun d => rows_x V c t (y 0) d]

/-- The sum of the first `n + 1` experts' shares. -/
def upTo (n : Nat) (y : S2048x768.Idx) : EReal := ∑ k ∈ Finset.range (n + 1), if h : k < 8 then shareAt V c ⟨k, h⟩ y else 0

theorem share_point (t : Fin cfg1.N) (y : S2048x768.Idx) :
    shareAt V c (expertOf t) y = if h : t.val < 8 then shareAt V c ⟨t.val, h⟩ y else 0 := by
  have h : t.val < 8 := lt_of_lt_of_eq t.isLt (show cfg1.N = 8 from N_1)
  rw [dif_pos h, show expertOf t = ⟨t.val, h⟩ from Fin.ext (expertOf_val t)]

/-- After a point the block holds the shares of the experts up to that point. -/
theorem outsAt_eq : ∀ (n : ℕ) (h : n < cfg1.N), outsAt1 V c n h = upTo V c n
  | 0, h => by
    rw [outsAt1_A V c ⟨0, h⟩ rfl, out_A, added_eq]
    funext y
    show (0 : EReal) + _ = _
    unfold upTo
    rw [Finset.sum_range_succ, Finset.sum_range_zero, share_point]
  | n + 1, h => by
    have hN : cfg1.N = 8 := N_1
    have hB : ¬(⟨n + 1, h⟩ : Fin cfg1.N).val % 8 = 0 := by dsimp only; omega
    rw [outsAt1_B V c ⟨n + 1, h⟩ hB, out_B, added_eq]
    funext y
    show outsAt1 V c n _ y + _ = _
    rw [outsAt_eq n, share_point]
    unfold upTo
    exact (Finset.sum_range_succ _ _).symm

/-- All eight shares. -/
def total : S2048x768.Idx → EReal := fun y => ∑ e : Fin 8, shareAt V c e y

theorem upTo_last : upTo V c 7 = total V c := by
  funext y
  unfold upTo total
  exact (Finset.sum_fin_eq_sum_range fun e => shareAt V c e y).symm

theorem flushed_eq (t : Fin cfg1.N) (hf : (cfg1.win 6).flush t = true) :
    (dat1 V c).flushed 6 t = ((cfg1.win 6).blk t).view.read (Elt Ideal) (total V c) := by
  have h7 : t.val = 7 := by
    have hN : cfg1.N = 8 := N_1
    have := (flush1_6 t).mp hf; have := t.isLt; omega
  show (cfg1.win 6).cut (grid1.coords t) ((dat1 V c).after 6 t) = _
  rw [after1_6, outsAt_eq, h7, upTo_last]
  have hz' : (fun a => win1_6.index t a * main_v29.ty.shape.size a) = fun _ => 0 := funext fun a => by
    have h := index_whole t
    match a with
    | ⟨0, _⟩ => show win1_6.index t 0 * _ = 0; rw [h.2.2.2.2.1, Nat.zero_mul]
    | ⟨1, _⟩ => show win1_6.index t 1 * _ = 0; rw [h.2.2.2.2.2, Nat.zero_mul]
  exact (Memref.read_access_unit_zero (Elt Ideal) main_v29 hz' (fun a => by rw [congrFun hz' a]; simp) (total V c)).symm

/-- The second kernel leaves the sum of all eight experts' shares. -/
theorem final_eq : (dat1 V c).arrAt 6 cfg1.N = total V c :=
  (dat1 V c).arrAt_eq_of_cover 6 (total V c) (flushed_eq V c) fun i =>
    ⟨⟨7, by rw [show cfg1.N = 8 from N_1]; decide⟩, (flush1_6 _).mpr rfl, by
      generalize (⟨7, _⟩ : Fin cfg1.N) = t
      show i ∈ ((View.whole main_v29).slice (win1_6.rect t)).set
      rw [View.set_slice_whole, Rect.mem_set_unit]
      intro a
      have h0 : (i 0 : Nat) < 2048 := (i 0).isLt
      have h1 : (i 1 : Nat) < 768 := (i 1).isLt
      have h := index_whole t
      match a with
      | ⟨0, _⟩ => show win1_6.index t 0 * 2048 ≤ (i 0 : Nat) ∧ (i 0 : Nat) < win1_6.index t 0 * 2048 + 2048
                  rw [h.2.2.2.2.1]; omega
      | ⟨1, _⟩ => show win1_6.index t 1 * 768 ≤ (i 1 : Nat) ∧ (i 1 : Nat) < win1_6.index t 1 * 768 + 768
                  rw [h.2.2.2.2.2]; omega⟩

end Cert.Expert

end
-- ==== Proof.KernelValue.lean ====
module

public import proofs.«01_k».proof.Proof.KernelRun
public import proofs.«01_k».proof.Proof.KernelHost
public import proofs.«01_k».proof.Proof.Experts
public import proofs.«01_k».proof.Proof.RefValue

/-! What the kernel returns, over the arguments it was launched with. -/

@[expose] public section

set_option maxRecDepth 16384

noncomputable section

namespace Cert.KernelValue

open Idealize.ShloMosaic Idealize.ShloMosaic.Pointwise Idealize.ShloMosaic.Tactic Idealize.ShloMosaic.TcCoe
open Cert.KernelIdeal Cert.KernelIdeal.Gen Cert.Gate Cert.Expert Cert.KernelHost

variable (m : (ℓ : Loc nD τ sig) → Buf (Elt Ideal) ℓ) (ρ : Dev nD → PrngReg) (c : Dev nD)

/-- The noise the kernel's host code draws. -/
def noise : S1x2048x8.Idx → EReal := W2 m ρ c (Proc.devRef .tc main_v22)

/-- The noisy logits over the arguments, with the noise `U`. -/
def logits (U : S1x2048x8.Idx → EReal) (r : Fin 2048) (l : Fin 8) : EReal :=
  RefValue.affine (m ((c.tc : Thread nD τ).loc main_arg0)) (m ((c.tc : Thread nD τ).loc main_arg1)) (m ((c.tc : Thread nD τ).loc main_arg2)) r l
    + Router.softplus (RefValue.affine (m ((c.tc : Thread nD τ).loc main_arg0)) (m ((c.tc : Thread nD τ).loc main_arg3))
        (m ((c.tc : Thread nD τ).loc main_arg4)) r l) * U (ix3 0 r l)

/-- The row of noisy logits the first kernel works out. -/
abbrev row (r : Fin 2048) : Fin 8 → EReal :=
  Router.row (W3 m ρ c (Proc.devRef .tc main_v0)) (W3 m ρ c (Proc.devRef .tc main_v5)) (W3 m ρ c (Proc.devRef .tc main_v14))
    (W3 m ρ c (Proc.devRef .tc main_v23)) r

/-- The buffers the first stretch of host code wrote are the first kernel's. -/
theorem early (b : Ref sig .tc) (h1 : b ∉ hostOps0_1_W) (h2 : b ∉ hostOps0_2_W) :
    W3 m ρ c (Proc.devRef .tc b) = W1 m ρ c (Proc.devRef .tc b) :=
  (W3_of m ρ c b h2).trans (W2_of m ρ c b h1)

/-- So are the tokens, the packed matrix and the packed row. -/
theorem v0_eq : W3 m ρ c (Proc.devRef .tc main_v0) = W1 m ρ c (Proc.devRef .tc main_v0) :=
  early m ρ c _ (by decide +kernel) (by decide +kernel)
theorem v5_eq : W3 m ρ c (Proc.devRef .tc main_v5) = W1 m ρ c (Proc.devRef .tc main_v5) :=
  early m ρ c _ (by decide +kernel) (by decide +kernel)
theorem v14_eq : W3 m ρ c (Proc.devRef .tc main_v14) = W1 m ρ c (Proc.devRef .tc main_v14) :=
  early m ρ c _ (by decide +kernel) (by decide +kernel)

/-- They are the noisy logits over the arguments. -/
theorem row_eq (r : Fin 2048) : row m ρ c r = logits m c (noise m ρ c) r := by
  funext l
  unfold row
  rw [v0_eq, v5_eq, v14_eq]
  refine (Router.row_eq _ _ _ _ (m ((c.tc : Thread nD τ).loc main_arg1)) (m ((c.tc : Thread nD τ).loc main_arg2))
    (m ((c.tc : Thread nD τ).loc main_arg3)) (m ((c.tc : Thread nD τ).loc main_arg4))
    (fun d l => pack_wr (W0 m ρ c) d l) (fun l => pack_br (W0 m ρ c) l)
    (fun d l => pack_wn (W0 m ρ c) d l) (fun l => pack_bn (W0 m ρ c) l) r l).trans ?_
  have hx : ∀ d, (W1 m ρ c (Proc.devRef .tc main_v0) : S2048x768.Idx → EReal) (ix2 r d)
      = (m ((c.tc : Thread nD τ).loc main_arg0) : S1x2048x768.Idx → EReal) (ix3 0 r d) := fun d => x_eq (W0 m ρ c) r d
  have hu : (W3 m ρ c (Proc.devRef .tc main_v23) : S2048x8.Idx → EReal) (ix2 r l) = noise m ρ c (ix3 0 r l) := u_eq (W2 m ρ c) r l
  unfold Router.noisy logits RefValue.affine
  simp only [hx, hu]

/-- The arguments as the second stretch of host code finds them. -/
theorem arg_eq (a : Ref sig .tc) (h : a ∈ argRefs) : W4 m ρ c (Proc.devRef .tc a) = m ((c.tc : Thread nD τ).loc a) :=
  W4_args m ρ c a h

/-- The tokens as the second kernel finds them. -/
theorem tokens_eq (r : Fin 2048) (d : Fin 768) : (W5 m ρ c (Proc.devRef .tc main_v0) : S2048x768.Idx → EReal) (ix2 r d)
    = (m ((c.tc : Thread nD τ).loc main_arg0) : S1x2048x768.Idx → EReal) (ix3 0 r d) := by
  have h : W5 m ρ c (Proc.devRef .tc main_v0) = W1 m ρ c (Proc.devRef .tc main_v0) :=
    (W5_of m ρ c main_v0 (by decide +kernel)).trans ((W4_of m ρ c main_v0 (by decide +kernel)).trans (v0_eq m ρ c))
  exact (congrFun h _).trans (x_eq (W0 m ρ c) r d)

/-- The gates as the second kernel finds them. -/
theorem gates_eq : W5 m ρ c (Proc.devRef .tc main_v24) = Router.held (V3 m ρ) c :=
  (W5_of m ρ c main_v24 (by decide +kernel)).trans ((W4_arr m ρ c 4).trans (Router.final_eq (V3 m ρ) c))

/-- What the kernel returns. -/
theorem result {r : Fin 2048} {i j : Fin 8} (hi : Leads (row m ρ c r) i) (hj : Leads (without (row m ρ c r) i) j) (hji : j ≠ i)
    (d : Fin 768) :
    (W7 m ρ c (Proc.devRef .tc main_v30) : S1x2048x768.Idx → EReal) (ix3 0 r d)
      = RefValue.mixed (m ((c.tc : Thread nD τ).loc main_arg0)) (m ((c.tc : Thread nD τ).loc main_arg5))
          (m ((c.tc : Thread nD τ).loc main_arg6)) (m ((c.tc : Thread nD τ).loc main_arg7)) (m ((c.tc : Thread nD τ).loc main_arg8))
          (gate (row m ρ c r) i j) r d := by
  refine (result_eq (W6 m ρ c) r d).trans ?_
  refine (congrFun ((W6_arr m ρ c 6).trans (Expert.final_eq (V5 m ρ) c)) (ix2 r d)).trans ?_
  show (∑ e : Fin 8, shareAt (V5 m ρ) c e (ix2 r d)) = _
  unfold RefValue.mixed
  refine Finset.sum_congr rfl fun e _ => ?_
  unfold shareAt share
  have hx : ∀ d, (V5 m ρ c main_v0 : S2048x768.Idx → EReal) (ix2 r d)
      = (m ((c.tc : Thread nD τ).loc main_arg0) : S1x2048x768.Idx → EReal) (ix3 0 r d) := tokens_eq m ρ c r
  have h1 : ∀ d k, (V5 m ρ c main_v25 : S8x768x3072.Idx → EReal) (ix3 e d k)
      = (m ((c.tc : Thread nD τ).loc main_arg5) : S8x768x3072.Idx → EReal) (ix3 e d k) := fun d k =>
    (w1_eq (W4 m ρ c) e d k).trans (congrFun (arg_eq m ρ c main_arg5 (by decide)) _)
  have h2 : ∀ k, (V5 m ρ c main_v27 : S8x1x3072.Idx → EReal) (ix3 e 0 k)
      = (m ((c.tc : Thread nD τ).loc main_arg6) : S8x3072.Idx → EReal) (ix2 e k) := fun k =>
    (b1_eq (W4 m ρ c) e k).trans (congrFun (arg_eq m ρ c main_arg6 (by decide)) _)
  have h3 : ∀ k j, (V5 m ρ c main_v26 : S8x3072x768.Idx → EReal) (ix3 e k j)
      = (m ((c.tc : Thread nD τ).loc main_arg7) : S8x3072x768.Idx → EReal) (ix3 e k j) := fun k j =>
    (w2_eq (W4 m ρ c) e k j).trans (congrFun (arg_eq m ρ c main_arg7 (by decide)) _)
  have h4 : ∀ j, (V5 m ρ c main_v28 : S8x1x768.Idx → EReal) (ix3 e 0 j)
      = (m ((c.tc : Thread nD τ).loc main_arg8) : S8x768.Idx → EReal) (ix2 e j) := fun j =>
    (b2_eq (W4 m ρ c) e j).trans (congrFun (arg_eq m ρ c main_arg8 (by decide)) _)
  have hg : (V5 m ρ c main_v24 : S2048x8.Idx → EReal) (ix2 r e) = gate (row m ρ c r) i j e :=
    (congrFun (gates_eq m ρ c) (ix2 r e)).trans (Router.gate_cell hi hj hji e)
  show cell (fun d => (V5 m ρ c main_v0 : S2048x768.Idx → EReal) (ix2 r d)) _ _ _ _ d * (V5 m ρ c main_v24 : S2048x8.Idx → EReal) (ix2 r e) = _
  simp only [hx, h1, h2, h3, h4, hg]

end Cert.KernelValue

end
-- ==== Proof.Equation.lean ====
module

public import proofs.«01_k».proof.Proof.Finite
public import proofs.«01_k».proof.Proof.NoiseValue
public import proofs.«01_k».proof.Proof.KernelValue

/-! The equation: launched with the same arguments, the router's operands real, kernel and reference return the same array. -/

@[expose] public section

set_option maxRecDepth 16384

noncomputable section

namespace Cert.Equation

open Idealize.ShloMosaic Idealize.ShloMosaic.Pointwise Idealize.ShloMosaic.Tactic Idealize.ShloMosaic.TcCoe
open Cert.ReferenceIdeal Cert.ReferenceIdeal.Line Cert.Gate Cert.Finite Cert.RefValue

variable (m : (ℓ : Loc KernelIdeal.nD KernelIdeal.τ KernelIdeal.sig) → Buf (Elt Ideal) ℓ) (ρ : Dev KernelIdeal.nD → PrngReg)
  (m' : (ℓ : Loc nD τ sig) → Buf (Elt Ideal) ℓ) (c : Dev nD)

/-- The two launches hold the same arguments on device `c`. -/
structure Agree : Prop where
  a0 : m' ((c.tc : Thread nD τ).loc main_arg0) = m ((c.tc : Thread KernelIdeal.nD KernelIdeal.τ).loc KernelIdeal.main_arg0)
  a1 : m' ((c.tc : Thread nD τ).loc main_arg1) = m ((c.tc : Thread KernelIdeal.nD KernelIdeal.τ).loc KernelIdeal.main_arg1)
  a2 : m' ((c.tc : Thread nD τ).loc main_arg2) = m ((c.tc : Thread KernelIdeal.nD KernelIdeal.τ).loc KernelIdeal.main_arg2)
  a3 : m' ((c.tc : Thread nD τ).loc main_arg3) = m ((c.tc : Thread KernelIdeal.nD KernelIdeal.τ).loc KernelIdeal.main_arg3)
  a4 : m' ((c.tc : Thread nD τ).loc main_arg4) = m ((c.tc : Thread KernelIdeal.nD KernelIdeal.τ).loc KernelIdeal.main_arg4)
  a5 : m' ((c.tc : Thread nD τ).loc main_arg5) = m ((c.tc : Thread KernelIdeal.nD KernelIdeal.τ).loc KernelIdeal.main_arg5)
  a6 : m' ((c.tc : Thread nD τ).loc main_arg6) = m ((c.tc : Thread KernelIdeal.nD KernelIdeal.τ).loc KernelIdeal.main_arg6)
  a7 : m' ((c.tc : Thread nD τ).loc main_arg7) = m ((c.tc : Thread KernelIdeal.nD KernelIdeal.τ).loc KernelIdeal.main_arg7)
  a8 : m' ((c.tc : Thread nD τ).loc main_arg8) = m ((c.tc : Thread KernelIdeal.nD KernelIdeal.τ).loc KernelIdeal.main_arg8)

/-- The reference's contents after the logits and scales. -/
def scaled : Valuation τ sig (Elt Ideal) := StableHlo.after opsScale (StableHlo.launchContents m' c)
/-- And once the noise is drawn. -/
def drawn : Valuation τ sig (Elt Ideal) := StableHlo.after opsNoise (StableHlo.after opsKey (scaled m' c))

/-- What neither the key's operations nor the noise's write is as before. -/
theorem drawn_of (r : Ref sig .tc) (h₁ : r ∉ opsKey_W) (h₂ : r ∉ opsNoise_W) :
    drawn m' c (Proc.devRef .tc r) = scaled m' c (Proc.devRef .tc r) := by
  unfold drawn
  rw [StableHlo.after_of_writes_sub _ _ (StableHlo.forall_writes_sub_of_map opsNoise_writes) h₂,
    StableHlo.after_of_writes_sub _ _ (StableHlo.forall_writes_sub_of_map opsKey_writes) h₁]

/-- An argument is as launched. -/
theorem drawn_arg (r : Ref sig .tc) (h₁ : r ∉ opsKey_W) (h₂ : r ∉ opsNoise_W) (h₃ : r ∉ opsScale_W) :
    drawn m' c (Proc.devRef .tc r) = m' ((c.tc : Thread nD τ).loc r) :=
  (drawn_of m' c r h₁ h₂).trans (StableHlo.after_of_writes_sub _ _ (StableHlo.forall_writes_sub_of_map opsScale_writes) h₃)

variable {m ρ m' c}

/-- The two programs draw the same noise. -/
theorem noise_eq : (drawn m' c (Proc.devRef .tc main_v16) : S1x2048x8.Idx → EReal) = KernelValue.noise m ρ c :=
  (NoiseValue.same (KernelIdeal.Gen.W0 m ρ c) (scaled m' c)).symm

/-- The reference's row of noisy logits is the kernel's. -/
theorem row_eq (h : Agree m m' c) (r : Fin 2048) : RefValue.row (drawn m' c) r = KernelValue.row m ρ c r := by
  rw [KernelValue.row_eq]
  funext l
  have h3 : (drawn m' c (Proc.devRef .tc main_v3) : S1x2048x8.Idx → EReal) (ix3 0 r l)
      = affine (m' ((c.tc : Thread nD τ).loc main_arg0)) (m' ((c.tc : Thread nD τ).loc main_arg1)) (m' ((c.tc : Thread nD τ).loc main_arg2)) r l :=
    (congrFun (drawn_of m' c main_v3 (by decide +kernel) (by decide +kernel)) _).trans (logit_eq (StableHlo.launchContents m' c) r l)
  have h8 : (drawn m' c (Proc.devRef .tc main_v8) : S1x2048x8.Idx → EReal) (ix3 0 r l)
      = Router.softplus (affine (m' ((c.tc : Thread nD τ).loc main_arg0)) (m' ((c.tc : Thread nD τ).loc main_arg3))
          (m' ((c.tc : Thread nD τ).loc main_arg4)) r l) :=
    (congrFun (drawn_of m' c main_v8 (by decide +kernel) (by decide +kernel)) _).trans (scale_eq (StableHlo.launchContents m' c) r l)
  unfold RefValue.row RefValue.noisy KernelValue.logits
  rw [h3, h8, noise_eq (m := m) (ρ := ρ), h.a0, h.a1, h.a2, h.a3, h.a4]

/-- The row of noisy logits is real where the router's operands are. -/
theorem row_real (hp : Pre_KernelIdeal_router_finite m) (h : Agree m m' c) (r : Fin 2048) :
    ∃ g : Fin 8 → ℝ, RefValue.row (drawn m' c) r = fun l => (g l : EReal) := by
  obtain ⟨r0, r1, r2, r3, r4⟩ := operands_real hp c
  have hr : ∀ l, IsReal (RefValue.row (drawn m' c) r l) := by
    intro l
    rw [row_eq (ρ := fun _ => default) h, KernelValue.row_eq]
    refine IsReal.add (affine_real r0 r1 r2 r l) (IsReal.mul (affine_real r0 r3 r4 r l).softplus ?_)
    rw [← noise_eq (m' := m')]
    exact NoiseValue.noise_real (scaled m' c) r l
  choose g hg using hr
  exact ⟨g, funext hg⟩

/-- Kernel and reference return the same array. -/
theorem result_eq (hp : Pre_KernelIdeal_router_finite m) (h : Agree m m' c) :
    (final m' c (Proc.devRef .tc main_v48) : S1x2048x768.Idx → EReal)
      = KernelIdeal.Gen.W7 m ρ c (Proc.devRef .tc KernelIdeal.main_v30) := by
  funext y
  obtain ⟨r, d, rfl⟩ : ∃ r d, y = ix3 0 r d := ⟨y 1, y 2, by
    funext a
    match a with
    | ⟨0, _⟩ => exact Subsingleton.elim (α := Fin 1) _ _
    | ⟨1, _⟩ => rfl
    | ⟨2, _⟩ => rfl⟩
  obtain ⟨g, hg⟩ := row_real hp h r
  obtain ⟨i, hi⟩ := exists_leads (RefValue.row (drawn m' c) r)
  obtain ⟨j, hj⟩ := exists_leads (without (RefValue.row (drawn m' c) r) i)
  have hji : j ≠ i := second_ne (fun l => by rw [hg]; exact EReal.coe_ne_bot _) hj
  have hR := rest_eq hg hi hj d
  have hK := KernelValue.result m ρ c (row_eq (ρ := ρ) h r ▸ hi) (row_eq (ρ := ρ) h r ▸ hj) hji d
  refine hR.trans (Eq.trans ?_ hK.symm)
  rw [row_eq (ρ := ρ) h r, drawn_arg m' c main_arg0 (by decide +kernel) (by decide +kernel) (by decide +kernel),
    drawn_arg m' c main_arg5 (by decide +kernel) (by decide +kernel) (by decide +kernel),
    drawn_arg m' c main_arg6 (by decide +kernel) (by decide +kernel) (by decide +kernel),
    drawn_arg m' c main_arg7 (by decide +kernel) (by decide +kernel) (by decide +kernel),
    drawn_arg m' c main_arg8 (by decide +kernel) (by decide +kernel) (by decide +kernel), h.a0, h.a5, h.a6, h.a7, h.a8]

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefOps
public import proofs.«01_k».proof.Proof.Equation
public import Idealize.ShloMosaic.Adequacy
public import Idealize.ShloMosaic.Init

/-! The certificate: all three programs run and leave their arguments, and over the reals kernel and reference return the
same array. -/

@[expose] public section

noncomputable section

namespace Cert.Proof

open Idealize.ShloMosaic Idealize.SL.Sem

/-- Launched with the same arguments, the router's operands finite, kernel and reference end with equal results. -/
theorem algebraic : algebraic_KernelIdeal_ReferenceIdeal_pre_router_finite := by
  intro m g m' g' hp hagree
  have hA : ∀ c, Cert.Equation.Agree m m' c := fun c => by
    obtain ⟨h0, h1, h2, h3, h4, h5, h6, h7, h8⟩ := hagree c
    exact ⟨h0, h1, h2, h3, h4, h5, h6, h7, h8⟩
  refine ⟨fun c => Cert.KernelIdeal.Gen.W7 m g c (Proc.devRef .tc Cert.KernelIdeal.main_v30), Cert.KernelIdeal.Run.run m g, ?_⟩
  refine θ_run_mono (Cert.ReferenceIdeal.Line.run m' g') fun r h c => ⟨?_, ?_⟩
  · exact (h c Cert.ReferenceIdeal.main_v48).trans (Cert.Equation.result_eq hp (hA c))
  · refine ⟨?_, ?_, ?_, ?_, ?_, ?_, ?_, ?_, ?_⟩ <;>
      exact (h c _).trans (Cert.ReferenceIdeal.Line.final_unwritten m' c (by decide +kernel) (by decide +kernel)
        (by decide +kernel) (by decide +kernel))

/-- Every claim, with the side conditions of the programs and of the precondition. -/
theorem claim : Cert.Claim := ⟨Cert.Kernel.Gen.facts, Cert.KernelIdeal.Gen.facts, Cert.ReferenceIdeal.Gen.facts, Cert.Finite.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Line.run_quiet m ρ,
  fun m ρ _ => Cert.ReferenceIdeal.Line.run_quiet m ρ,
  trivial,
  algebraic⟩

end Cert.Proof

end
